-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 4096, 4096]⟩ ⟨3, ![2, 4096, 4096]⟩ (Layout.meshBlock [2, 2, 2] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14_0) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v14) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x4096x4096 : Shape := ⟨3, ![1, 4096, 4096]⟩
abbrev S4096x4096 : Shape := ⟨2, ![4096, 4096]⟩
abbrev S4096 : Shape := ⟨1, ![4096]⟩
abbrev S_ : Shape := ⟨0, ![]⟩
abbrev S1 : Shape := ⟨1, ![1]⟩
abbrev S1024x4096 : Shape := ⟨2, ![1024, 4096]⟩
abbrev S1x128x4096 : Shape := ⟨3, ![1, 128, 4096]⟩
abbrev S128x4096 : Shape := ⟨2, ![128, 4096]⟩
abbrev S1x4096 : Shape := ⟨2, ![1, 4096]⟩
abbrev S4x256x4096 : Shape := ⟨3, ![4, 256, 4096]⟩
abbrev S2x128x4096 : Shape := ⟨3, ![2, 128, 4096]⟩
abbrev S4 : Shape := ⟨1, ![4]⟩
abbrev S2 : Shape := ⟨1, ![2]⟩
abbrev S1x256x4096 : Shape := ⟨3, ![1, 256, 4096]⟩
abbrev S256x4096 : Shape := ⟨2, ![256, 4096]⟩
abbrev S128 : Shape := ⟨1, ![128]⟩
abbrev S128x1 : Shape := ⟨2, ![128, 1]⟩

abbrev nBuf : Space → Nat
  | .hbm => 22
  | .vmem => 11
  | .smem => 1
  | _ => 0

abbrev bufTy : (tb : Table) → Fin (tcTables nBuf tb) → BufTy
  | .hbm, ⟨0, _⟩ => ⟨S1x4096x4096, .f32⟩
  | .hbm, ⟨1, _⟩ => ⟨S4096x4096, .f32⟩
  | .hbm, ⟨2, _⟩ => ⟨S4096, .f32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S1024x4096, .bf16⟩
  | .hbm, ⟨19, _⟩ => ⟨S1x4096, .f32⟩
  | .hbm, ⟨20, _⟩ => ⟨S4096x4096, .f32⟩
  | .hbm, ⟨21, _⟩ => ⟨S4096x4096, .bf16⟩
  | .local _ .vmem, ⟨0, _⟩ => ⟨S1x128x4096, .f32⟩
  | .local _ .vmem, ⟨1, _⟩ => ⟨S1x128x4096, .f32⟩
  | .local _ .vmem, ⟨2, _⟩ => ⟨S128x4096, .bf16⟩
  | .local _ .vmem, ⟨3, _⟩ => ⟨S128x4096, .bf16⟩
  | .local _ .vmem, ⟨4, _⟩ => ⟨S4x256x4096, .bf16⟩
  | .local _ .vmem, ⟨5, _⟩ => ⟨S1x4096, .f32⟩
  | .local _ .vmem, ⟨6, _⟩ => ⟨S2x128x4096, .f32⟩
  | .local _ .vmem, ⟨7, _⟩ => ⟨S2x128x4096, .f32⟩
  | .local _ .vmem, ⟨8, _⟩ => ⟨S2x128x4096, .bf16⟩
  | .local _ .vmem, ⟨9, _⟩ => ⟨S2x128x4096, .bf16⟩
  | .local _ .vmem, ⟨10, _⟩ => ⟨S2x128x4096, .f32⟩
  | .local _ .smem, ⟨0, _⟩ => ⟨S1, .i32⟩
  | _, _ => ⟨S1x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 55 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | _ => false

abbrev sig : RefSig :=
  (ofTc nBuf bufTy 1 55 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c_1 : Ref sig .tc := ⟨.hbm, 9, rfl⟩
abbrev main_c_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_3 : Ref sig .tc := ⟨.hbm, 15, rfl⟩
abbrev main_v9 : Ref sig .tc := ⟨.hbm, 16, rfl⟩
abbrev main_v10 : Ref sig .tc := ⟨.hbm, 17, rfl⟩
abbrev main_v12 : Ref sig .tc := ⟨.hbm, 18, rfl⟩
abbrev main_v13 : Ref sig .tc := ⟨.hbm, 19, rfl⟩
abbrev main_v14_0 : Ref sig .tc := ⟨.hbm, 20, rfl⟩
abbrev main_v14_1 : Ref sig .tc := ⟨.hbm, 21, rfl⟩
abbrev main_v11 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_scratch0 : Ref sig .tc := ⟨.vmem, 4, rfl⟩
abbrev cc1_scratch1 : Ref sig .tc := ⟨.vmem, 5, rfl⟩
abbrev cc1_scratch2 : Ref sig .tc := ⟨.vmem, 6, rfl⟩
abbrev cc1_scratch3 : Ref sig .tc := ⟨.vmem, 7, rfl⟩
abbrev cc1_scratch4 : Ref sig .tc := ⟨.vmem, 8, rfl⟩
abbrev cc1_scratch5 : Ref sig .tc := ⟨.vmem, 9, rfl⟩
abbrev cc1_scratch6 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev barrier0 : Sem sig := 0

abbrev nD : Nat := 8
abbrev τ : Topo := Topo.v7x

variable {F : FTy → Type} [FloatOps F]

abbrev grid0 : Pipeline.Grid := ⟨1, ![8], ![false]⟩

abbrev pre0 : Pipeline.Prefetch sig := ⟨1, ![main_v11.idx], fun | 0 => main_v11.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c8_i32 : BitVec 32 := 8#32
  let v1 : BitVec 32 := Scalar.muli v0 c8_i32
  let v2 : BitVec 32 := Scalar.addi v1 arg0
  let c0_i32 : BitVec 32 := 0#32
  let c0_i32_0 : BitVec 32 := 0#32
  let c0_i32_1 : BitVec 32 := 0#32
  ![c0_i32.toNat, v2.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := .none

def k1_dev1 (d0 : Dev nD) : Nat :=
  let c0_i32 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_18 : BitVec 32 := 4#32
  let v29 : BitVec 32 := Scalar.muli v10 c4_i32_18
  let v30 : BitVec 32 := Scalar.addi c0_i32 v29
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_19 : BitVec 32 := 2#32
  let v31 : BitVec 32 := Scalar.muli v5 c2_i32_19
  let v32 : BitVec 32 := Scalar.addi v30 v31
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_20 : BitVec 32 := 1#32
  let v33 : BitVec 32 := Scalar.muli v8 c1_i32_20
  let v34 : BitVec 32 := Scalar.addi v32 v33
  v34.toNat
def k1_dev2 (d0 : Dev nD) : Nat :=
  let c0_i32_23 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_22 : BitVec 32 := 4#32
  let v35 : BitVec 32 := Scalar.muli v2 c4_i32_22
  let v36 : BitVec 32 := Scalar.addi c0_i32_23 v35
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_24 : BitVec 32 := 2#32
  let v37 : BitVec 32 := Scalar.muli v9 c2_i32_24
  let v38 : BitVec 32 := Scalar.addi v36 v37
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_25 : BitVec 32 := 1#32
  let v39 : BitVec 32 := Scalar.muli v8 c1_i32_25
  let v40 : BitVec 32 := Scalar.addi v38 v39
  v40.toNat
def k1_dev3 (d0 : Dev nD) : Nat :=
  let c0_i32_28 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_27 : BitVec 32 := 4#32
  let v41 : BitVec 32 := Scalar.muli v2 c4_i32_27
  let v42 : BitVec 32 := Scalar.addi c0_i32_28 v41
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_29 : BitVec 32 := 2#32
  let v43 : BitVec 32 := Scalar.muli v5 c2_i32_29
  let v44 : BitVec 32 := Scalar.addi v42 v43
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_30 : BitVec 32 := 1#32
  let v45 : BitVec 32 := Scalar.muli v11 c1_i32_30
  let v46 : BitVec 32 := Scalar.addi v44 v45
  v46.toNat
def k1_dev4 (d0 : Dev nD) : Nat :=
  let c0_i32_35 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_34 : BitVec 32 := 4#32
  let v47 : BitVec 32 := Scalar.muli v2 c4_i32_34
  let v48 : BitVec 32 := Scalar.addi c0_i32_35 v47
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_36 : BitVec 32 := 2#32
  let v49 : BitVec 32 := Scalar.muli v9 c2_i32_36
  let v50 : BitVec 32 := Scalar.addi v48 v49
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_37 : BitVec 32 := 1#32
  let v51 : BitVec 32 := Scalar.muli v8 c1_i32_37
  let v52 : BitVec 32 := Scalar.addi v50 v51
  v52.toNat
def k1_dev5 (d0 : Dev nD) : Nat :=
  let c0_i32_46 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_45 : BitVec 32 := 4#32
  let v60 : BitVec 32 := Scalar.muli v2 c4_i32_45
  let v61 : BitVec 32 := Scalar.addi c0_i32_46 v60
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_47 : BitVec 32 := 2#32
  let v62 : BitVec 32 := Scalar.muli v9 c2_i32_47
  let v63 : BitVec 32 := Scalar.addi v61 v62
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_48 : BitVec 32 := 1#32
  let v64 : BitVec 32 := Scalar.muli v8 c1_i32_48
  let v65 : BitVec 32 := Scalar.addi v63 v64
  v65.toNat
def k1_dev6 (d0 : Dev nD) : Nat :=
  let c0_i32_56 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_55 : BitVec 32 := 4#32
  let v73 : BitVec 32 := Scalar.muli v2 c4_i32_55
  let v74 : BitVec 32 := Scalar.addi c0_i32_56 v73
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_57 : BitVec 32 := 2#32
  let v75 : BitVec 32 := Scalar.muli v9 c2_i32_57
  let v76 : BitVec 32 := Scalar.addi v74 v75
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_58 : BitVec 32 := 1#32
  let v77 : BitVec 32 := Scalar.muli v8 c1_i32_58
  let v78 : BitVec 32 := Scalar.addi v76 v77
  v78.toNat
def k1_dev7 (d0 : Dev nD) : Nat :=
  let c0_i32_66 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_65 : BitVec 32 := 4#32
  let v86 : BitVec 32 := Scalar.muli v2 c4_i32_65
  let v87 : BitVec 32 := Scalar.addi c0_i32_66 v86
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_67 : BitVec 32 := 2#32
  let v88 : BitVec 32 := Scalar.muli v9 c2_i32_67
  let v89 : BitVec 32 := Scalar.addi v87 v88
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_68 : BitVec 32 := 1#32
  let v90 : BitVec 32 := Scalar.muli v8 c1_i32_68
  let v91 : BitVec 32 := Scalar.addi v89 v90
  v91.toNat
def k1_off1 (d0 : Dev nD) (c0_i32_72 : BitVec 32) : Fin 3 → Nat :=
  let c0_i32_73 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_6 : BitVec 32 := 2#32
  let v12 : BitVec 32 := Scalar.muli v2 c2_i32_6
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c1024_i32 : BitVec 32 := 1024#32
  let v14 : BitVec 32 := Scalar.muli v13 c1024_i32
  let v99 : BitVec 32 := Scalar.addi v14 c0_i32_72
  let c0_i32_78 : BitVec 32 := 0#32
  ![0, v99.toNat, 0]
def k1_off2 (d0 : Dev nD) (c0_i32_72 : BitVec 32) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_6 : BitVec 32 := 2#32
  let v12 : BitVec 32 := Scalar.muli v2 c2_i32_6
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c1024_i32 : BitVec 32 := 1024#32
  let v14 : BitVec 32 := Scalar.muli v13 c1024_i32
  let v99 : BitVec 32 := Scalar.addi v14 c0_i32_72
  let c0_i32_83 : BitVec 32 := 0#32
  ![v99.toNat, 0]
def k1_off3 (d0 : Dev nD) (c0_i32_221 : BitVec 32) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_6 : BitVec 32 := 2#32
  let v12 : BitVec 32 := Scalar.muli v2 c2_i32_6
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c1024_i32 : BitVec 32 := 1024#32
  let v14 : BitVec 32 := Scalar.muli v13 c1024_i32
  let v271 : BitVec 32 := Scalar.addi v14 c0_i32_221
  let c0_i32_230 : BitVec 32 := 0#32
  ![v271.toNat, 0]
def k1_dev8 (d0 : Dev nD) : Nat :=
  let c0_i32_227 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_226 : BitVec 32 := 4#32
  let v274 : BitVec 32 := Scalar.muli v10 c4_i32_226
  let v275 : BitVec 32 := Scalar.addi c0_i32_227 v274
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_228 : BitVec 32 := 2#32
  let v276 : BitVec 32 := Scalar.muli v5 c2_i32_228
  let v277 : BitVec 32 := Scalar.addi v275 v276
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_229 : BitVec 32 := 1#32
  let v278 : BitVec 32 := Scalar.muli v8 c1_i32_229
  let v279 : BitVec 32 := Scalar.addi v277 v278
  v279.toNat
def k1_dev9 (d0 : Dev nD) : Nat :=
  let c0_i32_235 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_234 : BitVec 32 := 4#32
  let v286 : BitVec 32 := Scalar.muli v2 c4_i32_234
  let v287 : BitVec 32 := Scalar.addi c0_i32_235 v286
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_236 : BitVec 32 := 2#32
  let v288 : BitVec 32 := Scalar.muli v5 c2_i32_236
  let v289 : BitVec 32 := Scalar.addi v287 v288
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_237 : BitVec 32 := 1#32
  let v290 : BitVec 32 := Scalar.muli v11 c1_i32_237
  let v291 : BitVec 32 := Scalar.addi v289 v290
  v291.toNat
def k1_dev10 (d0 : Dev nD) : Nat :=
  let c0_i32_387 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_386 : BitVec 32 := 4#32
  let v461 : BitVec 32 := Scalar.muli v10 c4_i32_386
  let v462 : BitVec 32 := Scalar.addi c0_i32_387 v461
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_388 : BitVec 32 := 2#32
  let v463 : BitVec 32 := Scalar.muli v5 c2_i32_388
  let v464 : BitVec 32 := Scalar.addi v462 v463
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_389 : BitVec 32 := 1#32
  let v465 : BitVec 32 := Scalar.muli v8 c1_i32_389
  let v466 : BitVec 32 := Scalar.addi v464 v465
  v466.toNat
def k1_dev11 (d0 : Dev nD) : Nat :=
  let c0_i32_395 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_394 : BitVec 32 := 4#32
  let v473 : BitVec 32 := Scalar.muli v2 c4_i32_394
  let v474 : BitVec 32 := Scalar.addi c0_i32_395 v473
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_396 : BitVec 32 := 2#32
  let v475 : BitVec 32 := Scalar.muli v5 c2_i32_396
  let v476 : BitVec 32 := Scalar.addi v474 v475
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_397 : BitVec 32 := 1#32
  let v477 : BitVec 32 := Scalar.muli v11 c1_i32_397
  let v478 : BitVec 32 := Scalar.addi v476 v477
  v478.toNat
def k1_dev12 (d0 : Dev nD) : Nat :=
  let c0_i32_546 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_545 : BitVec 32 := 4#32
  let v648 : BitVec 32 := Scalar.muli v10 c4_i32_545
  let v649 : BitVec 32 := Scalar.addi c0_i32_546 v648
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_547 : BitVec 32 := 2#32
  let v650 : BitVec 32 := Scalar.muli v5 c2_i32_547
  let v651 : BitVec 32 := Scalar.addi v649 v650
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_548 : BitVec 32 := 1#32
  let v652 : BitVec 32 := Scalar.muli v8 c1_i32_548
  let v653 : BitVec 32 := Scalar.addi v651 v652
  v653.toNat
def k1_dev13 (d0 : Dev nD) : Nat :=
  let c0_i32_554 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_553 : BitVec 32 := 4#32
  let v660 : BitVec 32 := Scalar.muli v2 c4_i32_553
  let v661 : BitVec 32 := Scalar.addi c0_i32_554 v660
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_555 : BitVec 32 := 2#32
  let v662 : BitVec 32 := Scalar.muli v5 c2_i32_555
  let v663 : BitVec 32 := Scalar.addi v661 v662
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_556 : BitVec 32 := 1#32
  let v664 : BitVec 32 := Scalar.muli v11 c1_i32_556
  let v665 : BitVec 32 := Scalar.addi v663 v664
  v665.toNat
def k1_dev14 (d0 : Dev nD) : Nat :=
  let c0_i32_693 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_692 : BitVec 32 := 4#32
  let v823 : BitVec 32 := Scalar.muli v10 c4_i32_692
  let v824 : BitVec 32 := Scalar.addi c0_i32_693 v823
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_694 : BitVec 32 := 2#32
  let v825 : BitVec 32 := Scalar.muli v5 c2_i32_694
  let v826 : BitVec 32 := Scalar.addi v824 v825
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_695 : BitVec 32 := 1#32
  let v827 : BitVec 32 := Scalar.muli v8 c1_i32_695
  let v828 : BitVec 32 := Scalar.addi v826 v827
  v828.toNat
def k1_dev15 (d0 : Dev nD) : Nat :=
  let c0_i32_701 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_700 : BitVec 32 := 4#32
  let v835 : BitVec 32 := Scalar.muli v2 c4_i32_700
  let v836 : BitVec 32 := Scalar.addi c0_i32_701 v835
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_702 : BitVec 32 := 2#32
  let v837 : BitVec 32 := Scalar.muli v5 c2_i32_702
  let v838 : BitVec 32 := Scalar.addi v836 v837
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_703 : BitVec 32 := 1#32
  let v839 : BitVec 32 := Scalar.muli v11 c1_i32_703
  let v840 : BitVec 32 := Scalar.addi v838 v839
  v840.toNat
def k1_off4 (d0 : Dev nD) (c0_i32_707 : BitVec 32) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_10 : BitVec 32 := 2#32
  let v19 : BitVec 32 := Scalar.muli v2 c2_i32_10
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v20 : BitVec 32 := Scalar.subi c1_i32_11 v8
  let v21 : BitVec 32 := Scalar.addi v19 v20
  let c1024_i32_12 : BitVec 32 := 1024#32
  let v22 : BitVec 32 := Scalar.muli v21 c1024_i32_12
  let v848 : BitVec 32 := Scalar.addi v22 c0_i32_707
  let c0_i32_714 : BitVec 32 := 0#32
  ![v848.toNat, 0]
def k1_off5 (d0 : Dev nD) (c0_i32_717 : BitVec 32) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_10 : BitVec 32 := 2#32
  let v19 : BitVec 32 := Scalar.muli v2 c2_i32_10
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v20 : BitVec 32 := Scalar.subi c1_i32_11 v8
  let v21 : BitVec 32 := Scalar.addi v19 v20
  let c1024_i32_12 : BitVec 32 := 1024#32
  let v22 : BitVec 32 := Scalar.muli v21 c1024_i32_12
  let v860 : BitVec 32 := Scalar.addi v22 c0_i32_717
  let c0_i32_724 : BitVec 32 := 0#32
  ![v860.toNat, 0]
def k1_dev16 (d0 : Dev nD) : Nat :=
  let c0_i32_721 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_720 : BitVec 32 := 4#32
  let v861 : BitVec 32 := Scalar.muli v10 c4_i32_720
  let v862 : BitVec 32 := Scalar.addi c0_i32_721 v861
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_722 : BitVec 32 := 2#32
  let v863 : BitVec 32 := Scalar.muli v5 c2_i32_722
  let v864 : BitVec 32 := Scalar.addi v862 v863
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_723 : BitVec 32 := 1#32
  let v865 : BitVec 32 := Scalar.muli v8 c1_i32_723
  let v866 : BitVec 32 := Scalar.addi v864 v865
  v866.toNat
def k1_off6 (d0 : Dev nD) (c0_i32_727 : BitVec 32) : Fin 2 → Nat :=
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.subi c1_i32_7 v2
  let c2_i32_8 : BitVec 32 := 2#32
  let v16 : BitVec 32 := Scalar.muli v15 c2_i32_8
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.addi v16 v8
  let c1024_i32_9 : BitVec 32 := 1024#32
  let v18 : BitVec 32 := Scalar.muli v17 c1024_i32_9
  let v874 : BitVec 32 := Scalar.addi v18 c0_i32_727
  let c0_i32_734 : BitVec 32 := 0#32
  ![v874.toNat, 0]
def k1_off7 (d0 : Dev nD) (c0_i32_738 : BitVec 32) : Fin 2 → Nat :=
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.subi c1_i32_7 v2
  let c2_i32_8 : BitVec 32 := 2#32
  let v16 : BitVec 32 := Scalar.muli v15 c2_i32_8
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.addi v16 v8
  let c1024_i32_9 : BitVec 32 := 1024#32
  let v18 : BitVec 32 := Scalar.muli v17 c1024_i32_9
  let v887 : BitVec 32 := Scalar.addi v18 c0_i32_738
  let c128_i32_739 : BitVec 32 := 128#32
  let v888 : BitVec 32 := Scalar.addi v887 c128_i32_739
  let c0_i32_746 : BitVec 32 := 0#32
  ![v888.toNat, 0]
def k1_dev17 (d0 : Dev nD) : Nat :=
  let c0_i32_743 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_742 : BitVec 32 := 4#32
  let v889 : BitVec 32 := Scalar.muli v2 c4_i32_742
  let v890 : BitVec 32 := Scalar.addi c0_i32_743 v889
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_744 : BitVec 32 := 2#32
  let v891 : BitVec 32 := Scalar.muli v5 c2_i32_744
  let v892 : BitVec 32 := Scalar.addi v890 v891
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_745 : BitVec 32 := 1#32
  let v893 : BitVec 32 := Scalar.muli v11 c1_i32_745
  let v894 : BitVec 32 := Scalar.addi v892 v893
  v894.toNat
def k1_off8 (d0 : Dev nD) (c0_i32_749 : BitVec 32) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_10 : BitVec 32 := 2#32
  let v19 : BitVec 32 := Scalar.muli v2 c2_i32_10
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v20 : BitVec 32 := Scalar.subi c1_i32_11 v8
  let v21 : BitVec 32 := Scalar.addi v19 v20
  let c1024_i32_12 : BitVec 32 := 1024#32
  let v22 : BitVec 32 := Scalar.muli v21 c1024_i32_12
  let v902 : BitVec 32 := Scalar.addi v22 c0_i32_749
  let c128_i32_750 : BitVec 32 := 128#32
  let v903 : BitVec 32 := Scalar.addi v902 c128_i32_750
  let c0_i32_763 : BitVec 32 := 0#32
  ![v903.toNat, 0]
def k1_off9 (d0 : Dev nD) (c0_i32_751 : BitVec 32) : Fin 2 → Nat :=
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.subi c1_i32_7 v2
  let c2_i32_8 : BitVec 32 := 2#32
  let v16 : BitVec 32 := Scalar.muli v15 c2_i32_8
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.addi v16 v8
  let c1024_i32_9 : BitVec 32 := 1024#32
  let v18 : BitVec 32 := Scalar.muli v17 c1024_i32_9
  let v904 : BitVec 32 := Scalar.addi v18 c0_i32_751
  let c0_i32_789 : BitVec 32 := 0#32
  ![v904.toNat, 0]
def k1_dev18 (d0 : Dev nD) : Nat :=
  let c0_i32_847 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_846 : BitVec 32 := 4#32
  let v999 : BitVec 32 := Scalar.muli v10 c4_i32_846
  let v1000 : BitVec 32 := Scalar.addi c0_i32_847 v999
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_848 : BitVec 32 := 2#32
  let v1001 : BitVec 32 := Scalar.muli v5 c2_i32_848
  let v1002 : BitVec 32 := Scalar.addi v1000 v1001
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_849 : BitVec 32 := 1#32
  let v1003 : BitVec 32 := Scalar.muli v8 c1_i32_849
  let v1004 : BitVec 32 := Scalar.addi v1002 v1003
  v1004.toNat
def k1_dev19 (d0 : Dev nD) : Nat :=
  let c0_i32_869 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_868 : BitVec 32 := 4#32
  let v1027 : BitVec 32 := Scalar.muli v2 c4_i32_868
  let v1028 : BitVec 32 := Scalar.addi c0_i32_869 v1027
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_870 : BitVec 32 := 2#32
  let v1029 : BitVec 32 := Scalar.muli v5 c2_i32_870
  let v1030 : BitVec 32 := Scalar.addi v1028 v1029
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_871 : BitVec 32 := 1#32
  let v1031 : BitVec 32 := Scalar.muli v11 c1_i32_871
  let v1032 : BitVec 32 := Scalar.addi v1030 v1031
  v1032.toNat
def k1_dev20 (d0 : Dev nD) : Nat :=
  let c0_i32_999 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_998 : BitVec 32 := 4#32
  let v1163 : BitVec 32 := Scalar.muli v10 c4_i32_998
  let v1164 : BitVec 32 := Scalar.addi c0_i32_999 v1163
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1000 : BitVec 32 := 2#32
  let v1165 : BitVec 32 := Scalar.muli v5 c2_i32_1000
  let v1166 : BitVec 32 := Scalar.addi v1164 v1165
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1001 : BitVec 32 := 1#32
  let v1167 : BitVec 32 := Scalar.muli v8 c1_i32_1001
  let v1168 : BitVec 32 := Scalar.addi v1166 v1167
  v1168.toNat
def k1_dev21 (d0 : Dev nD) : Nat :=
  let c0_i32_1021 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1020 : BitVec 32 := 4#32
  let v1191 : BitVec 32 := Scalar.muli v2 c4_i32_1020
  let v1192 : BitVec 32 := Scalar.addi c0_i32_1021 v1191
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1022 : BitVec 32 := 2#32
  let v1193 : BitVec 32 := Scalar.muli v5 c2_i32_1022
  let v1194 : BitVec 32 := Scalar.addi v1192 v1193
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1023 : BitVec 32 := 1#32
  let v1195 : BitVec 32 := Scalar.muli v11 c1_i32_1023
  let v1196 : BitVec 32 := Scalar.addi v1194 v1195
  v1196.toNat
def k1_dev22 (d0 : Dev nD) : Nat :=
  let c0_i32_1151 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1150 : BitVec 32 := 4#32
  let v1327 : BitVec 32 := Scalar.muli v10 c4_i32_1150
  let v1328 : BitVec 32 := Scalar.addi c0_i32_1151 v1327
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1152 : BitVec 32 := 2#32
  let v1329 : BitVec 32 := Scalar.muli v5 c2_i32_1152
  let v1330 : BitVec 32 := Scalar.addi v1328 v1329
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1153 : BitVec 32 := 1#32
  let v1331 : BitVec 32 := Scalar.muli v8 c1_i32_1153
  let v1332 : BitVec 32 := Scalar.addi v1330 v1331
  v1332.toNat
def k1_dev23 (d0 : Dev nD) : Nat :=
  let c0_i32_1173 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1172 : BitVec 32 := 4#32
  let v1355 : BitVec 32 := Scalar.muli v2 c4_i32_1172
  let v1356 : BitVec 32 := Scalar.addi c0_i32_1173 v1355
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1174 : BitVec 32 := 2#32
  let v1357 : BitVec 32 := Scalar.muli v5 c2_i32_1174
  let v1358 : BitVec 32 := Scalar.addi v1356 v1357
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1175 : BitVec 32 := 1#32
  let v1359 : BitVec 32 := Scalar.muli v11 c1_i32_1175
  let v1360 : BitVec 32 := Scalar.addi v1358 v1359
  v1360.toNat
def k1_off10 (d0 : Dev nD) (c0_i32_1289 : BitVec 32) : Fin 2 → Nat :=
  let c1_i32_13 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v23 : BitVec 32 := Scalar.subi c1_i32_13 v2
  let c2_i32_14 : BitVec 32 := 2#32
  let v24 : BitVec 32 := Scalar.muli v23 c2_i32_14
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v25 : BitVec 32 := Scalar.subi c1_i32_15 v8
  let v26 : BitVec 32 := Scalar.addi v24 v25
  let c1024_i32_16 : BitVec 32 := 1024#32
  let v27 : BitVec 32 := Scalar.muli v26 c1024_i32_16
  let v1478 : BitVec 32 := Scalar.addi v27 c0_i32_1289
  let c0_i32_1296 : BitVec 32 := 0#32
  ![v1478.toNat, 0]
def k1_off11 (d0 : Dev nD) (c0_i32_1300 : BitVec 32) : Fin 2 → Nat :=
  let c1_i32_13 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v23 : BitVec 32 := Scalar.subi c1_i32_13 v2
  let c2_i32_14 : BitVec 32 := 2#32
  let v24 : BitVec 32 := Scalar.muli v23 c2_i32_14
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v25 : BitVec 32 := Scalar.subi c1_i32_15 v8
  let v26 : BitVec 32 := Scalar.addi v24 v25
  let c1024_i32_16 : BitVec 32 := 1024#32
  let v27 : BitVec 32 := Scalar.muli v26 c1024_i32_16
  let v1491 : BitVec 32 := Scalar.addi v27 c0_i32_1300
  let c128_i32_1301 : BitVec 32 := 128#32
  let v1492 : BitVec 32 := Scalar.addi v1491 c128_i32_1301
  let c0_i32_1308 : BitVec 32 := 0#32
  ![v1492.toNat, 0]
-- ==== ReferenceIdeal.lean ====
abbrev S2x4096x4096 : Shape := ⟨3, ![2, 4096, 4096]⟩
abbrev S4096x4096 : Shape := ⟨2, ![4096, 4096]⟩
abbrev S4096 : Shape := ⟨1, ![4096]⟩
abbrev S_ : Shape := ⟨0, ![]⟩
abbrev S4096x1 : Shape := ⟨2, ![4096, 1]⟩
abbrev S1x4096 : Shape := ⟨2, ![1, 4096]⟩

abbrev nBuf : Space → Nat
  | .hbm => 22
  | .vmem => 0
  | .smem => 0
  | _ => 0

abbrev bufTy : (tb : Table) → Fin (tcTables nBuf tb) → BufTy
  | .hbm, ⟨0, _⟩ => ⟨S2x4096x4096, .f32⟩
  | .hbm, ⟨1, _⟩ => ⟨S4096x4096, .f32⟩
  | .hbm, ⟨2, _⟩ => ⟨S4096, .f32⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x4096, .f32⟩
  | .hbm, ⟨18, _⟩ => ⟨S4096x4096, .f32⟩
  | .hbm, ⟨19, _⟩ => ⟨S1x4096, .f32⟩
  | .hbm, ⟨20, _⟩ => ⟨S4096x4096, .f32⟩
  | .hbm, ⟨21, _⟩ => ⟨S4096x4096, .f32⟩
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Proof.Prog.lean ====
module

public import proofs.«01_k».proof.Proof.Gen.KernelIdeal
public import proofs.«01_k».proof.Proof.Gen.KernelIdeal.Points
public import proofs.«01_k».proof.Proof.Gen.KernelIdeal.Skeleton

@[expose] public section

noncomputable section

namespace Cert.KernelIdeal.Fused

open Idealize.ShloMosaic Idealize.ShloMosaic.TcCoe Idealize.SL Idealize.SL.Sem
open Cert.KernelIdeal Facts₀ Facts
open Cert.KernelIdeal.Gen (k1_pay8 k1_pay9 k1_pay10 k1_pay31)

variable {F : FTy → Type} [FloatOps F]

/-- The kernels' effects, as programs without a result. -/
abbrev P (F : FTy → Type) [FloatOps F] : Type 1 := Prog (TpuEff nD τ sig (Elt F) Λ₀ .tc) PUnit

/-- A memref with the evidence that a transfer through it moves whole words. -/
structure WM (sp : Space) (s : Shape) (e : EltTy) where
  m : Memref sig .tc sp s e
  w : m.view.WordExact

/-! ## The windows of the buffers -/

abbrev pM : Memref sig .tc .hbm S1x4096x4096 .f32 := Memref.whole main_arg0
abbrev bM : Memref sig .tc .hbm S1024x4096 .bf16 := Memref.whole main_v12
abbrev resM : Memref sig .tc .hbm S4096x4096 .f32 := Memref.whole main_arg1
abbrev gamM : Memref sig .tc .hbm S1x4096 .f32 := Memref.whole main_v13
abbrev outM : Memref sig .tc .hbm S4096x4096 .f32 := Memref.whole main_v14_0
abbrev gbM : Memref sig .tc .hbm S4096x4096 .bf16 := Memref.whole main_v14_1
abbrev rcM : Memref sig .tc .vmem S4x256x4096 .bf16 := Memref.whole cc1_scratch0
abbrev gvM : Memref sig .tc .vmem S1x4096 .f32 := Memref.whole cc1_scratch1
abbrev psM : Memref sig .tc .vmem S2x128x4096 .f32 := Memref.whole cc1_scratch2
abbrev rsM : Memref sig .tc .vmem S2x128x4096 .f32 := Memref.whole cc1_scratch3
abbrev ntM : Memref sig .tc .vmem S2x128x4096 .bf16 := Memref.whole cc1_scratch4
abbrev ciM : Memref sig .tc .vmem S2x128x4096 .bf16 := Memref.whole cc1_scratch5
abbrev coM : Memref sig .tc .vmem S2x128x4096 .f32 := Memref.whole cc1_scratch6

/-- A tile of 128 rows of the partial sums, at an offset. -/
abbrev pTile (o : Fin 3 → ℕ) (h : ∀ a, o a + S1x128x4096.size a ≤ S1x4096x4096.size a) : WM .hbm S128x4096 .f32 :=
  ⟨(pM.slice (Rect.unit (s := S1x4096x4096) o S1x128x4096.size h) (fun _ => rfl)).squeeze S128x4096 squeezes_S1x128x4096_S128x4096,
    (View.wordExact_bits rfl).reshape _ _⟩
/-- A tile of 128 rows of the residual. -/
abbrev rTile (o : Fin 2 → ℕ) (h : ∀ a, o a + S128x4096.size a ≤ S4096x4096.size a) : WM .hbm S128x4096 .f32 :=
  ⟨resM.slice (Rect.unit (s := S4096x4096) o S128x4096.size h) (fun _ => rfl), View.wordExact_bits rfl⟩
/-- A tile of 128 rows of the result. -/
abbrev oTile (o : Fin 2 → ℕ) (h : ∀ a, o a + S128x4096.size a ≤ S4096x4096.size a) : WM .hbm S128x4096 .f32 :=
  ⟨outM.slice (Rect.unit (s := S4096x4096) o S128x4096.size h) (fun _ => rfl), View.wordExact_bits rfl⟩
/-- A tile of 128 rows of the gathered bf16 array. -/
abbrev gTile (o : Fin 2 → ℕ) (h : ∀ a, o a + S128x4096.size a ≤ S4096x4096.size a)
    (w : (Rect.unit (s := S4096x4096) o S128x4096.size h).WholeWords (EltTy.packing .bf16)) : WM .hbm S128x4096 .bf16 :=
  ⟨gbM.slice (Rect.unit (s := S4096x4096) o S128x4096.size h) (fun _ => rfl), (Memref.isWhole_whole _).wordExact_slice rfl _ w⟩
/-- A block of 256 rows of it. -/
abbrev gBlk (o : Fin 2 → ℕ) (h : ∀ a, o a + S256x4096.size a ≤ S4096x4096.size a)
    (w : (Rect.unit (s := S4096x4096) o S256x4096.size h).WholeWords (EltTy.packing .bf16)) : WM .hbm S256x4096 .bf16 :=
  ⟨gbM.slice (Rect.unit (s := S4096x4096) o S256x4096.size h) (fun _ => rfl), (Memref.isWhole_whole _).wordExact_slice rfl _ w⟩

theorem slot_inb (s : Fin 2) : ∀ a, (![s.val, 0, 0] : Fin 3 → ℕ) a + S1x128x4096.size a ≤ S2x128x4096.size a := by
  fin_cases s
  · exact inb_S2x128x4096_S1x128x4096_0_0_0
  · exact inb_S2x128x4096_S1x128x4096_1_0_0
/-- Slot `s` of a double buffer. -/
abbrev slotRect (s : Fin 2) : Rect S2x128x4096 := Rect.unit (s := S2x128x4096) ![s.val, 0, 0] S1x128x4096.size (slot_inb s)
theorem slot_words (s : Fin 2) : (slotRect s).WholeWords (EltTy.packing .bf16) := by
  fin_cases s
  · exact wordsbf16_S2x128x4096_S1x128x4096_0_0_0
  · exact wordsbf16_S2x128x4096_S1x128x4096_1_0_0
theorem slot_packed (s : Fin 2) : (slotRect s).PackedRows (EltTy.packing .bf16) := by
  fin_cases s
  · exact packedbf16_S2x128x4096_S1x128x4096_0_0_0
  · exact packedbf16_S2x128x4096_S1x128x4096_1_0_0

/-- Slot `s` of an f32 double buffer, as a tile. -/
abbrev fSlot (b : Memref sig .tc .vmem S2x128x4096 .f32) (s : Fin 2) : WM .vmem S128x4096 .f32 :=
  ⟨(b.slice (slotRect s) (fun _ => rfl)).squeeze S128x4096 squeezes_S1x128x4096_S128x4096, (View.wordExact_bits rfl).reshape _ _⟩
/-- Slot `s` of a bf16 double buffer, as a tile. -/
abbrev hSlot (b : Memref sig .tc .vmem S2x128x4096 .bf16) (hb : b.IsWhole) (s : Fin 2) : WM .vmem S128x4096 .bf16 :=
  ⟨(b.slice (slotRect s) (fun _ => rfl)).squeeze S128x4096 squeezes_S1x128x4096_S128x4096, (hb.wordExact_slice rfl _ (slot_words s)).reshape _ _⟩

theorem bBlk_inb (b : Fin 4) : ∀ a, (![256 * b.val, 0] : Fin 2 → ℕ) a + S256x4096.size a ≤ S1024x4096.size a := by
  fin_cases b
  · exact inb_S1024x4096_S256x4096_0_0
  · exact inb_S1024x4096_S256x4096_256_0
  · exact inb_S1024x4096_S256x4096_512_0
  · exact inb_S1024x4096_S256x4096_768_0
theorem bBlk_words (b : Fin 4) : (Rect.unit (s := S1024x4096) ![256 * b.val, 0] S256x4096.size (bBlk_inb b)).WholeWords (EltTy.packing .bf16) := by
  fin_cases b
  · exact wordsbf16_S1024x4096_S256x4096_0_0
  · exact wordsbf16_S1024x4096_S256x4096_256_0
  · exact wordsbf16_S1024x4096_S256x4096_512_0
  · exact wordsbf16_S1024x4096_S256x4096_768_0
/-- Block `b` (256 rows) of the chunk cast to bf16. -/
abbrev bBlk (b : Fin 4) : WM .hbm S256x4096 .bf16 :=
  ⟨bM.slice (Rect.unit (s := S1024x4096) ![256 * b.val, 0] S256x4096.size (bBlk_inb b)) (fun _ => rfl),
    (Memref.isWhole_whole _).wordExact_slice rfl _ (bBlk_words b)⟩

theorem rcBlk_inb (b : Fin 4) : ∀ a, (![b.val, 0, 0] : Fin 3 → ℕ) a + S1x256x4096.size a ≤ S4x256x4096.size a := by
  fin_cases b
  · exact inb_S4x256x4096_S1x256x4096_0_0_0
  · exact inb_S4x256x4096_S1x256x4096_1_0_0
  · exact inb_S4x256x4096_S1x256x4096_2_0_0
  · exact inb_S4x256x4096_S1x256x4096_3_0_0
abbrev rcRect (b : Fin 4) : Rect S4x256x4096 := Rect.unit (s := S4x256x4096) ![b.val, 0, 0] S1x256x4096.size (rcBlk_inb b)
theorem rcBlk_words (b : Fin 4) : (rcRect b).WholeWords (EltTy.packing .bf16) := by
  fin_cases b
  · exact wordsbf16_S4x256x4096_S1x256x4096_0_0_0
  · exact wordsbf16_S4x256x4096_S1x256x4096_1_0_0
  · exact wordsbf16_S4x256x4096_S1x256x4096_2_0_0
  · exact wordsbf16_S4x256x4096_S1x256x4096_3_0_0
/-- Block `b` of the receive buffer. -/
abbrev rcBlk (b : Fin 4) : WM .vmem S256x4096 .bf16 :=
  ⟨(rcM.slice (rcRect b) (fun _ => rfl)).squeeze S256x4096 squeezes_S1x256x4096_S256x4096,
    ((Memref.isWhole_whole _).wordExact_slice rfl _ (rcBlk_words b)).reshape _ _⟩

theorem rcHalf_inb (b : Fin 4) (h : Fin 2) : ∀ a, (![b.val, 128 * h.val, 0] : Fin 3 → ℕ) a + S1x128x4096.size a ≤ S4x256x4096.size a := by
  revert b h; decide
/-- Half `h` of block `b` of the receive buffer, what a load reads. -/
abbrev rcHalf (b : Fin 4) (h : Fin 2) : Rect S4x256x4096 := Rect.unit (s := S4x256x4096) ![b.val, 128 * h.val, 0] S1x128x4096.size (rcHalf_inb b h)

/-! ## The semaphores -/

/-- The kernel's barrier semaphore. -/
abbrev barS : Sem sig := sig.barrier 0 rfl
/-- The semaphore of transfer kind `k`, block `b`: the kinds are the send and receive sides, in turn, of the y, x, z
    exchanges and of the two forwardings. -/
abbrev kS (k : Fin 10) (b : Fin 4) : DmaSem sig := ⟨4 + (4 * k.val + b.val), by have := k.isLt; have := b.isLt; show _ < 55; omega⟩
abbrev gS : DmaSem sig := ⟨44, by decide⟩
/-- The semaphore of slot `s` of local copies of kind `k`: fetch of the partials, of the residual, bf16 write back,
    f32 write back, read of the gathered array. -/
abbrev lS (k : Fin 5) (s : Fin 2) : DmaSem sig := ⟨45 + (2 * k.val + s.val), by have := k.isLt; have := s.isLt; show _ < 55; omega⟩

/-! ## The instructions -/

/-- Start a local copy. -/
abbrev copy {sp sp' : Space} {s : Shape} {e : EltTy} (src : WM sp s e) (dst : WM sp' s e) (sm : DmaSem sig)
    (h : DmaTarget.Typed (nD := nD) (τ := τ) (p := .tc) sp (.dma sm) (.here dst.m)) (k : P F) : P F :=
  .op (.enqueueDma src.m (.here dst.m) (.dma sm) src.w dst.w h) fun _ => k
/-- Wait for a copy's bytes on a semaphore. -/
abbrev await {sp sp' : Space} {s s' : Shape} {e e' : EltTy} (sm : DmaSem sig) (src : WM sp s e) (dst : WM sp' s' e') (k : P F) : P F :=
  .op (.waitDma2 sm src.m dst.m src.w dst.w) fun _ => k
/-- Start a copy into a buffer of device `d`. -/
abbrev send {sp sp' : Space} {s : Shape} {e : EltTy} (d : Dev nD) (src : WM sp s e) (dst : WM sp' s e) (sS rS : DmaSem sig)
    (h : DmaTarget.Typed (nD := nD) (τ := τ) (p := .tc) sp (.dma rS) (.remote (Dev.tc d) dst.m (.dma sS))) (k : P F) : P F :=
  .op (.enqueueDma src.m (.remote (Dev.tc d) dst.m (.dma sS)) (.dma rS) src.w dst.w h) fun _ => k

/-- The three signals to the neighbours and the wait for theirs. -/
abbrev barrier (dx dy dz : Dev nD) (k : P F) : P F :=
  .op (.semSignal (dx, .tc) barS (BitVec.toInt 1#32)) fun _ => .op (.semSignal (dy, .tc) barS (BitVec.toInt 1#32)) fun _ =>
  .op (.semSignal (dz, .tc) barS (BitVec.toInt 1#32)) fun _ => .op (.semWait barS (BitVec.toInt 3#32)) fun _ => k

/-- Block `b` of the cast chunk goes to the y neighbour. -/
abbrev sendY (dy : Dev nD) (b : Fin 4) (k : P F) : P F := send dy (bBlk b) (rcBlk b) (kS 0 b) (kS 1 b) ⟨⟨rfl, Or.inl rfl⟩, trivial⟩ k

abbrev gamV : WM .hbm S1x4096 .f32 := ⟨gamM, (Memref.isWhole_whole _).wordExact⟩
abbrev gvV : WM .vmem S1x4096 .f32 := ⟨gvM, (Memref.isWhole_whole _).wordExact⟩
/-- The row of scales comes into vector memory. -/
abbrev getGamma (k : P F) : P F := copy gamV gvV gS ⟨Or.inl rfl, trivial⟩ <| await gS gamV gvV k

/-- Start fetching a tile of the partials and of the residual into slot `s`. -/
abbrev fetch (p r : WM .hbm S128x4096 .f32) (s : Fin 2) (k : P F) : P F :=
  copy p (fSlot psM s) (lS 0 s) ⟨Or.inl rfl, trivial⟩ <| copy r (fSlot rsM s) (lS 1 s) ⟨Or.inl rfl, trivial⟩ k

abbrev loadSlot (b : Memref sig .tc .vmem S2x128x4096 .f32) (s : Fin 2) (k : Vec F S1x128x4096 .f32 → P F) : P F :=
  .op (.load b (slotRect s).toLoadRect (View.loadsAt_vmem h_S1x128x4096)) k
abbrev loadSlotH (b : Memref sig .tc .vmem S2x128x4096 .bf16) (s : Fin 2) (k : Vec F S1x128x4096 .bf16 → P F) : P F :=
  .op (.load b (slotRect s).toLoadRect (View.loadsAt_vmem h_S1x128x4096)) k

/-- One tile: wait for its fetches, normalise it, write it back as f32 and as bf16, wait for both. -/
abbrev tile (b : Fin 4) (s : Fin 2) (p r o : WM .hbm S128x4096 .f32) (g : WM .hbm S128x4096 .bf16) (k : P F) : P F :=
  await (lS 0 s) p (fSlot psM s) <| await (lS 1 s) r (fSlot rsM s) <|
  loadSlot psM s fun vp => .op (.load rcM (rcHalf b s).toLoadRect (View.loadsAt_vmem h_S1x128x4096)) fun vr =>
  loadSlot rsM s fun vs => .op (.load gvM (Rect.unit (s := S1x4096) ![0, 0] S1x4096.size inb_S1x4096_S1x4096_0_0).toLoadRect (View.loadsAt_vmem h_S1x4096)) fun vg =>
  loadSlot coM s fun _ =>
  .op (.store coM (slotRect s) (k1_pay9 vp vr vs vg) Finset.univ (View.stores_vmem_bits_univ h_S1x128x4096 rfl) (.inl rfl)) fun _ =>
  loadSlotH ntM s fun _ =>
  .op (.store ntM (slotRect s) (k1_pay10 vp vr vs vg) Finset.univ (View.stores_vmem h_S1x128x4096 ((Memref.isWhole_whole _).storeExact_slice rfl _ (slot_packed s)) (fun _ => rfl)) (.inl rfl)) fun _ =>
  copy (fSlot coM s) o (lS 3 s) ⟨Or.inl rfl, trivial⟩ <| copy (hSlot ntM (Memref.isWhole_whole _) s) g (lS 2 s) ⟨Or.inl rfl, trivial⟩ <|
  await (lS 3 s) (fSlot coM s) o <| await (lS 2 s) (hSlot ntM (Memref.isWhole_whole _) s) g k

/-- Start reading a tile of the gathered array into slot `s`. -/
abbrev startIn (g : WM .hbm S128x4096 .bf16) (s : Fin 2) (k : P F) : P F :=
  copy g (hSlot ciM (Memref.isWhole_whole _) s) (lS 4 s) ⟨Or.inl rfl, trivial⟩ k
/-- Convert what was read into slot `s` to f32 and start writing it to the result. -/
abbrev process (g : WM .hbm S128x4096 .bf16) (o : WM .hbm S128x4096 .f32) (s : Fin 2) (k : P F) : P F :=
  await (lS 4 s) g (hSlot ciM (Memref.isWhole_whole _) s) <|
  loadSlotH ciM s fun v => loadSlot coM s fun _ =>
  .op (.store coM (slotRect s) (k1_pay31 v) Finset.univ (View.stores_vmem_bits_univ h_S1x128x4096 rfl) (.inl rfl)) fun _ =>
  copy (fSlot coM s) o (lS 3 s) ⟨Or.inl rfl, trivial⟩ k
/-- Wait for the write of slot `s`. -/
abbrev drain (o : WM .hbm S128x4096 .f32) (s : Fin 2) (k : P F) : P F := await (lS 3 s) (fSlot coM s) o k

/-! ## The tiles of device `d` -/

section Tiles
variable (d : Dev nD)

abbrev pT (r : Fin 8) := pTile (k1_off1 d (BitVec.ofNat 32 (128 * r.val))) (k1_off1_inb d r)
abbrev rT (r : Fin 8) := rTile (k1_off2 d (BitVec.ofNat 32 (128 * r.val))) (k1_off2_inb d r)
abbrev oT (r : Fin 8) := oTile (k1_off2 d (BitVec.ofNat 32 (128 * r.val))) (k1_off2_inb d r)
abbrev gT (r : Fin 8) := gTile (k1_off2 d (BitVec.ofNat 32 (128 * r.val))) (k1_off2_inb d r) (k1_off2_wordsbf16 d r)
/-- Block `b` of the own chunk, of the chunk of the z neighbour, of the chunk of the x neighbour. -/
abbrev B3 (b : Fin 4) := gBlk (k1_off3 d (BitVec.ofNat 32 (256 * b.val))) (k1_off3_inb d b) (k1_off3_wordsbf16 d b)
abbrev B4 (b : Fin 4) := gBlk (k1_off4 d (BitVec.ofNat 32 (256 * b.val))) (k1_off4_inb d b) (k1_off4_wordsbf16 d b)
abbrev B6 (b : Fin 4) := gBlk (k1_off6 d (BitVec.ofNat 32 (256 * b.val))) (k1_off6_inb d b) (k1_off6_wordsbf16 d b)

/-- A tile of the gathered array and the tile of the result it is converted into. -/
structure Tl where
  g : WM .hbm S128x4096 .bf16
  o : WM .hbm S128x4096 .f32

abbrev mkTl (o : Fin 2 → ℕ) (h : ∀ a, o a + S128x4096.size a ≤ S4096x4096.size a)
    (w : (Rect.unit (s := S4096x4096) o S128x4096.size h).WholeWords (EltTy.packing .bf16)) : Tl := ⟨gTile o h w, oTile o h⟩

abbrev T5 (b : Fin 4) : Tl := mkTl (k1_off5 d (BitVec.ofNat 32 (256 * b.val))) (k1_off5_inb d b) (k1_off5_wordsbf16 d b)
abbrev T7 (b : Fin 4) : Tl := mkTl (k1_off7 d (BitVec.ofNat 32 (256 * b.val))) (k1_off7_inb d b) (k1_off7_wordsbf16 d b)
abbrev T8 (b : Fin 4) : Tl := mkTl (k1_off8 d (BitVec.ofNat 32 (256 * b.val))) (k1_off8_inb d b) (k1_off8_wordsbf16 d b)
abbrev T9 (b : Fin 4) : Tl := mkTl (k1_off9 d (BitVec.ofNat 32 (256 * b.val))) (k1_off9_inb d b) (k1_off9_wordsbf16 d b)
abbrev T10 (b : Fin 4) : Tl := mkTl (k1_off10 d (BitVec.ofNat 32 (256 * b.val))) (k1_off10_inb d b) (k1_off10_wordsbf16 d b)
abbrev T11 (b : Fin 4) : Tl := mkTl (k1_off11 d (BitVec.ofNat 32 (256 * b.val))) (k1_off11_inb d b) (k1_off11_wordsbf16 d b)

end Tiles

/-! ## The phases -/

/-- The exchange along x and z of a finished block. -/
abbrev sendXZ (dx dz : Dev nD) (b : Fin 4) (B : WM .hbm S256x4096 .bf16) (k : P F) : P F :=
  send dx B B (kS 2 b) (kS 3 b) ⟨⟨rfl, Or.inl rfl⟩, trivial⟩ <| send dz B B (kS 4 b) (kS 5 b) ⟨⟨rfl, Or.inl rfl⟩, trivial⟩ k

/-- Block `b`: tiles `t₀` and `t₁`, the fetch of `t₁` first and that of the next block's first tile between the two. -/
def block (d dx dz : Dev nD) (b : Fin 4) (t₀ t₁ t₂ : Fin 8) (k : P F) : P F :=
  fetch (pT d t₁) (rT d t₁) 1 <| await (kS 1 b) (bBlk b) (rcBlk b) <|
  tile b 0 (pT d t₀) (rT d t₀) (oT d t₀) (gT d t₀) <| fetch (pT d t₂) (rT d t₂) 0 <|
  tile b 1 (pT d t₁) (rT d t₁) (oT d t₁) (gT d t₁) <| sendXZ dx dz b (B3 d b) k
/-- The last block, after which nothing is fetched. -/
def lastBlock (d dx dz : Dev nD) (b : Fin 4) (t₀ t₁ : Fin 8) (k : P F) : P F :=
  fetch (pT d t₁) (rT d t₁) 1 <| await (kS 1 b) (bBlk b) (rcBlk b) <|
  tile b 0 (pT d t₀) (rT d t₀) (oT d t₀) (gT d t₀) <|
  tile b 1 (pT d t₁) (rT d t₁) (oT d t₁) (gT d t₁) <| sendXZ dx dz b (B3 d b) k

/-- Forwarding of block `b`: half of what came along z goes on along x, half of what came along x goes on along z. -/
def forward (d dx dz : Dev nD) (b : Fin 4) (k : P F) : P F :=
  await (kS 5 b) (B4 d b) (B4 d b) <| send dx (T5 d b).g (T5 d b).g (kS 6 b) (kS 7 b) ⟨⟨rfl, Or.inl rfl⟩, trivial⟩ <|
  await (kS 3 b) (B6 d b) (B6 d b) <| send dz (T7 d b).g (T7 d b).g (kS 8 b) (kS 9 b) ⟨⟨rfl, Or.inl rfl⟩, trivial⟩ k

/-- The first two conversions. -/
def pair₀ (A B : Tl) (k : P F) : P F := startIn A.g 0 <| startIn B.g 1 <| process A.g A.o 0 k
/-- Two more conversions, `A` and `B`, after `A'` and `B'`. -/
def pair (A' B' A B : Tl) (k : P F) : P F :=
  drain A'.o 0 <| startIn A.g 0 <| process B'.g B'.o 1 <| drain B'.o 1 <| startIn B.g 1 <| process A.g A.o 0 k
/-- The end of the conversions. -/
def flush (A' B' : Tl) (k : P F) : P F := process B'.g B'.o 1 <| drain A'.o 0 <| drain B'.o 1 k

/-- The wait for the two halves of block `b` of the diagonal chunk. -/
def diagWait (d : Dev nD) (b : Fin 4) (k : P F) : P F :=
  await (kS 7 b) (T10 d b).g (T10 d b).g <| await (kS 9 b) (T11 d b).g (T11 d b).g k

/-- The waits for the own sends. -/
def sent (d : Dev nD) : P F :=
  await (kS 0 0) (rcBlk 0) (bBlk 0) <| await (kS 0 1) (rcBlk 1) (bBlk 1) <| await (kS 0 2) (rcBlk 2) (bBlk 2) <| await (kS 0 3) (rcBlk 3) (bBlk 3) <|
  await (kS 2 0) (B3 d 0) (B3 d 0) <| await (kS 2 1) (B3 d 1) (B3 d 1) <| await (kS 2 2) (B3 d 2) (B3 d 2) <| await (kS 2 3) (B3 d 3) (B3 d 3) <|
  await (kS 4 0) (B3 d 0) (B3 d 0) <| await (kS 4 1) (B3 d 1) (B3 d 1) <| await (kS 4 2) (B3 d 2) (B3 d 2) <| await (kS 4 3) (B3 d 3) (B3 d 3) <|
  await (kS 6 0) (T5 d 0).g (T5 d 0).g <| await (kS 6 1) (T5 d 1).g (T5 d 1).g <| await (kS 6 2) (T5 d 2).g (T5 d 2).g <| await (kS 6 3) (T5 d 3).g (T5 d 3).g <|
  await (kS 8 0) (T7 d 0).g (T7 d 0).g <| await (kS 8 1) (T7 d 1).g (T7 d 1).g <| await (kS 8 2) (T7 d 2).g (T7 d 2).g <| await (kS 8 3) (T7 d 3).g (T7 d 3).g <|
  .ret ⟨⟩

/-- The conversions and the diagonal, after the first forwarding. -/
def convert (d x1 z1 x2 z2 x3 z3 : Dev nD) (k : P F) : P F :=
  pair₀ (T5 d 0) (T8 d 0) <| pair (T5 d 0) (T8 d 0) (T9 d 0) (T7 d 0) <|
  forward d x1 z1 1 <| pair (T9 d 0) (T7 d 0) (T5 d 1) (T8 d 1) <| pair (T5 d 1) (T8 d 1) (T9 d 1) (T7 d 1) <|
  forward d x2 z2 2 <| pair (T9 d 1) (T7 d 1) (T5 d 2) (T8 d 2) <| pair (T5 d 2) (T8 d 2) (T9 d 2) (T7 d 2) <|
  forward d x3 z3 3 <| pair (T9 d 2) (T7 d 2) (T5 d 3) (T8 d 3) <| pair (T5 d 3) (T8 d 3) (T9 d 3) (T7 d 3) <|
  diagWait d 0 <| pair (T9 d 3) (T7 d 3) (T10 d 0) (T11 d 0) <| diagWait d 1 <| pair (T10 d 0) (T11 d 0) (T10 d 1) (T11 d 1) <|
  diagWait d 2 <| pair (T10 d 1) (T11 d 1) (T10 d 2) (T11 d 2) <| diagWait d 3 <| pair (T10 d 2) (T11 d 2) (T10 d 3) (T11 d 3) <|
  flush (T10 d 3) (T11 d 3) k

/-- The kernel after it has read its device. -/
def fused (d : Dev nD) : P F :=
  barrier ⟨k1_dev1 d, k1_dev1_lt d⟩ ⟨k1_dev2 d, k1_dev2_lt d⟩ ⟨k1_dev3 d, k1_dev3_lt d⟩ <|
  sendY ⟨k1_dev4 d, k1_dev4_lt d⟩ 0 <| sendY ⟨k1_dev5 d, k1_dev5_lt d⟩ 1 <| sendY ⟨k1_dev6 d, k1_dev6_lt d⟩ 2 <| sendY ⟨k1_dev7 d, k1_dev7_lt d⟩ 3 <|
  getGamma <| fetch (pT d 0) (rT d 0) 0 <|
  block d ⟨k1_dev8 d, k1_dev8_lt d⟩ ⟨k1_dev9 d, k1_dev9_lt d⟩ 0 0 1 2 <| block d ⟨k1_dev10 d, k1_dev10_lt d⟩ ⟨k1_dev11 d, k1_dev11_lt d⟩ 1 2 3 4 <|
  block d ⟨k1_dev12 d, k1_dev12_lt d⟩ ⟨k1_dev13 d, k1_dev13_lt d⟩ 2 4 5 6 <| lastBlock d ⟨k1_dev14 d, k1_dev14_lt d⟩ ⟨k1_dev15 d, k1_dev15_lt d⟩ 3 6 7 <|
  forward d ⟨k1_dev16 d, k1_dev16_lt d⟩ ⟨k1_dev17 d, k1_dev17_lt d⟩ 0 <|
  convert d ⟨k1_dev18 d, k1_dev18_lt d⟩ ⟨k1_dev19 d, k1_dev19_lt d⟩ ⟨k1_dev20 d, k1_dev20_lt d⟩ ⟨k1_dev21 d, k1_dev21_lt d⟩
    ⟨k1_dev22 d, k1_dev22_lt d⟩ ⟨k1_dev23 d, k1_dev23_lt d⟩ <|
  sent d

set_option maxRecDepth 200000 in
/-- The printed kernel, at the arrays it is called with, is the one above. -/
theorem bodyAt_eq (t : Fin cfg1.N) : Gen.bodyAt1 (F := F) t = .op .deviceId fun d => fused d := rfl

end Cert.KernelIdeal.Fused

end
-- ==== Proof.Rules.lean ====
module

public import proofs.«01_k».proof.Proof.Prog
public import Idealize.ShloMosaic.Lib.Transfers
public import Idealize.ShloMosaic.Lib.Memref
public import Idealize.ShloMosaic.Lib.Pipeline.Kit

@[expose] public section

noncomputable section

namespace Cert.KernelIdeal.Fused

open Idealize.ShloMosaic Idealize.ShloMosaic.TcCoe Idealize.SL Idealize.SL.Sem Idealize.SL.RA Idealize.SL.BI
open scoped Idealize.SL.BI
open Idealize.SL.BI.BIBase Idealize.SL.BI.Laws Idealize.SL.ProofMode
open Cert.KernelIdeal Facts₀ Facts
open Cert.KernelIdeal.Gen (k1_pay8 k1_pay9 k1_pay10 k1_pay31)

variable {F : FTy → Type} [FloatOps F]

/-! ## The resources -/

/-- The user algebra: the pipeline library's rounds, the kernel's rounds, the local copies' counters. -/
abbrev UK : Type := Rounds.URounds (GSem nD τ sig) (Fin 3)
abbrev UU : Type := UR sig nD τ × (UK × Counters)

local notation "𝕄" => MT nD τ sig Unit (Elt F) ℕ UU ℕ

abbrev EP : Emb (UR sig nD τ) (MT nD τ sig Unit (Elt F) ℕ UU ℕ) := embL
def ER : Emb UK (MT nD τ sig Unit (Elt F) ℕ UU ℕ) := (Emb.inl : Emb UK (UK × Counters)).trans embR
instance ER_landsIn : (ER : Emb UK 𝕄).LandsIn (upEmb : UEmb _ 𝕄) := by unfold ER; infer_instance
abbrev EC : UEmb Counters (MT nD τ sig Unit (Elt F) ℕ UU ℕ) := countersEmb

abbrev 𝒱₀ : Variants := Variants.none

/-- The program `p` on device `c` ends in `Q`. -/
abbrev runs (c : Dev nD) (p : P F) (Q : PUnit → sProp 𝕄) : sProp 𝕄 :=
  wp frame (wpE (defs₀ (F := F)) 𝒱₀ (c : Thread nD τ) none) Set.univ p Q

/-- What a core owes, whatever waits it has recorded. -/
def owesA (c : Dev nD) (O : CellTallies nD τ sig Unit) : sProp 𝕄 := iprop(∃ W, owes (c : Thread nD τ) O W)

/-- One index on every cell of a TensorCore. -/
def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl

/-- The level of a semaphore: the barrier, then the four receive sides in the order they are waited for. -/
def lvl : SemLoc sig → ℕ
  | .reg _ => 1
  | .dma s => if s.val < 8 then 0 else if s.val < 12 then 2 else if s.val < 16 then 0 else if s.val < 20 then 3 else if s.val < 24 then 0
      else if s.val < 28 then 3 else if s.val < 32 then 0 else if s.val < 36 then 4 else if s.val < 40 then 0 else if s.val < 44 then 4 else 0
def lv (g : GSem nD τ sig) (_ : Unit) : ℕ := lvl g.2

/-- Everything owed is owed above level `n`. -/
def Above (n : ℕ) (O : CellTallies nD τ sig Unit) : Prop := ∀ g u, 0 < O g u → u ∈ L g ∧ n < lv g u

theorem Above.zero (n : ℕ) : Above n 0 := fun _ _ h => absurd h (Nat.lt_irrefl 0)
theorem Above.add {n : ℕ} {O O' : CellTallies nD τ sig Unit} (h : Above n O) (h' : Above n O') : Above n (O + O') := fun g u hg => by
  rcases Nat.eq_zero_or_pos (O g u) with h0 | h0
  · exact h' g u (by
      have e : (O + O') g u = O g u + O' g u := rfl
      omega)
  · exact h g u h0
theorem Above.tally {n : ℕ} (c : Dev nD) (sm : SemLoc sig) (k : ℕ) (h : n < lvl sm) : Above n (tallyAt ((c : Thread nD τ), sm) () k) := fun g u hg => by
  rw [tallyAt_apply] at hg
  by_cases e : g = ((c : Thread nD τ), sm) ∧ u = ()
  · rw [e.1, L_tc]; exact ⟨Finset.mem_singleton_self _, h⟩
  · rw [if_neg e] at hg; exact absurd hg (Nat.lt_irrefl 0)
theorem Above.mono {n n' : ℕ} {O : CellTallies nD τ sig Unit} (h : Above n O) (hn : n' ≤ n) : Above n' O :=
  fun g u hg => ⟨(h g u hg).1, lt_of_le_of_lt hn (h g u hg).2⟩

/-- A core may wait at a semaphore below everything it owes. -/
theorem mayWait (c : Dev nD) (sm : SemLoc sig) {O : CellTallies nD τ sig Unit} (h : Above (lvl sm) O) :
    (levAts L lv : sProp 𝕄) ⊢ MayWait (c : Thread nD τ) sm () O :=
  MayOwe.of_cut (L := L) (lev := lv) (lvl sm) (fun p hp => by rw [Finset.mem_singleton.mp hp, L_tc]; exact Finset.mem_singleton_self _)
    (fun g u hg => (h g u hg).1)
    (fun p hp => by rw [Finset.mem_singleton.mp hp]; exact le_refl _)
    (fun g u hg => (h g u hg).2)

/-! ## Windows held -/

/-- The window held with contents not named. -/
def raw (c : Dev nD) {sp : Space} {s : Shape} {e : EltTy} (w : WM sp s e) : sProp 𝕄 :=
  iprop(∃ f : Buf (Elt F) (w.m.view.loc (c : Thread nD τ)), w.m.view.loc (c : Thread nD τ) ↦[w.m.view.set]{fullShare} f)

/-- The window held at a share with the contents `X`. -/
abbrev holds (c : Dev nD) {sp : Space} {s : Shape} {e : EltTy} (w : WM sp s e) (q : PosShare TreeShare) (X : s.Idx → Elt F e) : sProp 𝕄 :=
  owns (c : Thread nD τ) w.m q X

/-- The window held at a share, its buffer's contents the given. -/
abbrev part (c : Dev nD) {sp : Space} {s : Shape} {e : EltTy} (w : WM sp s e) (q : PosShare TreeShare)
    (f : Buf (Elt F) (w.m.view.loc (c : Thread nD τ))) : sProp 𝕄 :=
  w.m.view.loc (c : Thread nD τ) ↦[w.m.view.set]{q} f

instance raw_storable (c : Dev nD) {sp : Space} {s : Shape} {e : EltTy} (w : WM sp s e) : BI.Storable (upEmb : UEmb _ 𝕄) (raw (F := F) c w) := by
  unfold raw; infer_instance

theorem holds_raw (c : Dev nD) {sp : Space} {s : Shape} {e : EltTy} (w : WM sp s e) (X : s.Idx → Elt F e) :
    (holds c w fullShare X : sProp 𝕄) ⊢ raw c w := by
  unfold holds owns raw; iintro ⟨%f, -, H⟩; iexists f; iexact H

/-- A window held at what it reads of a buffer's contents is the window with those contents. -/
theorem holds_read (c : Dev nD) {sp : Space} {s : Shape} {e : EltTy} (w : WM sp s e) (q : PosShare TreeShare)
    (f : Buf (Elt F) (w.m.view.loc (c : Thread nD τ))) :
    (holds c w q (w.m.view.read (Elt F) f) : sProp 𝕄) = part c w q f := by
  have h₁ : (holds c w q (w.m.view.read (Elt F) f) : sProp 𝕄) ⊢ part c w q f := by
    unfold holds owns part
    iintro ⟨%g, %hg, H⟩
    have e : (w.m.view.loc (c : Thread nD τ) ↦[w.m.view.set]{q} g : sProp 𝕄) = w.m.view.loc (c : Thread nD τ) ↦[w.m.view.set]{q} f :=
      pointsTo_congr fun i hi => by
        obtain ⟨j, -, rfl⟩ := Finset.mem_map.mp hi
        have := congrFun hg j
        simp only [View.read] at this
        exact (cast_inj _).mp this
    rw [← e]
    iexact H
  exact BI.equiv_iff.mp ⟨h₁, owns_intro (c : Thread nD τ) w.m q f⟩

theorem part_raw (c : Dev nD) {sp : Space} {s : Shape} {e : EltTy} (w : WM sp s e) (f : Buf (Elt F) (w.m.view.loc (c : Thread nD τ))) :
    (part c w fullShare f : sProp 𝕄) ⊢ raw c w := by
  unfold raw; iintro H; iexists f; iexact H

/-! ## Local copies -/

/-- The bytes a copy into the window counts. -/
abbrev bytes {sp : Space} {s : Shape} {e : EltTy} (w : WM sp s e) : ℕ := w.m.view.dmaCredit

/-- A local copy on its way: it delivers the destination with what the source held, and the source. -/
def flying (c : Dev nD) {sp sp' : Space} {s : Shape} {e : EltTy} (sm : DmaSem sig) (src : WM sp s e) (dst : WM sp' s e)
    (q : PosShare TreeShare) (X : s.Idx → Elt F e) : sProp 𝕄 :=
  Transfers.Flight EC (c : Thread nD τ) (.dma sm) () (bytes dst) iprop(holds c dst fullShare X ∗ holds c src q X)

/-- A local copy is started from a held source, into a window held with any contents. -/
theorem wp_copy (c : Dev nD) {sp sp' : Space} {s : Shape} {e : EltTy} {sm : DmaSem sig} {src : WM sp s e} {dst : WM sp' s e} {h}
    {k : P F} {Q : PUnit → sProp 𝕄} {q : PosShare TreeShare} {X : s.Idx → Elt F e} (hs : 0 < s.numel) :
    iprop(holds c src q X ∗ raw c dst ∗ semVal ((c : Thread nD τ), .dma sm) 0)
      ⊢ iprop((flying c sm src dst q X -∗ runs c k Q) -∗ runs c (copy src dst sm h k) Q) := by
  unfold holds owns raw
  iintro ⟨⟨%f, %hf, Hs⟩, ⟨%fd, Hd⟩, Hv⟩ Hk
  iapply (Transfers.wp_dmaLocal EC 𝒱₀ (c : Thread nD τ) none () (bytes dst) rfl (View.dmaCredit_pos _ hs) (Finset.Subset.refl _)) $$ [Hs Hd Hv]
  · isplitl [Hs]; · iexact Hs
    isplitl [Hd]; · iexact Hd
    iexact Hv
  iintro Hf
  iapply Hk
  unfold flying
  iapply (Transfers.Flight_mono EC (c : Thread nD τ) ?_) $$ Hf
  unfold holds owns
  iintro ⟨Hd, Hs⟩
  isplitl [Hd]
  · iexists _
    isplitr
    rotate_left
    · iexact Hd
    · ipureintro
      rw [View.read_write_univ]
      exact hf
  · iexists f
    isplitr
    · ipureintro; exact hf
    · iexact Hs

/-- The wait for a local copy. -/
theorem wp_await (c : Dev nD) {sp sp' sp'' : Space} {s s' : Shape} {e e' : EltTy} {sm : DmaSem sig} {src : WM sp s e} {dst : WM sp' s e}
    {srcw : WM sp'' s' e'} {k : P F} {Q : PUnit → sProp 𝕄} {q : PosShare TreeShare} {X : s.Idx → Elt F e} {O : CellTallies nD τ sig Unit}
    (hO : Above (lvl (.dma sm)) O) :
    iprop(flying c sm src dst q X ∗ owesA c O ∗ levAts L lv)
      ⊢ iprop((iprop(holds c dst fullShare X ∗ holds c src q X ∗ semVal ((c : Thread nD τ), .dma sm) 0 ∗ owesA c O) -∗ runs c k Q)
        -∗ runs c (await sm srcw dst k) Q) := by
  unfold flying owesA
  iintro ⟨Hf, ⟨%W, HO⟩, Hlev⟩ Hk
  iapply (Transfers.wp_waitLocalO EC 𝒱₀ (c : Thread nD τ) none () rfl) $$ [Hf HO Hlev]
  · isplitl [Hf]; · iexact Hf
    isplitl [HO]; · iexact HO
    iapply (mayWait c _ hO); iexact Hlev
  iintro ⟨⟨Hd, Hs⟩, Hv, HO⟩
  iapply Hk
  isplitl [Hd]; · iexact Hd
  isplitl [Hs]; · iexact Hs
  isplitl [Hv]; · iexact Hv
  iexists _; iexact HO

/-! ## Loads and stores of a slot -/

/-- A tile as a slot holds it. -/
abbrev up {e : EltTy} (X : Vec F S128x4096 e) : Vec F S1x128x4096 e := shapeCast S1x128x4096 X shapeCasts_S128x4096_S1x128x4096

theorem up_apply {e : EltTy} {X : Vec F S128x4096 e} {v : Vec F S1x128x4096 e}
    (h : (fun j => v (Shape.reshapeEquiv squeezes_S1x128x4096_S128x4096.numel_eq j)) = X) : v = up X := by
  subst h
  funext j
  show v j = v _
  rw [Shape.reshapeEquiv_reshapeEquiv, Shape.reshapeEquiv_self]

/-- Slot `s` of a double buffer as a tile, whatever its elements. -/
abbrev slotM {e : EltTy} (b : Memref sig .tc .vmem S2x128x4096 e) (s : Fin 2) : Memref sig .tc .vmem S128x4096 e :=
  (b.slice (slotRect s) (fun _ => rfl)).squeeze S128x4096 squeezes_S1x128x4096_S128x4096

/-- A load of a slot reads the tile it holds. -/
theorem wp_loadSlot (c : Dev nD) {e : EltTy} {b : Memref sig .tc .vmem S2x128x4096 e} {s : Fin 2} {h} {k : Vec F S1x128x4096 e → P F} {Q : PUnit → sProp 𝕄}
    {q : PosShare TreeShare} {X : Vec F S128x4096 e} :
    (owns (c : Thread nD τ) (slotM b s) q X : sProp 𝕄)
      ⊢ iprop((owns (c : Thread nD τ) (slotM b s) q X -∗ runs c (k (up X)) Q) -∗ runs c (.op (.load b (slotRect s).toLoadRect h) k) Q) := by
  unfold owns
  iintro ⟨%f, %hf, H⟩ Hk
  iapply (wp_load_rect 𝒱₀ (c : Thread nD τ) none Set.univ (S := (slotM b s).view.set) (q := q) (f := f) (by rw [View.set_reshape])) $$ [H]
  · iexact H
  iintro H
  rw [show (b.access (slotRect s)).read (Elt F) f = up X from up_apply hf]
  iapply Hk
  iexists f
  isplitr
  · ipureintro; exact hf
  · iexact H

/-- A load of a slot whose contents are not named reads something. -/
theorem wp_loadRaw (c : Dev nD) {e : EltTy} {w : WM .vmem S128x4096 e} {b : Memref sig .tc .vmem S2x128x4096 e} {s : Fin 2} {h} {k : P F} {Q : PUnit → sProp 𝕄}
    (hw : w.m = slotM b s) :
    (raw c w : sProp 𝕄) ⊢ iprop((raw c w -∗ runs c k Q) -∗ runs c (.op (.load b (slotRect s).toLoadRect h) fun _ => k) Q) := by
  obtain ⟨m, w⟩ := w
  subst hw
  unfold raw
  iintro ⟨%f, H⟩ Hk
  iapply (wp_load_rect 𝒱₀ (c : Thread nD τ) none Set.univ (S := (slotM b s).view.set) (q := fullShare) (f := f) (by rw [View.set_reshape])) $$ [H]
  · iexact H
  iintro H
  iapply Hk
  iexists f; iexact H

/-- A store of a tile into a slot. -/
theorem wp_storeSlot (c : Dev nD) {e : EltTy} {w : WM .vmem S128x4096 e} {b : Memref sig .tc .vmem S2x128x4096 e} {s : Fin 2} {h h'} {k : P F} {Q : PUnit → sProp 𝕄}
    {X : Vec F S128x4096 e} (hw : w.m = slotM b s) :
    (raw c w : sProp 𝕄) ⊢ iprop((holds c w fullShare X -∗ runs c k Q) -∗ runs c (.op (.store b (slotRect s) (up X) Finset.univ h h') fun _ => k) Q) := by
  obtain ⟨m, w⟩ := w
  subst hw
  unfold raw holds owns
  iintro ⟨%f, H⟩ Hk
  iapply (wp_store 𝒱₀ (c : Thread nD τ) none Set.univ (S := (slotM b s).view.set) (f := f) (by rw [View.setOn_univ, View.set_reshape])) $$ [H]
  · iexact H
  iintro H
  iapply Hk
  iexists _
  isplitr
  rotate_left
  · iexact H
  · ipureintro
    funext j
    show (b.access (slotRect s)).read (Elt F) ((b.access (slotRect s)).write (Elt F) f (up X) Finset.univ) (Shape.reshapeEquiv _ j) = X j
    rw [View.read_write_univ]
    show X _ = X j
    rw [Shape.reshapeEquiv_reshapeEquiv, Shape.reshapeEquiv_self]

end Cert.KernelIdeal.Fused

end
-- ==== Proof.Places.lean ====
module

public import proofs.«01_k».proof.Proof.Rules

@[expose] public section

noncomputable section

namespace Cert.KernelIdeal.Fused

open Idealize.ShloMosaic Idealize.ShloMosaic.TcCoe Idealize.SL Idealize.SL.Sem Idealize.SL.RA Idealize.SL.BI
open scoped Idealize.SL.BI
open Idealize.SL.BI.BIBase Idealize.SL.BI.Laws Idealize.SL.ProofMode
open Cert.KernelIdeal Facts₀ Facts

variable {F : FTy → Type} [FloatOps F]

local notation "𝕄" => MT nD τ sig Unit (Elt F) ℕ UU ℕ

/-! ## The neighbours -/

/-- The device across x, across y, across z. -/
def nx (c : Dev nD) : Dev nD := ⟨(c.val + 4) % 8, Nat.mod_lt _ (by decide)⟩
def ny (c : Dev nD) : Dev nD := ⟨(4 * (c.val / 4) + (c.val + 2) % 4) % 8, Nat.mod_lt _ (by decide)⟩
def nz (c : Dev nD) : Dev nD := ⟨(2 * (c.val / 2) + (c.val + 1) % 2) % 8, Nat.mod_lt _ (by decide)⟩

theorem nx_nx (c : Dev nD) : nx (nx c) = c := by revert c; decide
theorem ny_ny (c : Dev nD) : ny (ny c) = c := by revert c; decide
theorem nz_nz (c : Dev nD) : nz (nz c) = c := by revert c; decide
theorem nx_nz (c : Dev nD) : nx (nz c) = nz (nx c) := by revert c; decide
def ex : Dev nD ≃ Dev nD := ⟨nx, nx, nx_nx, nx_nx⟩
def ey : Dev nD ≃ Dev nD := ⟨ny, ny, ny_ny, ny_ny⟩
def ez : Dev nD ≃ Dev nD := ⟨nz, nz, nz_nz, nz_nz⟩

theorem dev1 (d : Dev nD) : (⟨k1_dev1 d, k1_dev1_lt d⟩ : Dev nD) = nx d := Fin.ext (by dsimp only; rw [Gen.k1_dev1_eq]; revert d; decide)
theorem dev2 (d : Dev nD) : (⟨k1_dev2 d, k1_dev2_lt d⟩ : Dev nD) = ny d := Fin.ext (by dsimp only; rw [Gen.k1_dev2_eq]; revert d; decide)
theorem dev3 (d : Dev nD) : (⟨k1_dev3 d, k1_dev3_lt d⟩ : Dev nD) = nz d := Fin.ext (by dsimp only; rw [Gen.k1_dev3_eq]; revert d; decide)
theorem dev4 (d : Dev nD) : (⟨k1_dev4 d, k1_dev4_lt d⟩ : Dev nD) = ny d := Fin.ext (by dsimp only; rw [Gen.k1_dev4_eq]; revert d; decide)
theorem dev5 (d : Dev nD) : (⟨k1_dev5 d, k1_dev5_lt d⟩ : Dev nD) = ny d := Fin.ext (by dsimp only; rw [Gen.k1_dev5_eq]; revert d; decide)
theorem dev6 (d : Dev nD) : (⟨k1_dev6 d, k1_dev6_lt d⟩ : Dev nD) = ny d := Fin.ext (by dsimp only; rw [Gen.k1_dev6_eq]; revert d; decide)
theorem dev7 (d : Dev nD) : (⟨k1_dev7 d, k1_dev7_lt d⟩ : Dev nD) = ny d := Fin.ext (by dsimp only; rw [Gen.k1_dev7_eq]; revert d; decide)
theorem dev8 (d : Dev nD) : (⟨k1_dev8 d, k1_dev8_lt d⟩ : Dev nD) = nx d := Fin.ext (by dsimp only; rw [Gen.k1_dev8_eq]; revert d; decide)
theorem dev9 (d : Dev nD) : (⟨k1_dev9 d, k1_dev9_lt d⟩ : Dev nD) = nz d := Fin.ext (by dsimp only; rw [Gen.k1_dev9_eq]; revert d; decide)
theorem dev10 (d : Dev nD) : (⟨k1_dev10 d, k1_dev10_lt d⟩ : Dev nD) = nx d := Fin.ext (by dsimp only; rw [Gen.k1_dev10_eq]; revert d; decide)
theorem dev11 (d : Dev nD) : (⟨k1_dev11 d, k1_dev11_lt d⟩ : Dev nD) = nz d := Fin.ext (by dsimp only; rw [Gen.k1_dev11_eq]; revert d; decide)
theorem dev12 (d : Dev nD) : (⟨k1_dev12 d, k1_dev12_lt d⟩ : Dev nD) = nx d := Fin.ext (by dsimp only; rw [Gen.k1_dev12_eq]; revert d; decide)
theorem dev13 (d : Dev nD) : (⟨k1_dev13 d, k1_dev13_lt d⟩ : Dev nD) = nz d := Fin.ext (by dsimp only; rw [Gen.k1_dev13_eq]; revert d; decide)
theorem dev14 (d : Dev nD) : (⟨k1_dev14 d, k1_dev14_lt d⟩ : Dev nD) = nx d := Fin.ext (by dsimp only; rw [Gen.k1_dev14_eq]; revert d; decide)
theorem dev15 (d : Dev nD) : (⟨k1_dev15 d, k1_dev15_lt d⟩ : Dev nD) = nz d := Fin.ext (by dsimp only; rw [Gen.k1_dev15_eq]; revert d; decide)
theorem dev16 (d : Dev nD) : (⟨k1_dev16 d, k1_dev16_lt d⟩ : Dev nD) = nx d := Fin.ext (by dsimp only; rw [Gen.k1_dev16_eq]; revert d; decide)
theorem dev17 (d : Dev nD) : (⟨k1_dev17 d, k1_dev17_lt d⟩ : Dev nD) = nz d := Fin.ext (by dsimp only; rw [Gen.k1_dev17_eq]; revert d; decide)
theorem dev18 (d : Dev nD) : (⟨k1_dev18 d, k1_dev18_lt d⟩ : Dev nD) = nx d := Fin.ext (by dsimp only; rw [Gen.k1_dev18_eq]; revert d; decide)
theorem dev19 (d : Dev nD) : (⟨k1_dev19 d, k1_dev19_lt d⟩ : Dev nD) = nz d := Fin.ext (by dsimp only; rw [Gen.k1_dev19_eq]; revert d; decide)
theorem dev20 (d : Dev nD) : (⟨k1_dev20 d, k1_dev20_lt d⟩ : Dev nD) = nx d := Fin.ext (by dsimp only; rw [Gen.k1_dev20_eq]; revert d; decide)
theorem dev21 (d : Dev nD) : (⟨k1_dev21 d, k1_dev21_lt d⟩ : Dev nD) = nz d := Fin.ext (by dsimp only; rw [Gen.k1_dev21_eq]; revert d; decide)
theorem dev22 (d : Dev nD) : (⟨k1_dev22 d, k1_dev22_lt d⟩ : Dev nD) = nx d := Fin.ext (by dsimp only; rw [Gen.k1_dev22_eq]; revert d; decide)
theorem dev23 (d : Dev nD) : (⟨k1_dev23 d, k1_dev23_lt d⟩ : Dev nD) = nz d := Fin.ext (by dsimp only; rw [Gen.k1_dev23_eq]; revert d; decide)

/-! ## The rows of the tiles -/

/-- The first row of a device's chunk. -/
def c0 (c : Dev nD) : ℕ := 2048 * (c.val / 4) + 1024 * (c.val % 2)

theorem c0_nx (c : Dev nD) : c0 (nx (nx c)) = c0 c := by rw [nx_nx]
theorem c0_le (c : Dev nD) : c0 c ≤ 3072 := by revert c; decide

theorem off1 (d : Dev nD) (r : Fin 8) : k1_off1 d (BitVec.ofNat 32 (128 * r.val)) = ![0, c0 d + 128 * r.val, 0] := by
  rw [Gen.k1_off1_eq, c0]
theorem off2 (d : Dev nD) (r : Fin 8) : k1_off2 d (BitVec.ofNat 32 (128 * r.val)) = ![c0 d + 128 * r.val, 0] := by
  rw [Gen.k1_off2_eq, c0]
theorem off3 (d : Dev nD) (b : Fin 4) : k1_off3 d (BitVec.ofNat 32 (256 * b.val)) = ![c0 d + 256 * b.val, 0] := by
  rw [Gen.k1_off3_eq, c0]
theorem off4 (d : Dev nD) (b : Fin 4) : k1_off4 d (BitVec.ofNat 32 (256 * b.val)) = ![c0 (nz d) + 256 * b.val, 0] := by
  rw [Gen.k1_off4_eq]; congr 1; revert d b; decide
theorem off5 (d : Dev nD) (b : Fin 4) : k1_off5 d (BitVec.ofNat 32 (256 * b.val)) = ![c0 (nz d) + 256 * b.val, 0] := by
  rw [Gen.k1_off5_eq]; congr 1; revert d b; decide
theorem off6 (d : Dev nD) (b : Fin 4) : k1_off6 d (BitVec.ofNat 32 (256 * b.val)) = ![c0 (nx d) + 256 * b.val, 0] := by
  rw [Gen.k1_off6_eq]; congr 1; revert d b; decide
theorem off7 (d : Dev nD) (b : Fin 4) : k1_off7 d (BitVec.ofNat 32 (256 * b.val)) = ![c0 (nx d) + 256 * b.val + 128, 0] := by
  rw [Gen.k1_off7_eq]; congr 1; revert d b; decide
theorem off8 (d : Dev nD) (b : Fin 4) : k1_off8 d (BitVec.ofNat 32 (256 * b.val)) = ![c0 (nz d) + 256 * b.val + 128, 0] := by
  rw [Gen.k1_off8_eq]; congr 1; revert d b; decide
theorem off9 (d : Dev nD) (b : Fin 4) : k1_off9 d (BitVec.ofNat 32 (256 * b.val)) = ![c0 (nx d) + 256 * b.val, 0] := by
  rw [Gen.k1_off9_eq]; congr 1; revert d b; decide
theorem off10 (d : Dev nD) (b : Fin 4) : k1_off10 d (BitVec.ofNat 32 (256 * b.val)) = ![c0 (nz (nx d)) + 256 * b.val, 0] := by
  rw [Gen.k1_off10_eq]; congr 1; revert d b; decide
theorem off11 (d : Dev nD) (b : Fin 4) : k1_off11 d (BitVec.ofNat 32 (256 * b.val)) = ![c0 (nz (nx d)) + 256 * b.val + 128, 0] := by
  rw [Gen.k1_off11_eq]; congr 1; revert d b; decide

/-- `k` rows from row `n`. -/
def rows (n k : ℕ) : Finset S4096x4096.Idx := Finset.univ.filter fun i => n ≤ (i 0).val ∧ (i 0).val < n + k

theorem mem_rows {n k : ℕ} {i : S4096x4096.Idx} : i ∈ rows n k ↔ n ≤ (i 0).val ∧ (i 0).val < n + k := by
  unfold rows; rw [Finset.mem_filter]; exact ⟨fun h => h.2, fun h => ⟨Finset.mem_univ _, h⟩⟩

theorem rows_add (n k k' : ℕ) : rows n (k + k') = rows n k ∪ rows (n + k) k' := by
  ext i; rw [Finset.mem_union, mem_rows, mem_rows, mem_rows]; omega
theorem rows_disjoint (n k k' : ℕ) : Disjoint (rows n k) (rows (n + k) k') :=
  Finset.disjoint_left.mpr fun i h h' => by rw [mem_rows] at h h'; omega
theorem rows_univ : rows 0 4096 = Finset.univ := by
  ext i; rw [mem_rows]; have : (i 0).val < 4096 := (i 0).isLt
  exact ⟨fun _ => Finset.mem_univ _, fun _ => by omega⟩

theorem set_unit128 {o : Fin 2 → ℕ} {h : ∀ a, o a + S128x4096.size a ≤ S4096x4096.size a} {n : ℕ} (ho : o = ![n, 0]) :
    (Rect.unit (s := S4096x4096) o S128x4096.size h).set = rows n 128 := by
  subst ho
  ext i; rw [Rect.mem_set_unit, mem_rows]
  constructor
  · intro hi; exact hi 0
  · intro hi a
    match a with
    | ⟨0, _⟩ => exact hi
    | ⟨1, _⟩ => exact ⟨Nat.zero_le _, by
        have : (i 1).val < 4096 := (i 1).isLt
        show (i 1).val < 0 + 4096
        omega⟩
theorem set_unit256 {o : Fin 2 → ℕ} {h : ∀ a, o a + S256x4096.size a ≤ S4096x4096.size a} {n : ℕ} (ho : o = ![n, 0]) :
    (Rect.unit (s := S4096x4096) o S256x4096.size h).set = rows n 256 := by
  subst ho
  ext i; rw [Rect.mem_set_unit, mem_rows]
  constructor
  · intro hi; exact hi 0
  · intro hi a
    match a with
    | ⟨0, _⟩ => exact hi
    | ⟨1, _⟩ => exact ⟨Nat.zero_le _, by
        have : (i 1).val < 4096 := (i 1).isLt
        show (i 1).val < 0 + 4096
        omega⟩

/-- Rows of the gathered array held at a share; rows of the result held. -/
def gR (c : Dev nD) (q : PosShare TreeShare) (f : Vec F S4096x4096 .bf16) (n k : ℕ) : sProp 𝕄 :=
  gbM.view.loc (c : Thread nD τ) ↦[rows n k]{q} f
def oR (c : Dev nD) (f : Vec F S4096x4096 .f32) (n k : ℕ) : sProp 𝕄 :=
  outM.view.loc (c : Thread nD τ) ↦[rows n k]{fullShare} f

instance gR_storable (c : Dev nD) (q : PosShare TreeShare) (f : Vec F S4096x4096 .bf16) (n k : ℕ) : BI.Storable (upEmb : UEmb _ 𝕄) (gR c q f n k) := by
  unfold gR; infer_instance

theorem gR_add (c : Dev nD) (q : PosShare TreeShare) (f : Vec F S4096x4096 .bf16) (n k k' : ℕ) :
    (gR c q f n (k + k') : sProp 𝕄) = iprop(gR c q f n k ∗ gR c q f (n + k) k') := by
  unfold gR; rw [rows_add]; have e := pointsTo_union (Ix := Unit) (Name := ℕ) (U := UU) (Lvl := ℕ) (ℓ := gbM.view.loc (c : Thread nD τ)) (q := q) (f := f) (rows_disjoint n k k'); exact BI.equiv_iff.mp ⟨e.1, e.2⟩
theorem oR_add (c : Dev nD) (f : Vec F S4096x4096 .f32) (n k k' : ℕ) :
    (oR c f n (k + k') : sProp 𝕄) = iprop(oR c f n k ∗ oR c f (n + k) k') := by
  unfold oR; rw [rows_add]; have e := pointsTo_union (Ix := Unit) (Name := ℕ) (U := UU) (Lvl := ℕ) (ℓ := outM.view.loc (c : Thread nD τ)) (q := fullShare) (f := f) (rows_disjoint n k k'); exact BI.equiv_iff.mp ⟨e.1, e.2⟩

theorem gTile_part (c : Dev nD) {o h w} (q : PosShare TreeShare) (f : Vec F S4096x4096 .bf16) {n : ℕ} (ho : o = ![n, 0]) :
    (part c (gTile o h w) q f : sProp 𝕄) = gR c q f n 128 := by
  unfold part gR
  rw [show (gTile o h w).m.view.set = rows n 128 from (View.set_slice_whole _ _).trans (set_unit128 ho)]
theorem gBlk_part (c : Dev nD) {o h w} (q : PosShare TreeShare) (f : Vec F S4096x4096 .bf16) {n : ℕ} (ho : o = ![n, 0]) :
    (part c (gBlk o h w) q f : sProp 𝕄) = gR c q f n 256 := by
  unfold part gR
  rw [show (gBlk o h w).m.view.set = rows n 256 from (View.set_slice_whole _ _).trans (set_unit256 ho)]
theorem oTile_part (c : Dev nD) {o h} (f : Vec F S4096x4096 .f32) {n : ℕ} (ho : o = ![n, 0]) :
    (part c (oTile o h) fullShare f : sProp 𝕄) = oR c f n 128 := by
  unfold part oR
  rw [show (oTile o h).m.view.set = rows n 128 from (View.set_slice_whole _ _).trans (set_unit128 ho)]

end Cert.KernelIdeal.Fused

end
-- ==== Proof.Contents.lean ====
module

public import proofs.«01_k».proof.Proof.Places
public import Idealize.ShloMosaic.Lib.ValueLayout

@[expose] public section

noncomputable section

namespace Cert.KernelIdeal.Fused

open Idealize.ShloMosaic Idealize.ShloMosaic.TcCoe Idealize.SL Idealize.SL.Sem Idealize.SL.RA Idealize.SL.BI
open scoped Idealize.SL.BI
open Idealize.SL.BI.BIBase Idealize.SL.BI.Laws Idealize.SL.ProofMode
open Cert.KernelIdeal Facts₀ Facts
open Idealize.ShloMosaic.ValueIdx
open Cert.KernelIdeal.Gen (k1_pay8 k1_pay9 k1_pay10 k1_pay31)

variable {F : FTy → Type} [FloatOps F]

/-- What the kernel finds on the devices: the partial sums, the bf16 cast of the chunk the y neighbour needs, the
    residual, the scales. -/
structure In (F : FTy → Type) [FloatOps F] where
  p : Dev nD → Vec F S1x4096x4096 .f32
  b : Dev nD → Vec F S1024x4096 .bf16
  r : Dev nD → Vec F S4096x4096 .f32
  g : Dev nD → Vec F S1x4096 .f32

variable (I : In F)

/-- The receive buffer of device `c` once the y neighbour's chunk has landed. -/
def RC (c : Dev nD) : Vec F S4x256x4096 .bf16 := fun i =>
  I.b (ny c) (ix2 ⟨(256 * (i 0).val + (i 1).val) % 1024, Nat.mod_lt _ (by decide)⟩ (i 2))

/-- The block and the half a tile lies in. -/
abbrev blkOf (t : Fin 8) : Fin 4 := ⟨t.val / 2, by have := t.isLt; omega⟩
abbrev halfOf (t : Fin 8) : Fin 2 := ⟨t.val % 2, by omega⟩

/-- Tile `t` of device `c`'s own chunk, normalised: f32, and cast to bf16. -/
def tileF (c : Dev nD) (t : Fin 8) : Vec F S128x4096 .f32 :=
  k1_pay8 (up ((pT c t).m.view.read (Elt F) (I.p c))) ((rcM.access (rcHalf (blkOf t) (halfOf t))).read (Elt F) (RC I c))
    (up ((rT c t).m.view.read (Elt F) (I.r c))) (I.g c)
def tileH (c : Dev nD) (t : Fin 8) : Vec F S128x4096 .bf16 := truncf .bf16 (tileF I c t) bitsLt_bf16_f32

/-- The device in `c`'s plane whose chunk row `i` lies in. -/
def owner (c : Dev nD) (i : Fin 4096) : Dev nD :=
  ⟨4 * (i.val / 2048) + 2 * ((c.val / 2) % 2) + (i.val / 1024) % 2, by have := i.isLt; show _ < 8; omega⟩
abbrev tileAt (i : Fin 4096) : Fin 8 := ⟨i.val / 128 % 8, Nat.mod_lt _ (by decide)⟩
abbrev rowAt (i : Fin 4096) : Fin 128 := ⟨i.val % 128, Nat.mod_lt _ (by decide)⟩

/-- The gathered array. -/
def G (c : Dev nD) : Vec F S4096x4096 .bf16 := fun i => tileH I (owner c (i 0)) (tileAt (i 0)) (ix2 (rowAt (i 0)) (i 1))
/-- The result: the own chunk as computed, the others as received, in f32. -/
def OUT (c : Dev nD) : Vec F S4096x4096 .f32 := fun i =>
  if owner c (i 0) = c then tileF I c (tileAt (i 0)) (ix2 (rowAt (i 0)) (i 1)) else FloatOps.extf .f32 bitsLt_bf16_f32 (G I c i)

theorem owner_nx (c : Dev nD) (i : Fin 4096) : owner (nx c) i = owner c i := by
  apply Fin.ext; show 4 * _ + 2 * (((c.val + 4) % 8) / 2 % 2) + _ = 4 * _ + 2 * _ + _; omega
theorem owner_nz (c : Dev nD) (i : Fin 4096) : owner (nz c) i = owner c i := by
  apply Fin.ext; show 4 * _ + 2 * (((2 * (c.val / 2) + (c.val + 1) % 2) % 8) / 2 % 2) + _ = 4 * _ + 2 * _ + _
  have : c.val < 8 := c.isLt
  omega
theorem G_nx (c : Dev nD) : G I (nx c) = G I c := by
  funext i; exact congrArg (fun o => tileH I o (tileAt (i 0)) (ix2 (rowAt (i 0)) (i 1))) (owner_nx c (i 0))
theorem G_nz (c : Dev nD) : G I (nz c) = G I c := by
  funext i; exact congrArg (fun o => tileH I o (tileAt (i 0)) (ix2 (rowAt (i 0)) (i 1))) (owner_nz c (i 0))

theorem owner_own (c : Dev nD) {n : ℕ} (h : c0 c ≤ n) (h' : n < c0 c + 1024) (hn : n < 4096) : owner c ⟨n, hn⟩ = c := by
  apply Fin.ext
  unfold c0 at h h'
  show 4 * (n / 2048) + 2 * ((c.val / 2) % 2) + (n / 1024) % 2 = c.val
  have : c.val < 8 := c.isLt
  omega
/-- Rows of another device's chunk are not the own. -/
theorem owner_ne (c d : Dev nD) (hd : c0 d ≠ c0 c) {n : ℕ} (h : c0 d ≤ n) (h' : n < c0 d + 1024) (hn : n < 4096) : owner c ⟨n, hn⟩ ≠ c := by
  intro e
  have e' : 4 * (n / 2048) + 2 * ((c.val / 2) % 2) + (n / 1024) % 2 = c.val := congrArg Fin.val e
  unfold c0 at h h' hd
  have : c.val < 8 := c.isLt
  have : d.val < 8 := d.isLt
  omega

/-- What a tile of 128 rows from row `n` reads. -/
theorem gTile_read {o h w} (f : Vec F S4096x4096 .bf16) {n : ℕ} (ho : o = ![n, 0]) (hn : n + 128 ≤ 4096) :
    (gTile o h w).m.view.read (Elt F) f = fun j => f (ix2 ⟨n + (j 0).val, by have := idx2_lt0 j; omega⟩ (j 1)) := by
  subst ho
  funext j
  show f _ = f _
  congr 1
  funext a
  match a with
  | ⟨0, _⟩ => exact Fin.ext (show n + 1 * (j 0).val = n + (j 0).val by omega)
  | ⟨1, _⟩ => exact Fin.ext (show 0 + 1 * (j 1).val = (j 1).val by omega)
theorem oTile_read {o h} (f : Vec F S4096x4096 .f32) {n : ℕ} (ho : o = ![n, 0]) (hn : n + 128 ≤ 4096) :
    (oTile o h).m.view.read (Elt F) f = fun j => f (ix2 ⟨n + (j 0).val, by have := idx2_lt0 j; omega⟩ (j 1)) := by
  subst ho
  funext j
  show f _ = f _
  congr 1
  funext a
  match a with
  | ⟨0, _⟩ => exact Fin.ext (show n + 1 * (j 0).val = n + (j 0).val by omega)
  | ⟨1, _⟩ => exact Fin.ext (show 0 + 1 * (j 1).val = (j 1).val by omega)

theorem own_tile (c : Dev nD) (t : Fin 8) (i : Fin 128) (h : c0 c + 128 * t.val + i.val < 4096) :
    owner c ⟨c0 c + 128 * t.val + i.val, h⟩ = c ∧ tileAt ⟨c0 c + 128 * t.val + i.val, h⟩ = t ∧ rowAt ⟨c0 c + 128 * t.val + i.val, h⟩ = i := by
  have := i.isLt; have := t.isLt
  refine ⟨owner_own c (by omega) (by omega) h, Fin.ext ?_, Fin.ext ?_⟩
  · show (c0 c + 128 * t.val + i.val) / 128 % 8 = t.val
    unfold c0; omega
  · show (c0 c + 128 * t.val + i.val) % 128 = i.val
    unfold c0; omega

/-- The gathered array's rows of the own tile `t` are that tile. -/
theorem gT_read (c : Dev nD) (t : Fin 8) : (gT c t).m.view.read (Elt F) (G I c) = tileH I c t := by
  have := c0_le c; have := t.isLt
  rw [gTile_read (G I c) (off2 c t) (by omega)]
  funext j
  obtain ⟨h1, h2, h3⟩ := own_tile c t (j 0) (by have := idx2_lt0 j; omega)
  show tileH I (owner c _) (tileAt _) (ix2 (rowAt _) (j 1)) = _
  rw [h1, h2, h3]
  exact congrArg (tileH I c t) (eq_ix2 j).symm
/-- The result's rows of the own tile `t` are that tile. -/
theorem oT_read (c : Dev nD) (t : Fin 8) : (oT c t).m.view.read (Elt F) (OUT I c) = tileF I c t := by
  have := c0_le c; have := t.isLt
  rw [oTile_read (OUT I c) (off2 c t) (by omega)]
  funext j
  obtain ⟨h1, h2, h3⟩ := own_tile c t (j 0) (by have := idx2_lt0 j; omega)
  show (if owner c _ = c then tileF I c (tileAt _) (ix2 (rowAt _) (j 1)) else _) = _
  rw [h1, h2, h3, if_pos rfl]
  exact congrArg (tileF I c t) (eq_ix2 j).symm

/-- The result's rows of a tile of another chunk are the gathered array's, in f32. -/
theorem conv_read (c d : Dev nD) (hd : c0 d ≠ c0 c) {o h w} {n k : ℕ} (ho : o = ![n, 0]) (hn : n = c0 d + k) (hk : k + 128 ≤ 1024) :
    (oTile o h).m.view.read (Elt F) (OUT I c) = extf .f32 ((gTile o h w).m.view.read (Elt F) (G I c)) bitsLt_bf16_f32 := by
  have := c0_le d
  rw [oTile_read (OUT I c) ho (by omega), gTile_read (G I c) ho (by omega)]
  funext j
  have := idx2_lt0 j
  show (if owner c _ = c then _ else _) = _
  rw [if_neg (owner_ne c d hd (by show _ ≤ n + (j 0).val; omega) (by omega) _)]
  rfl

/-- A block of the chunk sent along y lands in the neighbour's receive buffer. -/
theorem rc_read (c : Dev nD) (b : Fin 4) : (bBlk b).m.view.read (Elt F) (I.b c) = (rcBlk b).m.view.read (Elt F) (RC I (ny c)) := by
  funext j
  have e : Shape.reshapeEquiv squeezes_S1x256x4096_S256x4096.numel_eq j = ix3 (⟨0, Nat.one_pos⟩ : Fin 1) (j 0) (j 1) :=
    (congrArg _ (eq_ix2 j)).trans (reshapeEquiv_ix2_1ab _ _ _)
  refine Eq.trans ?_ (congrArg (fun z => RC I (ny c) ((rcRect b).emb z)) e.symm)
  show I.b c _ = I.b (ny (ny c)) _
  refine Eq.trans ?_ (congrArg (fun d => I.b d _) (ny_ny c).symm)
  refine congrArg (I.b c) ?_
  have := b.isLt; have := idx2_lt0 j
  funext a
  match a with
  | ⟨0, _⟩ => exact Fin.ext (show 256 * b.val + 1 * (j 0).val = (256 * (b.val + 1 * 0) + (0 + 1 * (j 0).val)) % 1024 by omega)
  | ⟨1, _⟩ => exact Fin.ext (show 0 + 1 * (j 1).val = 0 + 1 * (j 1).val by omega)

theorem pay9_eq (vp : Vec F S1x128x4096 .f32) (vr : Vec F S1x128x4096 .bf16) (vs : Vec F S1x128x4096 .f32) (vg : Vec F S1x4096 .f32) :
    k1_pay9 vp vr vs vg = up (e := .f32) (k1_pay8 vp vr vs vg) := rfl
theorem pay10_eq (vp : Vec F S1x128x4096 .f32) (vr : Vec F S1x128x4096 .bf16) (vs : Vec F S1x128x4096 .f32) (vg : Vec F S1x4096 .f32) :
    k1_pay10 vp vr vs vg = up (e := .bf16) (truncf .bf16 (k1_pay8 vp vr vs vg) bitsLt_bf16_f32) := rfl
theorem down_up {e : EltTy} (X : Vec F S128x4096 e) (h) : shapeCast S128x4096 (up X) h = X := by
  funext j
  show X _ = X j
  rw [Shape.reshapeEquiv_reshapeEquiv, Shape.reshapeEquiv_self]
theorem pay31_eq (X : Vec F S128x4096 .bf16) : k1_pay31 (up X) = up (e := .f32) (extf .f32 X bitsLt_bf16_f32) := by
  unfold k1_pay31; rw [down_up]

end Cert.KernelIdeal.Fused

end
-- ==== Proof.Sched.lean ====
module

public import proofs.«01_k».proof.Proof.Contents

@[expose] public section

noncomputable section

namespace Cert.KernelIdeal.Fused

open Idealize.ShloMosaic Idealize.ShloMosaic.TcCoe Idealize.SL Idealize.SL.Sem Idealize.SL.RA Idealize.SL.BI
open scoped Idealize.SL.BI
open Idealize.SL.BI.BIBase Idealize.SL.BI.Laws Idealize.SL.ProofMode
open Idealize.ShloMosaic.Rounds
open Cert.KernelIdeal Facts₀ Facts

variable {F : FTy → Type} [FloatOps F]

local notation "𝕄" => MT nD τ sig Unit (Elt F) ℕ UU ℕ

variable (I : In F)

/-! ## The protocol

Every device has one barrier cell and, for each block `b`, ten cells: for each of five exchanges `j` (along y; x; z; the
forwarding along x; the forwarding along z) the cell its own copy credits when sent (`2j`) and the one the neighbour's
copy credits when landed (`2j+1`). Each takes one round. The barrier's round is three units, one from each neighbour,
which hands over the buffers the device may copy into on that neighbour. -/

/-- The neighbour of exchange `j`. -/
def nb : Fin 5 → Dev nD → Dev nD
  | 0 => ny | 1 => nx | 2 => nz | 3 => nx | 4 => nz
theorem nb_nb (j : Fin 5) (c : Dev nD) : nb j (nb j c) = c := by revert j c; decide
def en (j : Fin 5) : Dev nD ≃ Dev nD := ⟨nb j, nb j, nb_nb j, nb_nb j⟩
/-- The neighbour a unit of the barrier comes from. -/
def bn : Fin 3 → Dev nD → Dev nD
  | 0 => nx | 1 => ny | 2 => nz
theorem bn_bn (d : Fin 3) (c : Dev nD) : bn d (bn d c) = c := by revert d c; decide
def eb (d : Fin 3) : Dev nD ≃ Dev nD := ⟨bn d, bn d, bn_bn d, bn_bn d⟩

abbrev sk (j : Fin 5) : Fin 10 := ⟨2 * j.val, by have := j.isLt; omega⟩
abbrev rk (j : Fin 5) : Fin 10 := ⟨2 * j.val + 1, by have := j.isLt; omega⟩

abbrev barCell (c : Dev nD) : GSem nD τ sig := ((c : Thread nD τ), .reg barS)
abbrev cell (c : Dev nD) (k : Fin 10) (b : Fin 4) : GSem nD τ sig := ((c : Thread nD τ), .dma (kS k b))

/-- The bytes of a block of 256 rows and of a tile of 128. -/
def NB : ℕ := bytes (bBlk 0)
def NH : ℕ := bytes (gT 0 0)
def amt (k : Fin 10) : ℕ := if k.val < 6 then NB else NH

theorem NB_pos : 0 < NB := View.dmaCredit_pos _ (by decide)
theorem NH_pos : 0 < NH := View.dmaCredit_pos _ (by decide)
theorem amt_pos (k : Fin 10) : 0 < amt k := by unfold amt; split; exacts [NB_pos, NH_pos]
theorem amt_sk_rk (j : Fin 5) : amt (sk j) = amt (rk j) := by
  fin_cases j <;> rfl

theorem bytes_bBlk (b : Fin 4) : bytes (bBlk b) = NB := rfl
theorem bytes_rcBlk (b : Fin 4) : bytes (rcBlk b) = NB := rfl
theorem bytes_gBlk {o h w} : bytes (gBlk o h w) = NB := rfl
theorem bytes_gTile {o h w} : bytes (gTile o h w) = NH := rfl

/-- The two halves a share splits into. -/
abbrev qL : PosShare TreeShare := fullShare.left
abbrev qR : PosShare TreeShare := fullShare.right

/-- Rows of the gathered array, of the result, with contents not named. -/
def gW (c : Dev nD) (n k : ℕ) : sProp 𝕄 := iprop(∃ f, gR c fullShare f n k)
def oW (c : Dev nD) (n k : ℕ) : sProp 𝕄 := iprop(∃ f, oR c f n k)
instance gW_storable (c : Dev nD) (n k : ℕ) : BI.Storable (upEmb : UEmb _ 𝕄) (gW (F := F) c n k) := by unfold gW; infer_instance

/-- What the copy of exchange kind `k`, block `b` hands to device `c` when it waits. -/
def pay (c : Dev nD) (k : Fin 10) (b : Fin 4) : sProp 𝕄 :=
  match k with
  | 0 => part c (bBlk b) fullShare (I.b c)
  | 1 => part c (rcBlk b) fullShare (RC I c)
  | 2 => gR c qL (G I c) (c0 c + 256 * b.val) 256
  | 3 => gR c fullShare (G I c) (c0 (nx c) + 256 * b.val) 256
  | 4 => gR c qR (G I c) (c0 c + 256 * b.val) 256
  | 5 => gR c fullShare (G I c) (c0 (nz c) + 256 * b.val) 256
  | 6 => gR c qL (G I c) (c0 (nz c) + 256 * b.val) 128
  | 7 => gR c fullShare (G I c) (c0 (nz (nx c)) + 256 * b.val) 128
  | 8 => gR c qL (G I c) (c0 (nx c) + 256 * b.val + 128) 128
  | 9 => gR c fullShare (G I c) (c0 (nz (nx c)) + 256 * b.val + 128) 128

/-- Where device `c` may copy block `b` of exchange `j`: the window on the neighbour, and that the neighbour's cell is open. -/
def room (c : Dev nD) (j : Fin 5) (b : Fin 4) : sProp 𝕄 :=
  iprop(reached ER (cell (nb j c) (rk j) b) 0 ∗
    match j with
    | 0 => raw (ny c) (rcBlk b)
    | 1 => gW (nx c) (c0 c + 256 * b.val) 256
    | 2 => gW (nz c) (c0 c + 256 * b.val) 256
    | 3 => gW (nx c) (c0 (nz c) + 256 * b.val) 128
    | 4 => gW (nz c) (c0 (nx c) + 256 * b.val + 128) 128)

def rooms (c : Dev nD) (j : Fin 5) : sProp 𝕄 := iprop(room c j 0 ∗ room c j 1 ∗ room c j 2 ∗ room c j 3)

/-- What the unit of the neighbour `d` on `c`'s barrier hands over. -/
def barPay (c : Dev nD) (d : Fin 3) : sProp 𝕄 :=
  match d with
  | 0 => iprop(rooms c 1 ∗ rooms c 3)
  | 1 => rooms c 0
  | 2 => iprop(rooms c 2 ∗ rooms c 4)

instance pay_storable (c : Dev nD) (k : Fin 10) (b : Fin 4) : BI.Storable (upEmb : UEmb _ 𝕄) (pay I c k b) := by
  unfold pay; (repeat' split) <;> infer_instance
instance room_storable (c : Dev nD) (j : Fin 5) (b : Fin 4) : BI.Storable (upEmb : UEmb _ 𝕄) (room (F := F) c j b) := by
  unfold room; fin_cases j <;> dsimp only <;> infer_instance
instance barPay_storable (c : Dev nD) (d : Fin 3) : BI.Storable (upEmb : UEmb _ 𝕄) (barPay (F := F) c d) := by
  unfold barPay rooms; (repeat' split) <;> infer_instance

/-- The kind and the block a semaphore serves. -/
def kOf (s : DmaSem sig) : Fin 10 := ⟨(s.val - 4) / 4 % 10, Nat.mod_lt _ (by decide)⟩
def bOf (s : DmaSem sig) : Fin 4 := ⟨(s.val - 4) % 4, Nat.mod_lt _ (by decide)⟩
theorem kOf_kS (k : Fin 10) (b : Fin 4) : kOf (kS k b) = k := by revert k b; decide
theorem bOf_kS (k : Fin 10) (b : Fin 4) : bOf (kS k b) = b := by revert k b; decide

/-- The duties of a semaphore in its one round. -/
def duty : SemLoc sig → Finset (Fin 3)
  | .reg s => if s = barS then Finset.univ else ∅
  | .dma s => if 4 ≤ s.val ∧ s.val < 44 then {0} else ∅

def Rd : Rounds.Schedule (GSem nD τ sig) (Fin 3) 𝕄 where
  duties g r := if r = 0 ∧ g.1.2 = .tc then duty g.2 else ∅
  amount g _ _ := match g.2 with
    | .reg _ => 1
    | .dma s => amt (kOf s)
  payload g _ d := match g.2 with
    | .reg _ => barPay g.1.1 d
    | .dma s => pay I g.1.1 (kOf s) (bOf s)
  amount_pos g _ _ _ := by
    obtain ⟨t, s | s⟩ := g
    · exact Nat.one_pos
    · exact amt_pos _

instance Rd_payload_storable (g : GSem nD τ sig) (r : ℕ) (d : Fin 3) : BI.Storable (upEmb : UEmb _ 𝕄) ((Rd I).payload g r d) := by
  obtain ⟨t, s | s⟩ := g
  · exact barPay_storable _ _
  · exact pay_storable I _ _ _

section
variable (c : Dev nD) (k : Fin 10) (b : Fin 4)

theorem duties_bar : (Rd I).duties (barCell c) 0 = Finset.univ := by
  dsimp only [Rd]; rw [if_pos ⟨rfl, rfl⟩]; exact (if_pos rfl : (if barS = barS then (Finset.univ : Finset (Fin 3)) else ∅) = _)
theorem duties_cell : (Rd I).duties (cell c k b) 0 = {0} := by
  dsimp only [Rd]; rw [if_pos ⟨rfl, rfl⟩]
  exact if_pos ⟨by show 4 ≤ 4 + _; omega, by have := k.isLt; have := b.isLt; show 4 + (4 * k.val + b.val) < 44; omega⟩
theorem duties_later (g : GSem nD τ sig) : ∀ r, 1 ≤ r → (Rd I).duties g r = ∅ := fun r hr => by
  dsimp only [Rd]; exact if_neg fun h => by omega
theorem amount_bar (d : Fin 3) : (Rd I).amount (barCell c) 0 d = 1 := rfl
theorem amount_cell (d : Fin 3) : (Rd I).amount (cell c k b) 0 d = amt k := by
  show amt (kOf (kS k b)) = _; rw [kOf_kS]
theorem payload_bar (d : Fin 3) : (Rd I).payload (barCell c) 0 d = barPay c d := rfl
theorem payload_cell (d : Fin 3) : (Rd I).payload (cell c k b) 0 d = pay I c k b := by
  show pay I c (kOf (kS k b)) (bOf (kS k b)) = _; rw [kOf_kS, bOf_kS]
theorem expect_bar : (Rd I).expect (barCell c) 0 = 3 := by
  unfold Schedule.expect Schedule.amountOf; rw [duties_bar]; rfl
theorem expect_cell : (Rd I).expect (cell c k b) 0 = amt k := by
  unfold Schedule.expect Schedule.amountOf; rw [duties_cell, Finset.sum_singleton, amount_cell]
theorem rest_bar : (bigSep ((Rd I).duties (barCell c) 0 \ ∅) fun d => (Rd I).payload (barCell c) 0 d)
    = iprop(barPay c 0 ∗ barPay c 1 ∗ barPay c 2) := by
  rw [Finset.sdiff_empty, duties_bar, show (Finset.univ : Finset (Fin 3)) = {0, 1, 2} from by decide, bigSep_insert (by decide),
    bigSep_insert (by decide), bigSep_singleton]
  rfl
theorem rest_cell : (bigSep ((Rd I).duties (cell c k b) 0 \ ∅) fun d => (Rd I).payload (cell c k b) 0 d) = pay I c k b := by
  rw [Finset.sdiff_empty, duties_cell, bigSep_singleton, payload_cell]
end

/-! ## The cells and their invariants -/

def barEmb : Dev nD ↪ GSem nD τ sig := ⟨barCell, fun a b h => by simpa [barCell] using h⟩
def scEmb : Dev nD × (Fin 10 × Fin 4) ↪ GSem nD τ sig := ⟨fun p => cell p.1 p.2.1 p.2.2, fun p p' h => by
  obtain ⟨a, k, b⟩ := p; obtain ⟨a', k', b'⟩ := p'
  have h1 : a = a' := by simpa using congrArg (fun g : GSem nD τ sig => g.1.1) h
  have h2 : (SemLoc.dma (kS k b) : SemLoc sig) = .dma (kS k' b') := congrArg Prod.snd h
  have h3 : kS k b = kS k' b' := SemLoc.dma.inj h2
  rw [h1, show k = k' by rw [← kOf_kS k b, h3, kOf_kS], show b = b' by rw [← bOf_kS k b, h3, bOf_kS]]⟩
def barCells : Finset (GSem nD τ sig) := Finset.univ.map barEmb
def scCells : Finset (GSem nD τ sig) := Finset.univ.map scEmb

theorem bar_mem (c : Dev nD) : barCell c ∈ (barCells ∪ scCells : Finset (GSem nD τ sig)) :=
  Finset.mem_union_left _ (Finset.mem_map_of_mem barEmb (Finset.mem_univ c))
theorem cell_mem (c : Dev nD) (k : Fin 10) (b : Fin 4) : cell c k b ∈ (barCells ∪ scCells : Finset (GSem nD τ sig)) :=
  Finset.mem_union_right _ (Finset.mem_map_of_mem scEmb (Finset.mem_univ (c, (k, b))))

/-- What every device may consult: the invariants of all cells; that every barrier cell is open; the levels. -/
def recs (κ : GSem nD τ sig → ℕ) : sProp 𝕄 :=
  iprop((bigSep (barCells ∪ scCells) fun g => cellInv ER (Rd I) (κ g) g) ∗ (bigSep barCells fun g => reached ER g 0) ∗ levAts L lv)
instance recs_persistent (κ : GSem nD τ sig → ℕ) : BI.Persistent (recs I κ) := by unfold recs; infer_instance

/-- One of a family held. -/
theorem bigSep_one {ι : Type} [DecidableEq ι] {s : Finset ι} {i : ι} {Φ : ι → sProp 𝕄} (h : i ∈ s) : bigSep s Φ ⊢ Φ i := bigSep_elim h

theorem recs_bar (κ : GSem nD τ sig → ℕ) (c : Dev nD) : (recs I κ : sProp 𝕄) ⊢ cellInv ER (Rd I) (κ (barCell c)) (barCell c) := by
  unfold recs; iintro ⟨H, -⟩; iapply (bigSep_one (Φ := fun g => (cellInv ER (Rd I) (κ g) g : sProp 𝕄)) (bar_mem c)); iexact H
theorem recs_cell (κ : GSem nD τ sig → ℕ) (c : Dev nD) (k : Fin 10) (b : Fin 4) :
    (recs I κ : sProp 𝕄) ⊢ cellInv ER (Rd I) (κ (cell c k b)) (cell c k b) := by
  unfold recs; iintro ⟨H, -⟩; iapply (bigSep_one (Φ := fun g => (cellInv ER (Rd I) (κ g) g : sProp 𝕄)) (cell_mem c k b)); iexact H
theorem recs_reached (κ : GSem nD τ sig → ℕ) (c : Dev nD) : (recs I κ : sProp 𝕄) ⊢ reached ER (barCell c) 0 := by
  unfold recs; iintro ⟨-, H, -⟩; iapply (bigSep_one (Φ := fun g => (reached ER g 0 : sProp 𝕄)) (Finset.mem_map_of_mem barEmb (Finset.mem_univ c))); iexact H
theorem recs_lev (κ : GSem nD τ sig → ℕ) : (recs I κ : sProp 𝕄) ⊢ levAts L lv := by
  unfold recs; iintro ⟨-, -, H⟩; iexact H

/-- What device `c` may consult inside the kernel: also that its own cells are open. -/
def ctx (κ : GSem nD τ sig → ℕ) (c : Dev nD) : sProp 𝕄 :=
  iprop(recs I κ ∗ bigSep Finset.univ fun p : Fin 10 × Fin 4 => reached ER (cell c p.1 p.2) 0)
instance ctx_persistent (κ : GSem nD τ sig → ℕ) (c : Dev nD) : BI.Persistent (ctx I κ c) := by unfold ctx; infer_instance
theorem ctx_recs (κ : GSem nD τ sig → ℕ) (c : Dev nD) : (ctx I κ c : sProp 𝕄) ⊢ recs I κ := by
  unfold ctx; iintro ⟨H, -⟩; iexact H
theorem ctx_opened (κ : GSem nD τ sig → ℕ) (c : Dev nD) (k : Fin 10) (b : Fin 4) : (ctx I κ c : sProp 𝕄) ⊢ reached ER (cell c k b) 0 := by
  unfold ctx; iintro ⟨-, H⟩; iapply (bigSep_one (Φ := fun p : Fin 10 × Fin 4 => (reached ER (cell c p.1 p.2) 0 : sProp 𝕄)) (Finset.mem_univ (k, b))); iexact H

/-! ## What a core owes -/

/-- The units to pay, in the order they are paid. -/
def dues (c : Dev nD) : List (GSem nD τ sig × ℕ) :=
  [(barCell (nx c), 1), (barCell (ny c), 1), (barCell (nz c), 1)]
    ++ ([0, 1, 2, 3].map fun b => (cell (nb 0 c) (rk 0) b, amt (rk 0)))
    ++ ([0, 1, 2, 3].flatMap fun b => [(cell (nb 1 c) (rk 1) b, amt (rk 1)), (cell (nb 2 c) (rk 2) b, amt (rk 2))])
    ++ ([0, 1, 2, 3].flatMap fun b => [(cell (nb 3 c) (rk 3) b, amt (rk 3)), (cell (nb 4 c) (rk 4) b, amt (rk 4))])

/-- All that is in a list owed. -/
def due : List (GSem nD τ sig × ℕ) → CellTallies nD τ sig Unit
  | [] => 0
  | p :: l => due l + tallyAt p.1 () p.2

/-- What is owed after `n` payments. -/
def Ow (c : Dev nD) (n : ℕ) : CellTallies nD τ sig Unit := due ((dues c).drop n)

theorem above_due (m : ℕ) (l : List (GSem nD τ sig × ℕ)) (h : ∀ p ∈ l, p.1.1.2 = .tc ∧ m < lvl p.1.2) : Above m (due l) := by
  induction l with
  | nil => exact Above.zero m
  | cons p l ih =>
    refine (ih fun p' hp' => h p' (List.mem_cons_of_mem _ hp')).add ?_
    obtain ⟨⟨⟨d, t⟩, sm⟩, n⟩ := p
    obtain ⟨h1, h2⟩ := h _ List.mem_cons_self
    obtain rfl : t = .tc := h1
    exact Above.tally d sm n h2

end Cert.KernelIdeal.Fused

end
-- ==== Proof.Talk.lean ====
module

public import proofs.«01_k».proof.Proof.Sched

@[expose] public section

noncomputable section

namespace Cert.KernelIdeal.Fused

open Idealize.ShloMosaic Idealize.ShloMosaic.TcCoe Idealize.SL Idealize.SL.Sem Idealize.SL.RA Idealize.SL.BI
open scoped Idealize.SL.BI
open Idealize.SL.BI.BIBase Idealize.SL.BI.Laws Idealize.SL.ProofMode
open Idealize.ShloMosaic.Rounds
open Cert.KernelIdeal Facts₀ Facts

variable {F : FTy → Type} [FloatOps F]

local notation "𝕄" => MT nD τ sig Unit (Elt F) ℕ UU ℕ

variable (I : In F) (κ : GSem nD τ sig → ℕ) (c : Dev nD)

/-- A copy into the neighbour's buffer: the source goes, the tokens of both cells are spent, one unit owed is paid, and
    the credit to wait for the own side comes back. -/
theorem wp_sendT (j : Fin 5) (b : Fin 4) {sp sp' : Space} {s : Shape} {e : EltTy} {src : WM sp s e} {dst : WM sp' s e}
    {d : Dev nD} {ks kr : Fin 10} {h} {k : P F} {Q : PUnit → sProp 𝕄} {q : PosShare TreeShare}
    {fs : Buf (Elt F) (src.m.view.loc (c : Thread nD τ))} (f' : Buf (Elt F) (dst.m.view.loc (nb j c : Thread nD τ)))
    (hd : d = nb j c) (hs : ks = sk j) (hr : kr = rk j) (hN : bytes dst = amt (rk j))
    (hread : src.m.view.read (Elt F) fs = dst.m.view.read (Elt F) f')
    (h₁ : (part c src q fs : sProp 𝕄) ⊢ pay I c (sk j) b) (h₂ : (part (nb j c) dst fullShare f' : sProp 𝕄) ⊢ pay I (nb j c) (rk j) b)
    {O₀ : CellTallies nD τ sig Unit} (O : CellTallies nD τ sig Unit) (hO : O₀ = O + tallyAt (cell (nb j c) (rk j) b) () (amt (rk j))) :
    iprop(ctx I κ c ∗ part c src q fs ∗ raw (nb j c) dst ∗ owesA c O₀ ∗ dutyTok ER (cell c (sk j) b) 0 0
        ∗ dutyTok ER (cell (nb j c) (rk j) b) 0 0 ∗ reached ER (cell (nb j c) (rk j) b) 0)
      ⊢ iprop(((cred (tallyAt (cell c (sk j) b) () (amt (sk j))) ∗ owesA c O) -∗ runs c k Q)
          -∗ runs c (send d src dst (kS ks b) (kS kr b) h k) Q) := by
  subst hd hs hr
  unfold raw owesA
  iintro ⟨#Hc, Hs, ⟨%fd, Hd⟩, ⟨%W, Ho⟩, Ht, Ht', Hr'⟩ Hk
  have pay₂ : (dst.m.view.loc (nb j c : Thread nD τ) ↦[dst.m.view.set]{fullShare} (dst.m.view.write (Elt F) fd (src.m.view.read (Elt F) fs) Finset.univ) : sProp 𝕄)
      ⊢ (Rd I).payload (cell (nb j c) (rk j) b) 0 0 := by
    rw [payload_cell, hread]
    refine entails_trans ?_ h₂
    rw [← holds_read]
    unfold holds owns
    iintro H
    iexists _
    isplitr
    rotate_left
    · iexact H
    · ipureintro; rw [View.read_write_univ]
  iapply (Rounds.wp_send_pointsTo 𝒱₀ ER (Rd I) (c : Thread nD τ) none (c' := (nb j c : Thread nD τ)) (κ₁ := κ (cell c (sk j) b)) (κ₂ := κ (cell (nb j c) (rk j) b))
    (sS := .dma (kS (sk j) b)) (sem := .dma (kS (rk j) b)) (src := src.m) (dst := dst.m)
    (r₁ := 0) (r₂ := 0) (d₁ := 0) (d₂ := 0)
    (by rw [duties_cell]; exact Finset.mem_singleton_self _) (by rw [duties_cell]; exact Finset.mem_singleton_self _)
    () () (amt (rk j)) hN (by rw [amount_cell, amt_sk_rk]) (by rw [amount_cell]) O hO
    (by rw [payload_cell]; exact h₁) pay₂) $$ [Hs Hd Ho Ht Ht' Hr']
  · isplitl []; · iapply (recs_cell I κ); iapply (ctx_recs I κ c); iexact Hc
    isplitl []; · iapply (recs_cell I κ); iapply (ctx_recs I κ c); iexact Hc
    isplitl [Hs]; · iexact Hs
    isplitl [Hd]; · iexact Hd
    isplitl [Ho]; · iexact Ho
    isplitl [Ht]; · iexact Ht
    isplitl []; · iapply (ctx_opened I κ c); iexact Hc
    isplitl [Ht']; · iexact Ht'
    iexact Hr'
  iintro ⟨Hcr, Ho⟩
  iapply Hk
  rw [amt_sk_rk]
  isplitl [Hcr]; · iexact Hcr
  iexists W; iexact Ho

/-- The wait at one of the cells: its payload comes. -/
theorem wp_waitT (kk : Fin 10) (b : Fin 4) {sp sp' : Space} {s s' : Shape} {e e' : EltTy} {src : WM sp s e} {dst : WM sp' s' e'}
    {k : P F} {Q : PUnit → sProp 𝕄} {O : CellTallies nD τ sig Unit} (hN : bytes dst = amt kk) (hO : Above (lvl (.dma (kS kk b))) O) :
    iprop(ctx I κ c ∗ cred (tallyAt (cell c kk b) () (amt kk)) ∗ owesA c O ∗ atPos ER (cell c kk b) 0 ∅ 0)
      ⊢ iprop(((owesA c O ∗ atPos ER (cell c kk b) (0 + 1) ∅ 0 ∗ pay I c kk b) -∗ runs c k Q)
          -∗ runs c (await (kS kk b) src dst k) Q) := by
  unfold owesA
  iintro ⟨#Hc, Hcr, ⟨%W, Ho⟩, Ha⟩ Hk
  iapply (Rounds.wp_wait_rest_token 𝒱₀ ER (Rd I) (c : Thread nD τ) none (κ := κ (cell c kk b))
    (wpE_waitDma2_eq 𝒱₀ (c : Thread nD τ) none Set.univ) (Set.mem_univ _) () (O := O) (W := W) (R := 0) (m := 0) (T := ∅)
    (sm := .dma (kS kk b))
    (by rw [Nat.zero_add]; exact hN.trans (expect_cell I c kk b).symm)) $$ [Hcr Ho Ha]
  · isplitl []; · iapply (recs_cell I κ); iapply (ctx_recs I κ c); iexact Hc
    isplitl [Hcr]; · iapply (show (cred (tallyAt (cell c kk b) () (amt kk)) : sProp 𝕄) ⊢ cred (tallyAt (cell c kk b) () (bytes dst)) from by rw [hN]); iexact Hcr
    isplitl [Ho]; · iexact Ho
    isplitl []; · iapply (mayWait c (.dma (kS kk b)) hO); iapply (recs_lev I κ); iapply (ctx_recs I κ c); iexact Hc
    iexact Ha
  rw [rest_cell]
  iintro ⟨Ho, Ha, -, Hp⟩
  iapply Hk
  isplitl [Ho]; · iexists _; iexact Ho
  isplitl [Ha]; · iexact Ha
  iexact Hp

/-- One of the three signals: the neighbour gets what it may use. -/
theorem wp_signalT (d : Fin 3) {n : ℕ} {c' : Dev nD} {k : P F} {Q : PUnit → sProp 𝕄} {O₀ : CellTallies nD τ sig Unit} (O : CellTallies nD τ sig Unit)
    (hn : n = 1) (hd : c' = bn d c) (hO : O₀ = O + tallyAt (barCell (bn d c)) () 1) :
    iprop(ctx I κ c ∗ owesA c O₀ ∗ dutyTok ER (barCell (bn d c)) 0 d ∗ barPay (bn d c) d)
      ⊢ iprop((owesA c O -∗ runs c k Q) -∗ runs c (.op (.semSignal (c', .tc) barS n) fun _ => k) Q) := by
  subst hn hd
  unfold owesA
  iintro ⟨#Hc, ⟨%W, Ho⟩, Ht, Hp⟩ Hk
  iapply (Rounds.wp_signal 𝒱₀ ER (Rd I) (c : Thread nD τ) none (dst := (bn d c : Thread nD τ)) (sem := barS) (r := 0) (d := d)
    (κ := κ (barCell (bn d c))) (by rw [duties_bar]; exact Finset.mem_univ d) rfl () O hO) $$ [Ho Ht Hp]
  · isplitl []; · iapply (recs_bar I κ); iapply (ctx_recs I κ c); iexact Hc
    isplitl [Ho]; · iexact Ho
    isplitl [Ht]; · iexact Ht
    isplitl [Hp]; · iapply (show (barPay (bn d c) d : sProp 𝕄) ⊢ (Rd I).payload (barCell (bn d c)) 0 d from entails_refl _); iexact Hp
    iapply (recs_reached I κ); iapply (ctx_recs I κ c); iexact Hc
  iintro Ho
  iapply Hk
  iexists W; iexact Ho

/-- The wait for the three units. -/
theorem wp_waitBar {n : ℕ} {k : P F} {Q : PUnit → sProp 𝕄} {O : CellTallies nD τ sig Unit} (hn : n = 3) (hO : Above 1 O) :
    iprop(ctx I κ c ∗ cred (tallyAt (barCell c) () 3) ∗ owesA c O ∗ atPos ER (barCell c) 0 ∅ 0)
      ⊢ iprop(((owesA c O ∗ atPos ER (barCell c) (0 + 1) ∅ 0 ∗ barPay c 0 ∗ barPay c 1 ∗ barPay c 2) -∗ runs c k Q)
          -∗ runs c (.op (.semWait barS n) fun _ => k) Q) := by
  subst hn
  unfold owesA
  iintro ⟨#Hc, Hcr, ⟨%W, Ho⟩, Ha⟩ Hk
  iapply (Rounds.wp_wait_rest_token 𝒱₀ ER (Rd I) (c : Thread nD τ) none (κ := κ (barCell c))
    (wpE_semWait_eq 𝒱₀ (c : Thread nD τ) none Set.univ) (Set.mem_univ _) () (O := O) (W := W) (R := 0) (m := 0) (T := ∅)
    (sm := .reg barS)
    (by rw [Nat.zero_add]; exact (expect_bar I c).symm)) $$ [Hcr Ho Ha]
  · isplitl []; · iapply (recs_bar I κ); iapply (ctx_recs I κ c); iexact Hc
    isplitl [Hcr]; · iexact Hcr
    isplitl [Ho]; · iexact Ho
    isplitl []; · iapply (mayWait c (.reg barS) hO); iapply (recs_lev I κ); iapply (ctx_recs I κ c); iexact Hc
    iexact Ha
  rw [rest_bar]
  iintro ⟨Ho, Ha, -, Hp⟩
  iapply Hk
  isplitl [Ho]; · iexists _; iexact Ho
  isplitl [Ha]; · iexact Ha
  iexact Hp

end Cert.KernelIdeal.Fused

end
-- ==== Proof.Tiles.lean ====
module

public import proofs.«01_k».proof.Proof.Talk

@[expose] public section

noncomputable section

namespace Cert.KernelIdeal.Fused

open Idealize.ShloMosaic Idealize.ShloMosaic.TcCoe Idealize.SL Idealize.SL.Sem Idealize.SL.RA Idealize.SL.BI
open scoped Idealize.SL.BI
open Idealize.SL.BI.BIBase Idealize.SL.BI.Laws Idealize.SL.ProofMode
open Idealize.ShloMosaic.Rounds
open Cert.KernelIdeal Facts₀ Facts

variable {F : FTy → Type} [FloatOps F]

local notation "𝕄" => MT nD τ sig Unit (Elt F) ℕ UU ℕ

variable (I : In F) (c : Dev nD)

theorem of_eq {P Q : sProp 𝕄} (h : P = Q) : P ⊢ Q := by rw [h]
theorem lvl_lS (k : Fin 5) (s : Fin 2) : lvl (.dma (lS k s)) = 0 := by revert k s; decide

/-! ## The scales -/

theorem gv_read (f : Vec F S1x4096 .f32) :
    (gvM.access (Rect.unit (s := S1x4096) ![0, 0] S1x4096.size inb_S1x4096_S1x4096_0_0)).read (Elt F) f = f := by
  funext j
  show f _ = f j
  congr 1
  funext a
  apply Fin.ext
  refine (Rect.emb_apply (Rect.unit (s := S1x4096) ![0, 0] S1x4096.size inb_S1x4096_S1x4096_0_0) j a).trans ?_
  match a with
  | ⟨0, _⟩ => show 0 + 1 * (j 0).val = (j 0).val; omega
  | ⟨1, _⟩ => show 0 + 1 * (j 1).val = (j 1).val; omega

/-- The row of scales is fetched. -/
theorem wp_getGamma {k : P F} {Q : PUnit → sProp 𝕄} {O : CellTallies nD τ sig Unit} (hO : Above 0 O) :
    iprop(part c gamV fullShare (I.g c) ∗ raw c gvV ∗ semVal ((c : Thread nD τ), .dma gS) 0 ∗ owesA c O ∗ levAts L lv)
      ⊢ iprop(((part c gamV fullShare (I.g c) ∗ part c gvV fullShare (I.g c) ∗ semVal ((c : Thread nD τ), .dma gS) 0 ∗ owesA c O) -∗ runs c k Q)
        -∗ runs c (getGamma k) Q) := by
  rw [← holds_read c gamV, ← holds_read c gvV]
  iintro ⟨Hg, Hv, Hs, Ho, Hl⟩ Hk
  iapply (wp_copy c (by decide)) $$ [Hg Hv Hs]
  · isplitl [Hg]; · iexact Hg
    isplitl [Hv]; · iexact Hv
    iexact Hs
  iintro Hf
  iapply (wp_await c (by exact hO)) $$ [Hf Ho Hl]
  · isplitl [Hf]; · iexact Hf
    isplitl [Ho]; · iexact Ho
    iexact Hl
  iintro ⟨Hd, Hg, Hs, Ho⟩
  iapply Hk
  isplitl [Hg]; · iexact Hg
  isplitl [Hd]; · iexact Hd
  isplitl [Hs]; · iexact Hs
  iexact Ho

/-! ## Fetching a tile -/

/-- The share of the arguments slot `s` reads with. -/
abbrev qs (s : Fin 2) : PosShare TreeShare := if s = 0 then qL else qR

/-- A buffer held is one window of it and the rest. -/
theorem carve {sp : Space} {s : Shape} {e : EltTy} (w : WM sp s e) (q : PosShare TreeShare) (f : Buf (Elt F) (w.m.view.loc (c : Thread nD τ))) :
    (w.m.view.loc (c : Thread nD τ) ↦{q} f : sProp 𝕄)
      = iprop(part c w q f ∗ (w.m.view.loc (c : Thread nD τ) ↦[Finset.univ \ w.m.view.set]{q} f)) := by
  have e := pointsTo_union (Ix := Unit) (Name := ℕ) (U := UU) (Lvl := ℕ) (ℓ := w.m.view.loc (c : Thread nD τ)) (q := q) (f := f)
    (Finset.disjoint_sdiff (s := w.m.view.set) (t := Finset.univ))
  rw [Finset.union_sdiff_of_subset (Finset.subset_univ _)] at e
  exact BI.equiv_iff.mp ⟨e.1, e.2⟩

/-- Slot `s` at rest: its two buffers, their semaphores, its share of the arguments. -/
def idle (s : Fin 2) : sProp 𝕄 :=
  iprop(raw c (fSlot psM s) ∗ raw c (fSlot rsM s) ∗ semVal ((c : Thread nD τ), .dma (lS 0 s)) 0 ∗ semVal ((c : Thread nD τ), .dma (lS 1 s)) 0
    ∗ (pM.view.loc (c : Thread nD τ) ↦{qs s} I.p c) ∗ (resM.view.loc (c : Thread nD τ) ↦{qs s} I.r c))
/-- Slot `s` with the fetches of tile `t` on their way. -/
def fetching (s : Fin 2) (t : Fin 8) : sProp 𝕄 :=
  iprop(flying c (lS 0 s) (pT c t) (fSlot psM s) (qs s) ((pT c t).m.view.read (Elt F) (I.p c))
    ∗ flying c (lS 1 s) (rT c t) (fSlot rsM s) (qs s) ((rT c t).m.view.read (Elt F) (I.r c))
    ∗ ((pT c t).m.view.loc (c : Thread nD τ) ↦[Finset.univ \ (pT c t).m.view.set]{qs s} I.p c)
    ∗ ((rT c t).m.view.loc (c : Thread nD τ) ↦[Finset.univ \ (rT c t).m.view.set]{qs s} I.r c))

theorem wp_fetch {s : Fin 2} {t : Fin 8} {k : P F} {Q : PUnit → sProp 𝕄} :
    (idle I c s : sProp 𝕄) ⊢ iprop((fetching I c s t -∗ runs c k Q) -∗ runs c (fetch (pT c t) (rT c t) s k) Q) := by
  unfold idle fetching
  have ep : (pM.view.loc (c : Thread nD τ) ↦{qs s} I.p c : sProp 𝕄)
      ⊢ iprop(holds c (pT c t) (qs s) ((pT c t).m.view.read (Elt F) (I.p c)) ∗ ((pT c t).m.view.loc (c : Thread nD τ) ↦[Finset.univ \ (pT c t).m.view.set]{qs s} I.p c)) := by
    rw [holds_read]; exact of_eq (carve c (pT c t) (qs s) (I.p c))
  have er : (resM.view.loc (c : Thread nD τ) ↦{qs s} I.r c : sProp 𝕄)
      ⊢ iprop(holds c (rT c t) (qs s) ((rT c t).m.view.read (Elt F) (I.r c)) ∗ ((rT c t).m.view.loc (c : Thread nD τ) ↦[Finset.univ \ (rT c t).m.view.set]{qs s} I.r c)) := by
    rw [holds_read]; exact of_eq (carve c (rT c t) (qs s) (I.r c))
  iintro ⟨Hp, Hr, Hvp, Hvr, Ha, Hb⟩ Hk
  icases (ep) $$ Ha with ⟨Ha, Ha'⟩
  icases (er) $$ Hb with ⟨Hb, Hb'⟩
  iapply (wp_copy c (by decide)) $$ [Hp Hvp Ha]
  · isplitl [Ha]; · iexact Ha
    isplitl [Hp]; · iexact Hp
    iexact Hvp
  iintro Hf
  iapply (wp_copy c (by decide)) $$ [Hr Hvr Hb]
  · isplitl [Hb]; · iexact Hb
    isplitl [Hr]; · iexact Hr
    iexact Hvr
  iintro Hf'
  iapply Hk
  isplitl [Hf]; · iexact Hf
  isplitl [Hf']; · iexact Hf'
  isplitl [Ha']; · iexact Ha'
  iexact Hb'

/-! ## One tile -/

/-- The write back buffers of slot `s`. -/
def wr (s : Fin 2) : sProp 𝕄 :=
  iprop(raw (F := F) c (fSlot coM s) ∗ raw (F := F) c (hSlot ntM (Memref.isWhole_whole _) s)
    ∗ semVal ((c : Thread nD τ), .dma (lS 3 s)) 0 ∗ semVal ((c : Thread nD τ), .dma (lS 2 s)) 0)

theorem half_sub (b : Fin 4) (h : Fin 2) : (rcM.access (rcHalf b h)).set ⊆ (rcBlk b).m.view.set := by
  rw [show (rcBlk b).m.view.set = (rcRect b).set from by rw [View.set_reshape]; exact View.set_slice_whole _ _,
    show (rcM.access (rcHalf b h)).set = (rcHalf b h).set from View.set_slice_whole _ _]
  intro i hi
  rw [Rect.mem_set_unit] at hi ⊢
  intro a
  have ha := hi a
  have hh : h.val < 2 := h.isLt
  match a with
  | ⟨0, _⟩ => exact ha
  | ⟨1, _⟩ =>
    have h2 : 128 * h.val ≤ (i 1).val ∧ (i 1).val < 128 * h.val + 128 := ha
    show 0 ≤ (i 1).val ∧ (i 1).val < 0 + 256
    omega
  | ⟨2, _⟩ => exact ha

/-- Tile `t` is computed and written to its rows of the result and of the gathered array. -/
theorem wp_tile {s : Fin 2} {t : Fin 8} {b : Fin 4} {k : P F} {Q : PUnit → sProp 𝕄} {O : CellTallies nD τ sig Unit}
    (hb : blkOf t = b) (hs : halfOf t = s) (hO : Above 0 O) :
    iprop(fetching I c s t ∗ part c (rcBlk b) fullShare (RC I c) ∗ part c gvV fullShare (I.g c) ∗ wr c s
        ∗ oW (F := F) c (c0 c + 128 * t.val) 128 ∗ gW (F := F) c (c0 c + 128 * t.val) 128 ∗ owesA c O ∗ levAts L lv)
      ⊢ iprop(((idle I c s ∗ part c (rcBlk b) fullShare (RC I c) ∗ part c gvV fullShare (I.g c) ∗ wr c s
          ∗ oR c (OUT I c) (c0 c + 128 * t.val) 128 ∗ gR c fullShare (G I c) (c0 c + 128 * t.val) 128 ∗ owesA c O) -∗ runs c k Q)
        -∗ runs c (tile b s (pT c t) (rT c t) (oT c t) (gT c t) k) Q) := by
  subst hb hs
  unfold idle fetching wr oW gW
  have ep : iprop(holds c (pT c t) (qs (halfOf t)) ((pT c t).m.view.read (Elt F) (I.p c)) ∗ ((pT c t).m.view.loc (c : Thread nD τ) ↦[Finset.univ \ (pT c t).m.view.set]{qs (halfOf t)} I.p c))
      ⊢ (pM.view.loc (c : Thread nD τ) ↦{qs (halfOf t)} I.p c : sProp 𝕄) := by
    rw [holds_read]; exact of_eq (carve c (pT c t) (qs (halfOf t)) (I.p c)).symm
  have er : iprop(holds c (rT c t) (qs (halfOf t)) ((rT c t).m.view.read (Elt F) (I.r c)) ∗ ((rT c t).m.view.loc (c : Thread nD τ) ↦[Finset.univ \ (rT c t).m.view.set]{qs (halfOf t)} I.r c))
      ⊢ (resM.view.loc (c : Thread nD τ) ↦{qs (halfOf t)} I.r c : sProp 𝕄) := by
    rw [holds_read]; exact of_eq (carve c (rT c t) (qs (halfOf t)) (I.r c)).symm
  have ew : (holds c (oT c t) fullShare (tileF I c t) : sProp 𝕄) ⊢ oR c (OUT I c) (c0 c + 128 * t.val) 128 := by
    rw [← oT_read, holds_read c (oT c t), oTile_part c _ (off2 c t)]
  have eg : (holds c (gT c t) fullShare (tileH I c t) : sProp 𝕄) ⊢ gR c fullShare (G I c) (c0 c + 128 * t.val) 128 := by
    rw [← gT_read, holds_read c (gT c t), gTile_part c _ _ (off2 c t)]
  iintro ⟨⟨Hfp, Hfr, Hp', Hr'⟩, Hrc, Hgv, ⟨Hco, Hnt, Hv3, Hv2⟩, ⟨%fo, Hw⟩, ⟨%fg, Hg⟩, Ho, #Hl⟩ Hk
  iapply (wp_await c (by rw [lvl_lS]; exact hO)) $$ [Hfp Ho]
  · isplitl [Hfp]; · iexact Hfp
    isplitl [Ho]; · iexact Ho
    iexact Hl
  iintro ⟨Hps, Hp, Hv0, Ho⟩
  iapply (wp_await c (by rw [lvl_lS]; exact hO)) $$ [Hfr Ho]
  · isplitl [Hfr]; · iexact Hfr
    isplitl [Ho]; · iexact Ho
    iexact Hl
  iintro ⟨Hrs, Hr, Hv1, Ho⟩
  iapply (wp_loadSlot c) $$ [Hps]
  · iexact Hps
  iintro Hps
  iapply (wp_load_rect 𝒱₀ (c : Thread nD τ) none Set.univ (S := (rcBlk (blkOf t)).m.view.set) (q := fullShare) (f := RC I c) (half_sub _ _)) $$ [Hrc]
  · iexact Hrc
  iintro Hrc
  iapply (wp_loadSlot c) $$ [Hrs]
  · iexact Hrs
  iintro Hrs
  iapply (wp_load_rect 𝒱₀ (c : Thread nD τ) none Set.univ (S := gvV.m.view.set) (q := fullShare) (f := I.g c)
    (by rw [View.set_whole]; exact Finset.subset_univ _)) $$ [Hgv]
  · iexact Hgv
  iintro Hgv
  rw [gv_read]
  iapply (wp_loadRaw c (w := fSlot coM (halfOf t)) rfl) $$ [Hco]
  · iexact Hco
  iintro Hco
  rw [pay9_eq, pay10_eq]
  iapply (wp_storeSlot c (w := fSlot coM (halfOf t)) (X := tileF I c t) rfl) $$ [Hco]
  · iexact Hco
  iintro Hco
  iapply (wp_loadRaw c (w := hSlot ntM (Memref.isWhole_whole _) (halfOf t)) rfl) $$ [Hnt]
  · iexact Hnt
  iintro Hnt
  iapply (wp_storeSlot c (w := hSlot ntM (Memref.isWhole_whole _) (halfOf t)) (X := tileH I c t) rfl) $$ [Hnt]
  · iexact Hnt
  iintro Hnt
  iapply (wp_copy c (by decide)) $$ [Hco Hv3 Hw]
  · isplitl [Hco]; · iexact Hco
    isplitl [Hw]
    · iapply (part_raw c (oT c t) fo)
      rw [oTile_part c fo (off2 c t)]; iexact Hw
    iexact Hv3
  iintro Hf3
  iapply (wp_copy c (by decide)) $$ [Hnt Hv2 Hg]
  · isplitl [Hnt]; · iexact Hnt
    isplitl [Hg]
    · iapply (part_raw c (gT c t) fg)
      rw [gTile_part c fullShare fg (off2 c t)]; iexact Hg
    iexact Hv2
  iintro Hf2
  iapply (wp_await c (by rw [lvl_lS]; exact hO)) $$ [Hf3 Ho]
  · isplitl [Hf3]; · iexact Hf3
    isplitl [Ho]; · iexact Ho
    iexact Hl
  iintro ⟨Hw, Hco, Hv3, Ho⟩
  iapply (wp_await c (by rw [lvl_lS]; exact hO)) $$ [Hf2 Ho]
  · isplitl [Hf2]; · iexact Hf2
    isplitl [Ho]; · iexact Ho
    iexact Hl
  iintro ⟨Hg, Hnt, Hv2, Ho⟩
  iapply Hk
  isplitl [Hps Hrs Hv0 Hv1 Hp Hp' Hr Hr']
  · isplitl [Hps]; · iapply (holds_raw c (fSlot psM (halfOf t))); iexact Hps
    isplitl [Hrs]; · iapply (holds_raw c (fSlot rsM (halfOf t))); iexact Hrs
    isplitl [Hv0]; · iexact Hv0
    isplitl [Hv1]; · iexact Hv1
    isplitl [Hp Hp']
    · iapply ep
      isplitl [Hp] <;> iassumption
    · iapply er
      isplitl [Hr] <;> iassumption
  isplitl [Hrc]; · iexact Hrc
  isplitl [Hgv]; · iexact Hgv
  isplitl [Hco Hnt Hv3 Hv2]
  · isplitl [Hco]; · iapply (holds_raw c (fSlot coM (halfOf t))); iexact Hco
    isplitl [Hnt]; · iapply (holds_raw c (hSlot ntM (Memref.isWhole_whole _) (halfOf t))); iexact Hnt
    isplitl [Hv3] <;> iassumption
  isplitl [Hw]; · iapply ew; iexact Hw
  isplitl [Hg]; · iapply eg; iexact Hg
  iexact Ho

end Cert.KernelIdeal.Fused

end
-- ==== Proof.Blocks.lean ====
module

public import proofs.«01_k».proof.Proof.Tiles

@[expose] public section

noncomputable section

namespace Cert.KernelIdeal.Fused

open Idealize.ShloMosaic Idealize.ShloMosaic.TcCoe Idealize.SL Idealize.SL.Sem Idealize.SL.RA Idealize.SL.BI
open scoped Idealize.SL.BI
open Idealize.SL.BI.BIBase Idealize.SL.BI.Laws Idealize.SL.ProofMode
open Idealize.ShloMosaic.Rounds
open Cert.KernelIdeal Facts₀ Facts

variable {F : FTy → Type} [FloatOps F]

local notation "𝕄" => MT nD τ sig Unit (Elt F) ℕ UU ℕ

variable (I : In F) (κ : GSem nD τ sig → ℕ) (c : Dev nD)

/-! ## The pieces of the state -/

/-- The tokens of the two cells of a copy. -/
def kit (j : Fin 5) (b : Fin 4) : sProp 𝕄 :=
  iprop(dutyTok ER (cell c (sk j) b) 0 0 ∗ dutyTok ER (cell (nb j c) (rk j) b) 0 0)
/-- The credit to wait at a cell, its position before and after. -/
def cr (k : Fin 10) (b : Fin 4) : sProp 𝕄 := cred (tallyAt (cell c k b) () (amt k))
def at0 (k : Fin 10) (b : Fin 4) : sProp 𝕄 := atPos ER (cell c k b) 0 ∅ 0
def at1 (k : Fin 10) (b : Fin 4) : sProp 𝕄 := atPos ER (cell c k b) (0 + 1) ∅ 0

theorem gW_of (q : Vec F S4096x4096 .bf16) (n k : ℕ) : (gR c fullShare q n k : sProp 𝕄) ⊢ gW c n k := by
  unfold gW; iintro H; iexists q; iexact H
theorem gW_split (n k k' : ℕ) : (gW c n (k + k') : sProp 𝕄) ⊢ iprop(gW c n k ∗ gW c (n + k) k') := by
  unfold gW; iintro ⟨%f, H⟩; icases (of_eq (gR_add c fullShare f n k k')) $$ H with ⟨H, H'⟩
  isplitl [H]; · iexists f; iexact H
  iexists f; iexact H'
theorem oW_split (n k k' : ℕ) : (oW c n (k + k') : sProp 𝕄) ⊢ iprop(oW c n k ∗ oW c (n + k) k') := by
  unfold oW; iintro ⟨%f, H⟩; icases (of_eq (oR_add c f n k k')) $$ H with ⟨H, H'⟩
  isplitl [H]; · iexists f; iexact H
  iexists f; iexact H'

/-- Rows held are rows held at the two halves of the share. -/
theorem gR_share (f : Vec F S4096x4096 .bf16) (n k : ℕ) : (gR c fullShare f n k : sProp 𝕄) = iprop(gR c qL f n k ∗ gR c qR f n k) := by
  unfold gR
  have e := pointsTo_share (Ix := Unit) (Name := ℕ) (U := UU) (Lvl := ℕ) (ℓ := gbM.view.loc (c : Thread nD τ)) (f := f) (I := rows n k)
    (PosShare.mem_left_op_right fullShare)
  exact BI.equiv_iff.mp ⟨e.1, e.2⟩

/-! ## The copies to the neighbours -/

theorem wp_sendY {d : Dev nD} (b : Fin 4) {k : P F} {Q : PUnit → sProp 𝕄} {O₀ : CellTallies nD τ sig Unit} (O : CellTallies nD τ sig Unit)
    (hd : d = ny c) (hO : O₀ = O + tallyAt (cell (ny c) 1 b) () (amt 1)) :
    iprop(ctx I κ c ∗ part c (bBlk b) fullShare (I.b c) ∗ kit c 0 b ∗ room c 0 b ∗ owesA c O₀)
      ⊢ iprop(((cr c 0 b ∗ owesA c O) -∗ runs c k Q) -∗ runs c (sendY d b k) Q) := by
  unfold kit room cr
  iintro ⟨#Hc, Hs, ⟨Ht, Ht'⟩, ⟨Hr, Hd⟩, Ho⟩ Hk
  iapply (wp_sendT I κ c 0 b (ks := 0) (kr := 1) (src := bBlk b) (dst := rcBlk b) (RC I (ny c)) hd rfl rfl (bytes_rcBlk b) (rc_read I c b)
    (entails_refl _) (entails_refl _) O hO) $$ [Hs Ht Ht' Hr Hd Ho]
  · isplitl []; · iexact Hc
    isplitl [Hs]; · iexact Hs
    isplitl [Hd]; · iexact Hd
    isplitl [Ho]; · iexact Ho
    isplitl [Ht]; · iexact Ht
    isplitl [Ht']; · iexact Ht'
    iexact Hr
  iexact Hk

theorem wp_sendX {d : Dev nD} (b : Fin 4) {h} {k : P F} {Q : PUnit → sProp 𝕄} {O₀ : CellTallies nD τ sig Unit} (O : CellTallies nD τ sig Unit)
    (hd : d = nx c) (hO : O₀ = O + tallyAt (cell (nx c) 3 b) () (amt 3)) :
    iprop(ctx I κ c ∗ gR c qL (G I c) (c0 c + 256 * b.val) 256 ∗ kit c 1 b ∗ room c 1 b ∗ owesA c O₀)
      ⊢ iprop(((cr c 2 b ∗ owesA c O) -∗ runs c k Q) -∗ runs c (send d (B3 c b) (B3 c b) (kS 2 b) (kS 3 b) h k) Q) := by
  unfold kit room cr gW
  iintro ⟨#Hc, Hs, ⟨Ht, Ht'⟩, ⟨Hr, ⟨%f, Hd⟩⟩, Ho⟩ Hk
  iapply (wp_sendT I κ c 1 b (ks := 2) (kr := 3) (src := B3 c b) (dst := B3 c b) (q := qL) (fs := G I c) (G I (nx c)) hd rfl rfl bytes_gBlk
    (by rw [G_nx]) (of_eq (gBlk_part c qL _ (off3 c b)))
    (of_eq (by rw [show nb 1 c = nx c from rfl, gBlk_part (nx c) fullShare _ (off3 c b)]; show _ = gR (nx c) fullShare (G I (nx c)) (c0 (nx (nx c)) + _) 256; rw [nx_nx])) O hO) $$ [Hs Ht Ht' Hr Hd Ho]
  · isplitl []; · iexact Hc
    isplitl [Hs]; · rw [gBlk_part c qL _ (off3 c b)]; iexact Hs
    isplitl [Hd]; · iapply (part_raw (nx c) (B3 c b) f); rw [gBlk_part (nx c) fullShare _ (off3 c b)]; iexact Hd
    isplitl [Ho]; · iexact Ho
    isplitl [Ht]; · iexact Ht
    isplitl [Ht']; · iexact Ht'
    iexact Hr
  iexact Hk

theorem wp_sendZ {d : Dev nD} (b : Fin 4) {h} {k : P F} {Q : PUnit → sProp 𝕄} {O₀ : CellTallies nD τ sig Unit} (O : CellTallies nD τ sig Unit)
    (hd : d = nz c) (hO : O₀ = O + tallyAt (cell (nz c) 5 b) () (amt 5)) :
    iprop(ctx I κ c ∗ gR c qR (G I c) (c0 c + 256 * b.val) 256 ∗ kit c 2 b ∗ room c 2 b ∗ owesA c O₀)
      ⊢ iprop(((cr c 4 b ∗ owesA c O) -∗ runs c k Q) -∗ runs c (send d (B3 c b) (B3 c b) (kS 4 b) (kS 5 b) h k) Q) := by
  unfold kit room cr gW
  iintro ⟨#Hc, Hs, ⟨Ht, Ht'⟩, ⟨Hr, ⟨%f, Hd⟩⟩, Ho⟩ Hk
  iapply (wp_sendT I κ c 2 b (ks := 4) (kr := 5) (src := B3 c b) (dst := B3 c b) (q := qR) (fs := G I c) (G I (nz c)) hd rfl rfl bytes_gBlk
    (by rw [G_nz]) (of_eq (gBlk_part c qR _ (off3 c b)))
    (of_eq (by rw [show nb 2 c = nz c from rfl, gBlk_part (nz c) fullShare _ (off3 c b)]; show _ = gR (nz c) fullShare (G I (nz c)) (c0 (nz (nz c)) + _) 256; rw [nz_nz])) O hO) $$ [Hs Ht Ht' Hr Hd Ho]
  · isplitl []; · iexact Hc
    isplitl [Hs]; · rw [gBlk_part c qR _ (off3 c b)]; iexact Hs
    isplitl [Hd]; · iapply (part_raw (nz c) (B3 c b) f); rw [gBlk_part (nz c) fullShare _ (off3 c b)]; iexact Hd
    isplitl [Ho]; · iexact Ho
    isplitl [Ht]; · iexact Ht
    isplitl [Ht']; · iexact Ht'
    iexact Hr
  iexact Hk

theorem wp_sendFX {d : Dev nD} (b : Fin 4) {h} {k : P F} {Q : PUnit → sProp 𝕄} {O₀ : CellTallies nD τ sig Unit} (O : CellTallies nD τ sig Unit)
    (hd : d = nx c) (hO : O₀ = O + tallyAt (cell (nx c) 7 b) () (amt 7)) :
    iprop(ctx I κ c ∗ gR c qL (G I c) (c0 (nz c) + 256 * b.val) 128 ∗ kit c 3 b ∗ room c 3 b ∗ owesA c O₀)
      ⊢ iprop(((cr c 6 b ∗ owesA c O) -∗ runs c k Q) -∗ runs c (send d (T5 c b).g (T5 c b).g (kS 6 b) (kS 7 b) h k) Q) := by
  unfold kit room cr gW
  iintro ⟨#Hc, Hs, ⟨Ht, Ht'⟩, ⟨Hr, ⟨%f, Hd⟩⟩, Ho⟩ Hk
  iapply (wp_sendT I κ c 3 b (ks := 6) (kr := 7) (src := (T5 c b).g) (dst := (T5 c b).g) (q := qL) (fs := G I c) (G I (nx c)) hd rfl rfl (bytes_gTile (w := k1_off5_wordsbf16 c b))
    (by rw [G_nx]) (of_eq (gTile_part (w := k1_off5_wordsbf16 c b) c qL _ (off5 c b)))
    (of_eq (by rw [show nb 3 c = nx c from rfl, gTile_part (w := k1_off5_wordsbf16 c b) (nx c) fullShare _ (off5 c b)]; show _ = gR (nx c) fullShare (G I (nx c)) (c0 (nz (nx (nx c))) + _) 128; rw [nx_nx])) O hO) $$ [Hs Ht Ht' Hr Hd Ho]
  · isplitl []; · iexact Hc
    isplitl [Hs]; · rw [gTile_part (w := k1_off5_wordsbf16 c b) c qL _ (off5 c b)]; iexact Hs
    isplitl [Hd]; · iapply (part_raw (nx c) (T5 c b).g f); rw [gTile_part (w := k1_off5_wordsbf16 c b) (nx c) fullShare _ (off5 c b)]; iexact Hd
    isplitl [Ho]; · iexact Ho
    isplitl [Ht]; · iexact Ht
    isplitl [Ht']; · iexact Ht'
    iexact Hr
  iexact Hk

theorem nx_nz_nz (c : Dev nD) : nz (nx (nz c)) = nx c := by revert c; decide

theorem wp_sendFZ {d : Dev nD} (b : Fin 4) {h} {k : P F} {Q : PUnit → sProp 𝕄} {O₀ : CellTallies nD τ sig Unit} (O : CellTallies nD τ sig Unit)
    (hd : d = nz c) (hO : O₀ = O + tallyAt (cell (nz c) 9 b) () (amt 9)) :
    iprop(ctx I κ c ∗ gR c qL (G I c) (c0 (nx c) + 256 * b.val + 128) 128 ∗ kit c 4 b ∗ room c 4 b ∗ owesA c O₀)
      ⊢ iprop(((cr c 8 b ∗ owesA c O) -∗ runs c k Q) -∗ runs c (send d (T7 c b).g (T7 c b).g (kS 8 b) (kS 9 b) h k) Q) := by
  unfold kit room cr gW
  iintro ⟨#Hc, Hs, ⟨Ht, Ht'⟩, ⟨Hr, ⟨%f, Hd⟩⟩, Ho⟩ Hk
  iapply (wp_sendT I κ c 4 b (ks := 8) (kr := 9) (src := (T7 c b).g) (dst := (T7 c b).g) (q := qL) (fs := G I c) (G I (nz c)) hd rfl rfl (bytes_gTile (w := k1_off7_wordsbf16 c b))
    (by rw [G_nz]) (of_eq (gTile_part (w := k1_off7_wordsbf16 c b) c qL _ (off7 c b)))
    (of_eq (by rw [show nb 4 c = nz c from rfl, gTile_part (w := k1_off7_wordsbf16 c b) (nz c) fullShare _ (off7 c b)]; show _ = gR (nz c) fullShare (G I (nz c)) (c0 (nz (nx (nz c))) + _ + _) 128; rw [nx_nz_nz])) O hO) $$ [Hs Ht Ht' Hr Hd Ho]
  · isplitl []; · iexact Hc
    isplitl [Hs]; · rw [gTile_part (w := k1_off7_wordsbf16 c b) c qL _ (off7 c b)]; iexact Hs
    isplitl [Hd]; · iapply (part_raw (nz c) (T7 c b).g f); rw [gTile_part (w := k1_off7_wordsbf16 c b) (nz c) fullShare _ (off7 c b)]; iexact Hd
    isplitl [Ho]; · iexact Ho
    isplitl [Ht]; · iexact Ht
    isplitl [Ht']; · iexact Ht'
    iexact Hr
  iexact Hk

/-- A wait at a cell, with the state's names. -/
theorem wp_take (kk : Fin 10) (b : Fin 4) {sp sp' : Space} {s s' : Shape} {e e' : EltTy} {src : WM sp s e} {dst : WM sp' s' e'}
    {k : P F} {Q : PUnit → sProp 𝕄} {O : CellTallies nD τ sig Unit} (hN : bytes dst = amt kk) (hO : Above (lvl (.dma (kS kk b))) O) :
    iprop(ctx I κ c ∗ cr c kk b ∗ at0 c kk b ∗ owesA c O)
      ⊢ iprop(((pay I c kk b ∗ at1 c kk b ∗ owesA c O) -∗ runs c k Q) -∗ runs c (await (kS kk b) src dst k) Q) := by
  unfold cr at0 at1
  iintro ⟨#Hc, Hcr, Ha, Ho⟩ Hk
  iapply (wp_waitT I κ c kk b hN hO) $$ [Hcr Ha Ho]
  · isplitl []; · iexact Hc
    isplitl [Hcr]; · iexact Hcr
    isplitl [Ho]; · iexact Ho
    iexact Ha
  iintro ⟨Ho, Ha, Hp⟩
  iapply Hk
  isplitl [Hp]; · iexact Hp
  isplitl [Ha]; · iexact Ha
  iexact Ho

theorem lvl_kS1 (b : Fin 4) : lvl (.dma (kS 1 b)) = 2 := by revert b; decide
theorem lvl_kS3 (b : Fin 4) : lvl (.dma (kS 3 b)) = 3 := by revert b; decide
theorem lvl_kS5 (b : Fin 4) : lvl (.dma (kS 5 b)) = 3 := by revert b; decide

/-! ## A block of the own chunk -/

/-- Before block `b`: what it uses and spends. -/
def blockPre (b : Fin 4) : sProp 𝕄 :=
  iprop(cr c 1 b ∗ at0 c 1 b ∗ oW (F := F) c (c0 c + 256 * b.val) 256 ∗ gW (F := F) c (c0 c + 256 * b.val) 256
    ∗ kit c 1 b ∗ room (F := F) c 1 b ∗ kit c 2 b ∗ room (F := F) c 2 b)
/-- After it. -/
def blockPost (b : Fin 4) : sProp 𝕄 :=
  iprop(at1 c 1 b ∗ part c (rcBlk b) fullShare (RC I c) ∗ oR c (OUT I c) (c0 c + 256 * b.val) 256 ∗ cr c 2 b ∗ cr c 4 b)
/-- What every block works with. -/
def tools : sProp 𝕄 :=
  iprop(idle I c 1 ∗ part c gvV fullShare (I.g c) ∗ wr (F := F) c 0 ∗ wr (F := F) c 1)

theorem sendXZ_run {dx dz : Dev nD} (b : Fin 4) {k : P F} {Q : PUnit → sProp 𝕄} {O₂ O₁ : CellTallies nD τ sig Unit} (O : CellTallies nD τ sig Unit)
    (hx : dx = nx c) (hz : dz = nz c) (h₂ : O₂ = O₁ + tallyAt (cell (nx c) 3 b) () (amt 3)) (h₁ : O₁ = O + tallyAt (cell (nz c) 5 b) () (amt 5)) :
    iprop(ctx I κ c ∗ gR c fullShare (G I c) (c0 c + 256 * b.val) 256 ∗ kit c 1 b ∗ room c 1 b ∗ kit c 2 b ∗ room c 2 b ∗ owesA c O₂)
      ⊢ iprop(((cr c 2 b ∗ cr c 4 b ∗ owesA c O) -∗ runs c k Q) -∗ runs c (sendXZ dx dz b (B3 c b) k) Q) := by
  rw [gR_share]
  iintro ⟨#Hc, ⟨Hl, Hr⟩, Hx, Hxr, Hz, Hzr, Ho⟩ Hk
  iapply (wp_sendX I κ c b O₁ hx h₂) $$ [Hl Hx Hxr Ho]
  · isplitl []; · iexact Hc
    isplitl [Hl]; · iexact Hl
    isplitl [Hx]; · iexact Hx
    isplitl [Hxr]; · iexact Hxr
    iexact Ho
  iintro ⟨Hcx, Ho⟩
  iapply (wp_sendZ I κ c b O hz h₁) $$ [Hr Hz Hzr Ho]
  · isplitl []; · iexact Hc
    isplitl [Hr]; · iexact Hr
    isplitl [Hz]; · iexact Hz
    isplitl [Hzr]; · iexact Hzr
    iexact Ho
  iintro ⟨Hcz, Ho⟩
  iapply Hk
  isplitl [Hcx]; · iexact Hcx
  isplitl [Hcz]; · iexact Hcz
  iexact Ho

/-- Block `b` runs: its two tiles are computed and exchanged, and the fetch of `t₂` is on its way. -/
theorem block_run {dx dz : Dev nD} (b : Fin 4) {t₀ t₁ t₂ : Fin 8} {k : P F} {Q : PUnit → sProp 𝕄} {O₂ O₁ : CellTallies nD τ sig Unit}
    (O : CellTallies nD τ sig Unit) (e₀ : t₀.val = 2 * b.val) (e₁ : t₁.val = 2 * b.val + 1)
    (hx : dx = nx c) (hz : dz = nz c) (h₂ : O₂ = O₁ + tallyAt (cell (nx c) 3 b) () (amt 3)) (h₁ : O₁ = O + tallyAt (cell (nz c) 5 b) () (amt 5))
    (hA : Above 2 O₂) :
    iprop(ctx I κ c ∗ fetching I c 0 t₀ ∗ tools I c ∗ blockPre c b ∗ owesA c O₂)
      ⊢ iprop(((fetching I c 0 t₂ ∗ tools I c ∗ blockPost I c b ∗ owesA c O) -∗ runs c k Q) -∗ runs c (block c dx dz b t₀ t₁ t₂ k) Q) := by
  have hb₀ : blkOf t₀ = b := Fin.ext (show t₀.val / 2 = b.val by omega)
  have hb₁ : blkOf t₁ = b := Fin.ext (show t₁.val / 2 = b.val by omega)
  have hs₀ : halfOf t₀ = 0 := Fin.ext (show t₀.val % 2 = 0 by omega)
  have hs₁ : halfOf t₁ = 1 := Fin.ext (show t₁.val % 2 = 1 by omega)
  have n₀ : c0 c + 128 * t₀.val = c0 c + 256 * b.val := by omega
  have n₁ : c0 c + 128 * t₁.val = c0 c + 256 * b.val + 128 := by omega
  have h0 : Above 0 O₂ := hA.mono (Nat.zero_le _)
  unfold block tools blockPre blockPost
  iintro ⟨#Hc, Hf0, ⟨Hi1, Hgv, Hw0, Hw1⟩, ⟨Hcr, Hat, How, Hgw, Hx, Hxr, Hz, Hzr⟩, Ho⟩ Hk
  ihave #Hl := (ctx_recs I κ c) $$ Hc
  ihave #Hl := (recs_lev I κ) $$ Hl
  icases (oW_split c (c0 c + 256 * b.val) 128 128) $$ How with ⟨Ho0, Ho1⟩
  icases (gW_split c (c0 c + 256 * b.val) 128 128) $$ Hgw with ⟨Hg0, Hg1⟩
  iapply (wp_fetch I c) $$ [Hi1]
  · iexact Hi1
  iintro Hf1
  iapply (wp_take I κ c 1 b (bytes_rcBlk b) (by rw [lvl_kS1]; exact hA)) $$ [Hcr Hat Ho]
  · isplitl []; · iexact Hc
    isplitl [Hcr]; · iexact Hcr
    isplitl [Hat]; · iexact Hat
    iexact Ho
  iintro ⟨Hrc, Hat, Ho⟩
  ihave Hrc := (show (pay I c 1 b : sProp 𝕄) ⊢ part c (rcBlk b) fullShare (RC I c) from entails_refl _) $$ Hrc
  iapply (wp_tile I c hb₀ hs₀ h0) $$ [Hf0 Hrc Hgv Hw0 Ho0 Hg0 Ho]
  · rw [n₀]
    isplitl [Hf0]; · iexact Hf0
    isplitl [Hrc]; · iexact Hrc
    isplitl [Hgv]; · iexact Hgv
    isplitl [Hw0]; · iexact Hw0
    isplitl [Ho0]; · iexact Ho0
    isplitl [Hg0]; · iexact Hg0
    isplitl [Ho]; · iexact Ho
    iexact Hl
  iintro ⟨Hi0, Hrc, Hgv, Hw0, Ho0, Hg0, Ho⟩
  iapply (wp_fetch I c) $$ [Hi0]
  · iexact Hi0
  iintro Hf0
  iapply (wp_tile I c hb₁ hs₁ h0) $$ [Hf1 Hrc Hgv Hw1 Ho1 Hg1 Ho]
  · rw [n₁]
    isplitl [Hf1]; · iexact Hf1
    isplitl [Hrc]; · iexact Hrc
    isplitl [Hgv]; · iexact Hgv
    isplitl [Hw1]; · iexact Hw1
    isplitl [Ho1]; · iexact Ho1
    isplitl [Hg1]; · iexact Hg1
    isplitl [Ho]; · iexact Ho
    iexact Hl
  iintro ⟨Hi1, Hrc, Hgv, Hw1, Ho1, Hg1, Ho⟩
  iapply (sendXZ_run I κ c b O hx hz h₂ h₁) $$ [Hg0 Hg1 Hx Hxr Hz Hzr Ho]
  · isplitl []; · iexact Hc
    isplitl [Hg0 Hg1]
    · rw [gR_add c fullShare (G I c) (c0 c + 256 * b.val) 128 128, ← n₁, ← n₀]
      isplitl [Hg0] <;> iassumption
    isplitl [Hx]; · iexact Hx
    isplitl [Hxr]; · iexact Hxr
    isplitl [Hz]; · iexact Hz
    isplitl [Hzr]; · iexact Hzr
    iexact Ho
  iintro ⟨Hcx, Hcz, Ho⟩
  iapply Hk
  isplitl [Hf0]; · iexact Hf0
  isplitl [Hi1 Hgv Hw0 Hw1]
  · isplitl [Hi1]; · iexact Hi1
    isplitl [Hgv]; · iexact Hgv
    isplitl [Hw0] <;> iassumption
  isplitl [Hat Hrc Ho0 Ho1 Hcx Hcz]
  · isplitl [Hat]; · iexact Hat
    isplitl [Hrc]; · iexact Hrc
    isplitl [Ho0 Ho1]
    · rw [oR_add c (OUT I c) (c0 c + 256 * b.val) 128 128, ← n₁, ← n₀]
      isplitl [Ho0] <;> iassumption
    isplitl [Hcx] <;> iassumption
  iexact Ho

/-- The last block. -/
theorem lastBlock_run {dx dz : Dev nD} (b : Fin 4) {t₀ t₁ : Fin 8} {k : P F} {Q : PUnit → sProp 𝕄} {O₂ O₁ : CellTallies nD τ sig Unit}
    (O : CellTallies nD τ sig Unit) (e₀ : t₀.val = 2 * b.val) (e₁ : t₁.val = 2 * b.val + 1)
    (hx : dx = nx c) (hz : dz = nz c) (h₂ : O₂ = O₁ + tallyAt (cell (nx c) 3 b) () (amt 3)) (h₁ : O₁ = O + tallyAt (cell (nz c) 5 b) () (amt 5))
    (hA : Above 2 O₂) :
    iprop(ctx I κ c ∗ fetching I c 0 t₀ ∗ tools I c ∗ blockPre c b ∗ owesA c O₂)
      ⊢ iprop(((idle I c 0 ∗ tools I c ∗ blockPost I c b ∗ owesA c O) -∗ runs c k Q) -∗ runs c (lastBlock c dx dz b t₀ t₁ k) Q) := by
  have hb₀ : blkOf t₀ = b := Fin.ext (show t₀.val / 2 = b.val by omega)
  have hb₁ : blkOf t₁ = b := Fin.ext (show t₁.val / 2 = b.val by omega)
  have hs₀ : halfOf t₀ = 0 := Fin.ext (show t₀.val % 2 = 0 by omega)
  have hs₁ : halfOf t₁ = 1 := Fin.ext (show t₁.val % 2 = 1 by omega)
  have n₀ : c0 c + 128 * t₀.val = c0 c + 256 * b.val := by omega
  have n₁ : c0 c + 128 * t₁.val = c0 c + 256 * b.val + 128 := by omega
  have h0 : Above 0 O₂ := hA.mono (Nat.zero_le _)
  unfold lastBlock tools blockPre blockPost
  iintro ⟨#Hc, Hf0, ⟨Hi1, Hgv, Hw0, Hw1⟩, ⟨Hcr, Hat, How, Hgw, Hx, Hxr, Hz, Hzr⟩, Ho⟩ Hk
  ihave #Hl := (ctx_recs I κ c) $$ Hc
  ihave #Hl := (recs_lev I κ) $$ Hl
  icases (oW_split c (c0 c + 256 * b.val) 128 128) $$ How with ⟨Ho0, Ho1⟩
  icases (gW_split c (c0 c + 256 * b.val) 128 128) $$ Hgw with ⟨Hg0, Hg1⟩
  iapply (wp_fetch I c) $$ [Hi1]
  · iexact Hi1
  iintro Hf1
  iapply (wp_take I κ c 1 b (bytes_rcBlk b) (by rw [lvl_kS1]; exact hA)) $$ [Hcr Hat Ho]
  · isplitl []; · iexact Hc
    isplitl [Hcr]; · iexact Hcr
    isplitl [Hat]; · iexact Hat
    iexact Ho
  iintro ⟨Hrc, Hat, Ho⟩
  ihave Hrc := (show (pay I c 1 b : sProp 𝕄) ⊢ part c (rcBlk b) fullShare (RC I c) from entails_refl _) $$ Hrc
  iapply (wp_tile I c hb₀ hs₀ h0) $$ [Hf0 Hrc Hgv Hw0 Ho0 Hg0 Ho]
  · rw [n₀]
    isplitl [Hf0]; · iexact Hf0
    isplitl [Hrc]; · iexact Hrc
    isplitl [Hgv]; · iexact Hgv
    isplitl [Hw0]; · iexact Hw0
    isplitl [Ho0]; · iexact Ho0
    isplitl [Hg0]; · iexact Hg0
    isplitl [Ho]; · iexact Ho
    iexact Hl
  iintro ⟨Hi0, Hrc, Hgv, Hw0, Ho0, Hg0, Ho⟩
  iapply (wp_tile I c hb₁ hs₁ h0) $$ [Hf1 Hrc Hgv Hw1 Ho1 Hg1 Ho]
  · rw [n₁]
    isplitl [Hf1]; · iexact Hf1
    isplitl [Hrc]; · iexact Hrc
    isplitl [Hgv]; · iexact Hgv
    isplitl [Hw1]; · iexact Hw1
    isplitl [Ho1]; · iexact Ho1
    isplitl [Hg1]; · iexact Hg1
    isplitl [Ho]; · iexact Ho
    iexact Hl
  iintro ⟨Hi1, Hrc, Hgv, Hw1, Ho1, Hg1, Ho⟩
  iapply (sendXZ_run I κ c b O hx hz h₂ h₁) $$ [Hg0 Hg1 Hx Hxr Hz Hzr Ho]
  · isplitl []; · iexact Hc
    isplitl [Hg0 Hg1]
    · rw [gR_add c fullShare (G I c) (c0 c + 256 * b.val) 128 128, ← n₁, ← n₀]
      isplitl [Hg0] <;> iassumption
    isplitl [Hx]; · iexact Hx
    isplitl [Hxr]; · iexact Hxr
    isplitl [Hz]; · iexact Hz
    isplitl [Hzr]; · iexact Hzr
    iexact Ho
  iintro ⟨Hcx, Hcz, Ho⟩
  iapply Hk
  isplitl [Hi0]; · iexact Hi0
  isplitl [Hi1 Hgv Hw0 Hw1]
  · isplitl [Hi1]; · iexact Hi1
    isplitl [Hgv]; · iexact Hgv
    isplitl [Hw0] <;> iassumption
  isplitl [Hat Hrc Ho0 Ho1 Hcx Hcz]
  · isplitl [Hat]; · iexact Hat
    isplitl [Hrc]; · iexact Hrc
    isplitl [Ho0 Ho1]
    · rw [oR_add c (OUT I c) (c0 c + 256 * b.val) 128 128, ← n₁, ← n₀]
      isplitl [Ho0] <;> iassumption
    isplitl [Hcx] <;> iassumption
  iexact Ho

/-! ## The forwarding of a block -/

def fwdPre (b : Fin 4) : sProp 𝕄 :=
  iprop(cr c 5 b ∗ at0 c 5 b ∗ cr c 3 b ∗ at0 c 3 b ∗ kit c 3 b ∗ room (F := F) c 3 b ∗ kit c 4 b ∗ room (F := F) c 4 b)
def fwdPost (b : Fin 4) : sProp 𝕄 :=
  iprop(at1 c 5 b ∗ at1 c 3 b ∗ cr c 6 b ∗ cr c 8 b)
/-- The four tiles a forwarding leaves to convert. -/
def fwdGot (b : Fin 4) : sProp 𝕄 :=
  iprop(gR c qR (G I c) (c0 (nz c) + 256 * b.val) 128 ∗ gR c fullShare (G I c) (c0 (nz c) + 256 * b.val + 128) 128
    ∗ gR c fullShare (G I c) (c0 (nx c) + 256 * b.val) 128 ∗ gR c qR (G I c) (c0 (nx c) + 256 * b.val + 128) 128)

theorem forward_run {dx dz : Dev nD} (b : Fin 4) {k : P F} {Q : PUnit → sProp 𝕄} {O₂ O₁ : CellTallies nD τ sig Unit}
    (O : CellTallies nD τ sig Unit) (hx : dx = nx c) (hz : dz = nz c)
    (h₂ : O₂ = O₁ + tallyAt (cell (nx c) 7 b) () (amt 7)) (h₁ : O₁ = O + tallyAt (cell (nz c) 9 b) () (amt 9))
    (hA₂ : Above 3 O₂) (hA₁ : Above 3 O₁) :
    iprop(ctx I κ c ∗ fwdPre c b ∗ owesA c O₂)
      ⊢ iprop(((fwdPost c b ∗ fwdGot I c b ∗ owesA c O) -∗ runs c k Q) -∗ runs c (forward c dx dz b k) Q) := by
  unfold forward fwdPre fwdPost fwdGot
  iintro ⟨#Hc, ⟨Hcz, Haz, Hcx, Hax, Hx, Hxr, Hz, Hzr⟩, Ho⟩ Hk
  iapply (wp_take I κ c 5 b bytes_gBlk (by rw [lvl_kS5]; exact hA₂)) $$ [Hcz Haz Ho]
  · isplitl []; · iexact Hc
    isplitl [Hcz]; · iexact Hcz
    isplitl [Haz]; · iexact Haz
    iexact Ho
  iintro ⟨Hp, Haz, Ho⟩
  icases (show (pay I c 5 b : sProp 𝕄) ⊢ iprop((gR c qL (G I c) (c0 (nz c) + 256 * b.val) 128 ∗ gR c qR (G I c) (c0 (nz c) + 256 * b.val) 128)
      ∗ gR c fullShare (G I c) (c0 (nz c) + 256 * b.val + 128) 128) from of_eq (by
    rw [← gR_share, ← gR_add]; rfl)) $$ Hp with ⟨⟨Hzl, Hzk⟩, Hz8⟩
  iapply (wp_sendFX I κ c b O₁ hx h₂) $$ [Hzl Hx Hxr Ho]
  · isplitl []; · iexact Hc
    isplitl [Hzl]; · iexact Hzl
    isplitl [Hx]; · iexact Hx
    isplitl [Hxr]; · iexact Hxr
    iexact Ho
  iintro ⟨Hc6, Ho⟩
  iapply (wp_take I κ c 3 b bytes_gBlk (by rw [lvl_kS3]; exact hA₁)) $$ [Hcx Hax Ho]
  · isplitl []; · iexact Hc
    isplitl [Hcx]; · iexact Hcx
    isplitl [Hax]; · iexact Hax
    iexact Ho
  iintro ⟨Hp, Hax, Ho⟩
  icases (show (pay I c 3 b : sProp 𝕄) ⊢ iprop(gR c fullShare (G I c) (c0 (nx c) + 256 * b.val) 128
      ∗ (gR c qL (G I c) (c0 (nx c) + 256 * b.val + 128) 128 ∗ gR c qR (G I c) (c0 (nx c) + 256 * b.val + 128) 128)) from of_eq (by
    rw [← gR_share, ← gR_add]; rfl)) $$ Hp with ⟨Hx9, Hxl, Hxk⟩
  iapply (wp_sendFZ I κ c b O hz h₁) $$ [Hxl Hz Hzr Ho]
  · isplitl []; · iexact Hc
    isplitl [Hxl]; · iexact Hxl
    isplitl [Hz]; · iexact Hz
    isplitl [Hzr]; · iexact Hzr
    iexact Ho
  iintro ⟨Hc8, Ho⟩
  iapply Hk
  isplitl [Haz Hax Hc6 Hc8]
  · isplitl [Haz]; · iexact Haz
    isplitl [Hax]; · iexact Hax
    isplitl [Hc6] <;> iassumption
  isplitl [Hzk Hz8 Hx9 Hxk]
  · isplitl [Hzk]; · iexact Hzk
    isplitl [Hz8]; · iexact Hz8
    isplitl [Hx9] <;> iassumption
  iexact Ho

end Cert.KernelIdeal.Fused

end
-- ==== Proof.Convert.lean ====
module

public import proofs.«01_k».proof.Proof.Blocks

@[expose] public section

noncomputable section

namespace Cert.KernelIdeal.Fused

open Idealize.ShloMosaic Idealize.ShloMosaic.TcCoe Idealize.SL Idealize.SL.Sem Idealize.SL.RA Idealize.SL.BI
open scoped Idealize.SL.BI
open Idealize.SL.BI.BIBase Idealize.SL.BI.Laws Idealize.SL.ProofMode
open Idealize.ShloMosaic.Rounds
open Cert.KernelIdeal Facts₀ Facts

variable {F : FTy → Type} [FloatOps F]

local notation "𝕄" => MT nD τ sig Unit (Elt F) ℕ UU ℕ

variable (I : In F) (κ : GSem nD τ sig → ℕ) (c : Dev nD)

/-! ## Converting the received tiles -/

/-- A tile to convert: where it starts in both arrays, in a chunk of another device. -/
structure Job where
  o : Fin 2 → ℕ
  h : ∀ a, o a + S128x4096.size a ≤ S4096x4096.size a
  w : (Rect.unit (s := S4096x4096) o S128x4096.size h).WholeWords (EltTy.packing .bf16)
  n : ℕ
  d : Dev nD
  k : ℕ
  q : PosShare TreeShare
  ho : o = ![n, 0]
  hn : n = c0 d + k
  hk : k + 128 ≤ 1024
  hd : c0 d ≠ c0 c

variable {c} in
/-- Its tiles. -/
abbrev Job.t (J : Job c) : Tl := mkTl J.o J.h J.w

abbrev ciW (s : Fin 2) : WM .vmem S128x4096 .bf16 := hSlot ciM (Memref.isWhole_whole _) s

variable {c}

/-- The tile as received, and room for its conversion. -/
def todo (J : Job c) : sProp 𝕄 := iprop(gR c J.q (G I c) J.n 128 ∗ oW (F := F) c J.n 128)
/-- The tile converted. -/
def done (J : Job c) : sProp 𝕄 := iprop(gR c J.q (G I c) J.n 128 ∗ oR c (OUT I c) J.n 128)
/-- The tile on its way into slot `s`. -/
def reading (s : Fin 2) (J : Job c) : sProp 𝕄 := flying c (lS 4 s) J.t.g (ciW s) J.q (J.t.g.m.view.read (Elt F) (G I c))
/-- Its conversion on the way to the result from slot `s`. -/
def writing (s : Fin 2) (J : Job c) : sProp 𝕄 := flying c (lS 3 s) (fSlot coM s) J.t.o fullShare (J.t.o.m.view.read (Elt F) (OUT I c))
/-- The read and the write slot at rest. -/
def cv (c : Dev nD) (s : Fin 2) : sProp 𝕄 := iprop(raw (F := F) c (ciW s) ∗ semVal ((c : Thread nD τ), .dma (lS 4 s)) 0)
def co (c : Dev nD) (s : Fin 2) : sProp 𝕄 := iprop(raw (F := F) c (fSlot coM s) ∗ semVal ((c : Thread nD τ), .dma (lS 3 s)) 0)

theorem wp_startIn (s : Fin 2) (J : Job c) {k : P F} {Q : PUnit → sProp 𝕄} :
    iprop(gR c J.q (G I c) J.n 128 ∗ cv c s) ⊢ iprop((reading I s J -∗ runs c k Q) -∗ runs c (startIn J.t.g s k) Q) := by
  unfold cv reading
  iintro ⟨Hg, Hr, Hv⟩ Hk
  iapply (wp_copy c (src := J.t.g) (dst := ciW s) (q := J.q) (X := J.t.g.m.view.read (Elt F) (G I c)) (by decide)) $$ [Hg Hr Hv]
  · isplitl [Hg]
    · iapply (show (gR c J.q (G I c) J.n 128 : sProp 𝕄) ⊢ holds c J.t.g J.q (J.t.g.m.view.read (Elt F) (G I c)) from of_eq (by
        rw [holds_read, gTile_part (w := J.w) c J.q _ J.ho]))
      iexact Hg
    isplitl [Hr]; · iexact Hr
    iexact Hv
  iexact Hk

theorem wp_process (s : Fin 2) (J : Job c) {k : P F} {Q : PUnit → sProp 𝕄} {O : CellTallies nD τ sig Unit} (hO : Above 0 O) :
    iprop(reading I s J ∗ co c s ∗ oW c J.n 128 ∗ owesA c O ∗ levAts L lv)
      ⊢ iprop(((writing I s J ∗ gR c J.q (G I c) J.n 128 ∗ cv c s ∗ owesA c O) -∗ runs c k Q) -∗ runs c (process J.t.g J.t.o s k) Q) := by
  unfold reading writing cv co oW
  have hr : (holds c J.t.g J.q (J.t.g.m.view.read (Elt F) (G I c)) : sProp 𝕄) ⊢ gR c J.q (G I c) J.n 128 := of_eq (by
    rw [holds_read, gTile_part (w := J.w) c J.q _ J.ho])
  iintro ⟨Hf, ⟨Hco, Hv3⟩, ⟨%f, Hw⟩, Ho, #Hl⟩ Hk
  iapply (wp_await c (by rw [lvl_lS]; exact hO)) $$ [Hf Ho]
  · isplitl [Hf]; · iexact Hf
    isplitl [Ho]; · iexact Ho
    iexact Hl
  iintro ⟨Hci, Hg, Hv4, Ho⟩
  iapply (wp_loadSlot c) $$ [Hci]
  · iexact Hci
  iintro Hci
  rw [pay31_eq]
  iapply (wp_loadRaw c (w := fSlot coM s) rfl) $$ [Hco]
  · iexact Hco
  iintro Hco
  iapply (wp_storeSlot c (w := fSlot coM s) (X := extf .f32 (J.t.g.m.view.read (Elt F) (G I c)) bitsLt_bf16_f32) rfl) $$ [Hco]
  · iexact Hco
  iintro Hco
  iapply (wp_copy c (src := fSlot coM s) (dst := J.t.o) (by decide)) $$ [Hco Hv3 Hw]
  · isplitl [Hco]; · iexact Hco
    isplitl [Hw]
    · iapply (part_raw c J.t.o f)
      rw [oTile_part c f J.ho]; iexact Hw
    iexact Hv3
  iintro Hf
  iapply Hk
  isplitl [Hf]
  · iapply (show (flying c (lS 3 s) (fSlot coM s) J.t.o fullShare (extf .f32 (J.t.g.m.view.read (Elt F) (G I c)) bitsLt_bf16_f32) : sProp 𝕄)
        ⊢ flying c (lS 3 s) (fSlot coM s) J.t.o fullShare (J.t.o.m.view.read (Elt F) (OUT I c)) from of_eq (by
      rw [show J.t.o.m.view.read (Elt F) (OUT I c) = _ from conv_read I c J.d J.hd (h := J.h) (w := J.w) J.ho J.hn J.hk]))
    iexact Hf
  isplitl [Hg]; · iapply hr; iexact Hg
  isplitl [Hci Hv4]
  · isplitl [Hci]; · iapply (holds_raw c (ciW s)); iexact Hci
    iexact Hv4
  iexact Ho

theorem wp_drain (s : Fin 2) (J : Job c) {k : P F} {Q : PUnit → sProp 𝕄} {O : CellTallies nD τ sig Unit} (hO : Above 0 O) :
    iprop(writing I s J ∗ owesA c O ∗ levAts L lv)
      ⊢ iprop(((oR c (OUT I c) J.n 128 ∗ co c s ∗ owesA c O) -∗ runs c k Q) -∗ runs c (drain J.t.o s k) Q) := by
  unfold writing co
  have hr : (holds c J.t.o fullShare (J.t.o.m.view.read (Elt F) (OUT I c)) : sProp 𝕄) ⊢ oR c (OUT I c) J.n 128 := of_eq (by
    rw [holds_read, oTile_part c _ J.ho])
  iintro ⟨Hf, Ho, #Hl⟩ Hk
  iapply (wp_await c (by rw [lvl_lS]; exact hO)) $$ [Hf Ho]
  · isplitl [Hf]; · iexact Hf
    isplitl [Ho]; · iexact Ho
    iexact Hl
  iintro ⟨Hd, Hs, Hv, Ho⟩
  iapply Hk
  isplitl [Hd]; · iapply hr; iexact Hd
  isplitl [Hs Hv]
  · isplitl [Hs]; · iapply (holds_raw c (fSlot coM s)); iexact Hs
    iexact Hv
  iexact Ho

/-! ## Two at a time -/

/-- Between two pairs: the first of a pair is being written, the second is being read. -/
def pend (A B : Job c) : sProp 𝕄 :=
  iprop(writing I 0 A ∗ gR c A.q (G I c) A.n 128 ∗ cv c 0 ∗ reading I 1 B ∗ oW (F := F) c B.n 128 ∗ co c 1)

theorem pair₀_run (A B : Job c) {k : P F} {Q : PUnit → sProp 𝕄} {O : CellTallies nD τ sig Unit} (hO : Above 0 O) :
    iprop(todo I A ∗ todo I B ∗ cv c 0 ∗ cv c 1 ∗ co c 0 ∗ co c 1 ∗ owesA c O ∗ levAts L lv)
      ⊢ iprop(((pend I A B ∗ owesA c O) -∗ runs c k Q) -∗ runs c (pair₀ A.t B.t k) Q) := by
  unfold todo pend pair₀
  iintro ⟨⟨HgA, HoA⟩, ⟨HgB, HoB⟩, Hv0, Hv1, Hc0, Hc1, Ho, #Hl⟩ Hk
  iapply (wp_startIn I 0 A) $$ [HgA Hv0]
  · isplitl [HgA] <;> iassumption
  iintro HrA
  iapply (wp_startIn I 1 B) $$ [HgB Hv1]
  · isplitl [HgB] <;> iassumption
  iintro HrB
  iapply (wp_process I 0 A hO) $$ [HrA Hc0 HoA Ho]
  · isplitl [HrA]; · iexact HrA
    isplitl [Hc0]; · iexact Hc0
    isplitl [HoA]; · iexact HoA
    isplitl [Ho]; · iexact Ho
    iexact Hl
  iintro ⟨Hw, Hg, Hv0, Ho⟩
  iapply Hk
  isplitr [Ho]
  · isplitl [Hw]; · iexact Hw
    isplitl [Hg]; · iexact Hg
    isplitl [Hv0]; · iexact Hv0
    isplitl [HrB]; · iexact HrB
    isplitl [HoB] <;> iassumption
  iexact Ho

theorem pair_run (A' B' A B : Job c) {k : P F} {Q : PUnit → sProp 𝕄} {O : CellTallies nD τ sig Unit} (hO : Above 0 O) :
    iprop(pend I A' B' ∗ todo I A ∗ todo I B ∗ owesA c O ∗ levAts L lv)
      ⊢ iprop(((pend I A B ∗ done I A' ∗ done I B' ∗ owesA c O) -∗ runs c k Q) -∗ runs c (pair A'.t B'.t A.t B.t k) Q) := by
  unfold todo done pend pair
  iintro ⟨⟨HwA', HgA', Hv0, HrB', HoB', Hc1⟩, ⟨HgA, HoA⟩, ⟨HgB, HoB⟩, Ho, #Hl⟩ Hk
  iapply (wp_drain I 0 A' hO) $$ [HwA' Ho]
  · isplitl [HwA']; · iexact HwA'
    isplitl [Ho]; · iexact Ho
    iexact Hl
  iintro ⟨HoA', Hc0, Ho⟩
  iapply (wp_startIn I 0 A) $$ [HgA Hv0]
  · isplitl [HgA] <;> iassumption
  iintro HrA
  iapply (wp_process I 1 B' hO) $$ [HrB' Hc1 HoB' Ho]
  · isplitl [HrB']; · iexact HrB'
    isplitl [Hc1]; · iexact Hc1
    isplitl [HoB']; · iexact HoB'
    isplitl [Ho]; · iexact Ho
    iexact Hl
  iintro ⟨HwB', HgB', Hv1, Ho⟩
  iapply (wp_drain I 1 B' hO) $$ [HwB' Ho]
  · isplitl [HwB']; · iexact HwB'
    isplitl [Ho]; · iexact Ho
    iexact Hl
  iintro ⟨HoB', Hc1, Ho⟩
  iapply (wp_startIn I 1 B) $$ [HgB Hv1]
  · isplitl [HgB] <;> iassumption
  iintro HrB
  iapply (wp_process I 0 A hO) $$ [HrA Hc0 HoA Ho]
  · isplitl [HrA]; · iexact HrA
    isplitl [Hc0]; · iexact Hc0
    isplitl [HoA]; · iexact HoA
    isplitl [Ho]; · iexact Ho
    iexact Hl
  iintro ⟨HwA, HgA, Hv0, Ho⟩
  iapply Hk
  isplitl [HwA HgA Hv0 HrB HoB Hc1]
  · isplitl [HwA]; · iexact HwA
    isplitl [HgA]; · iexact HgA
    isplitl [Hv0]; · iexact Hv0
    isplitl [HrB]; · iexact HrB
    isplitl [HoB] <;> iassumption
  isplitl [HgA' HoA']; · isplitl [HgA'] <;> iassumption
  isplitl [HgB' HoB']; · isplitl [HgB'] <;> iassumption
  iexact Ho

theorem flush_run (A B : Job c) {k : P F} {Q : PUnit → sProp 𝕄} {O : CellTallies nD τ sig Unit} (hO : Above 0 O) :
    iprop(pend I A B ∗ owesA c O ∗ levAts L lv)
      ⊢ iprop(((done I A ∗ done I B ∗ cv c 0 ∗ cv c 1 ∗ co c 0 ∗ co c 1 ∗ owesA c O) -∗ runs c k Q) -∗ runs c (flush A.t B.t k) Q) := by
  unfold done pend flush
  iintro ⟨⟨HwA, HgA, Hv0, HrB, HoB, Hc1⟩, Ho, #Hl⟩ Hk
  iapply (wp_process I 1 B hO) $$ [HrB Hc1 HoB Ho]
  · isplitl [HrB]; · iexact HrB
    isplitl [Hc1]; · iexact Hc1
    isplitl [HoB]; · iexact HoB
    isplitl [Ho]; · iexact Ho
    iexact Hl
  iintro ⟨HwB, HgB, Hv1, Ho⟩
  iapply (wp_drain I 0 A hO) $$ [HwA Ho]
  · isplitl [HwA]; · iexact HwA
    isplitl [Ho]; · iexact Ho
    iexact Hl
  iintro ⟨HoA, Hc0, Ho⟩
  iapply (wp_drain I 1 B hO) $$ [HwB Ho]
  · isplitl [HwB]; · iexact HwB
    isplitl [Ho]; · iexact Ho
    iexact Hl
  iintro ⟨HoB, Hc1, Ho⟩
  iapply Hk
  isplitl [HgA HoA]; · isplitl [HgA] <;> iassumption
  isplitl [HgB HoB]; · isplitl [HgB] <;> iassumption
  isplitl [Hv0]; · iexact Hv0
  isplitl [Hv1]; · iexact Hv1
  isplitl [Hc0]; · iexact Hc0
  isplitl [Hc1] <;> iassumption

/-! ## The tiles of the other three chunks -/

theorem c0_nx_ne (c : Dev nD) : c0 (nx c) ≠ c0 c := by revert c; decide
theorem c0_nz_ne (c : Dev nD) : c0 (nz c) ≠ c0 c := by revert c; decide
theorem c0_nzx_ne (c : Dev nD) : c0 (nz (nx c)) ≠ c0 c := by revert c; decide

variable (c)

abbrev J5 (b : Fin 4) : Job c := ⟨_, k1_off5_inb c b, k1_off5_wordsbf16 c b, _, nz c, 256 * b.val, qR, off5 c b, rfl, by have := b.isLt; omega, c0_nz_ne c⟩
abbrev J7 (b : Fin 4) : Job c := ⟨_, k1_off7_inb c b, k1_off7_wordsbf16 c b, _, nx c, 256 * b.val + 128, qR, off7 c b, Nat.add_assoc _ _ _, by have := b.isLt; omega, c0_nx_ne c⟩
abbrev J8 (b : Fin 4) : Job c := ⟨_, k1_off8_inb c b, k1_off8_wordsbf16 c b, _, nz c, 256 * b.val + 128, fullShare, off8 c b, Nat.add_assoc _ _ _, by have := b.isLt; omega, c0_nz_ne c⟩
abbrev J9 (b : Fin 4) : Job c := ⟨_, k1_off9_inb c b, k1_off9_wordsbf16 c b, _, nx c, 256 * b.val, fullShare, off9 c b, rfl, by have := b.isLt; omega, c0_nx_ne c⟩
abbrev J10 (b : Fin 4) : Job c := ⟨_, k1_off10_inb c b, k1_off10_wordsbf16 c b, _, nz (nx c), 256 * b.val, fullShare, off10 c b, rfl, by have := b.isLt; omega, c0_nzx_ne c⟩
abbrev J11 (b : Fin 4) : Job c := ⟨_, k1_off11_inb c b, k1_off11_wordsbf16 c b, _, nz (nx c), 256 * b.val + 128, fullShare, off11 c b, Nat.add_assoc _ _ _, by have := b.isLt; omega, c0_nzx_ne c⟩

/-- The wait for the two halves of a block of the diagonal chunk. -/
theorem diagWait_run (b : Fin 4) {k : P F} {Q : PUnit → sProp 𝕄} :
    iprop(ctx I κ c ∗ cr c 7 b ∗ at0 c 7 b ∗ cr c 9 b ∗ at0 c 9 b ∗ owesA c 0)
      ⊢ iprop(((at1 c 7 b ∗ at1 c 9 b ∗ gR c fullShare (G I c) (J10 c b).n 128 ∗ gR c fullShare (G I c) (J11 c b).n 128 ∗ owesA c 0) -∗ runs c k Q)
        -∗ runs c (diagWait c b k) Q) := by
  unfold diagWait
  iintro ⟨#Hc, Hc7, Ha7, Hc9, Ha9, Ho⟩ Hk
  iapply (wp_take I κ c 7 b (bytes_gTile (w := k1_off10_wordsbf16 c b)) (Above.zero _)) $$ [Hc7 Ha7 Ho]
  · isplitl []; · iexact Hc
    isplitl [Hc7]; · iexact Hc7
    isplitl [Ha7]; · iexact Ha7
    iexact Ho
  iintro ⟨Hp7, Ha7, Ho⟩
  iapply (wp_take I κ c 9 b (bytes_gTile (w := k1_off11_wordsbf16 c b)) (Above.zero _)) $$ [Hc9 Ha9 Ho]
  · isplitl []; · iexact Hc
    isplitl [Hc9]; · iexact Hc9
    isplitl [Ha9]; · iexact Ha9
    iexact Ho
  iintro ⟨Hp9, Ha9, Ho⟩
  iapply Hk
  isplitl [Ha7]; · iexact Ha7
  isplitl [Ha9]; · iexact Ha9
  isplitl [Hp7]; · iapply (show (pay I c 7 b : sProp 𝕄) ⊢ gR c fullShare (G I c) (J10 c b).n 128 from entails_refl _); iexact Hp7
  isplitl [Hp9]; · iapply (show (pay I c 9 b : sProp 𝕄) ⊢ gR c fullShare (G I c) (J11 c b).n 128 from entails_refl _); iexact Hp9
  iexact Ho

end Cert.KernelIdeal.Fused

end
-- ==== Proof.Phases.lean ====
module

public import proofs.«01_k».proof.Proof.Convert

@[expose] public section

noncomputable section

namespace Cert.KernelIdeal.Fused

open Idealize.ShloMosaic Idealize.ShloMosaic.TcCoe Idealize.SL Idealize.SL.Sem Idealize.SL.RA Idealize.SL.BI
open scoped Idealize.SL.BI
open Idealize.SL.BI.BIBase Idealize.SL.BI.Laws Idealize.SL.ProofMode
open Idealize.ShloMosaic.Rounds
open Cert.KernelIdeal Facts₀ Facts

variable {F : FTy → Type} [FloatOps F]

local notation "𝕄" => MT nD τ sig Unit (Elt F) ℕ UU ℕ

variable (I : In F) (κ : GSem nD τ sig → ℕ) (c : Dev nD)

/-- The rows of the result the four tiles of a forwarding are converted into. -/
def outs (b : Fin 4) : sProp 𝕄 :=
  iprop(oW (F := F) c (J5 c b).n 128 ∗ oW (F := F) c (J8 c b).n 128 ∗ oW (F := F) c (J9 c b).n 128 ∗ oW (F := F) c (J7 c b).n 128)
/-- The rows of the result the two tiles of the diagonal are converted into. -/
def outsD (b : Fin 4) : sProp 𝕄 := iprop(oW (F := F) c (J10 c b).n 128 ∗ oW (F := F) c (J11 c b).n 128)
/-- What the wait for the diagonal's block uses, and leaves. -/
def dgPre (b : Fin 4) : sProp 𝕄 := iprop(cr (F := F) c 7 b ∗ at0 c 7 b ∗ cr c 9 b ∗ at0 c 9 b ∗ outsD c b)
def dgPost (b : Fin 4) : sProp 𝕄 := iprop(at1 (F := F) c 7 b ∗ at1 c 9 b)

/-- The four tiles of a forwarding are converted, the last two still on their way. -/
theorem four_run {A B : Job c} (b : Fin 4) {k : P F} {Q : PUnit → sProp 𝕄} {O : CellTallies nD τ sig Unit} (hO : Above 0 O) :
    iprop(pend I A B ∗ fwdGot I c b ∗ outs c b ∗ owesA c O ∗ levAts L lv)
      ⊢ iprop(((pend I (J9 c b) (J7 c b) ∗ done I A ∗ done I B ∗ done I (J5 c b) ∗ done I (J8 c b) ∗ owesA c O) -∗ runs c k Q)
        -∗ runs c (pair A.t B.t (T5 c b) (T8 c b) <| pair (T5 c b) (T8 c b) (T9 c b) (T7 c b) k) Q) := by
  unfold fwdGot outs
  iintro ⟨Hp, ⟨H5, H8, H9, H7⟩, ⟨O5, O8, O9, O7⟩, Ho, #Hl⟩ Hk
  iapply (pair_run I A B (J5 c b) (J8 c b) hO) $$ [Hp H5 O5 H8 O8 Ho]
  · isplitl [Hp]; · iexact Hp
    isplitl [H5 O5]; · unfold todo; isplitl [H5] <;> iassumption
    isplitl [H8 O8]; · unfold todo; isplitl [H8] <;> iassumption
    isplitl [Ho]; · iexact Ho
    iexact Hl
  iintro ⟨Hp, HA, HB, Ho⟩
  iapply (pair_run I (J5 c b) (J8 c b) (J9 c b) (J7 c b) hO) $$ [Hp H9 O9 H7 O7 Ho]
  · isplitl [Hp]; · iexact Hp
    isplitl [H9 O9]; · unfold todo; isplitl [H9] <;> iassumption
    isplitl [H7 O7]; · unfold todo; isplitl [H7] <;> iassumption
    isplitl [Ho]; · iexact Ho
    iexact Hl
  iintro ⟨Hp, H5, H8, Ho⟩
  iapply Hk
  isplitl [Hp]; · iexact Hp
  isplitl [HA]; · iexact HA
  isplitl [HB]; · iexact HB
  isplitl [H5]; · iexact H5
  isplitl [H8] <;> iassumption

/-- A block is forwarded and its four tiles converted. -/
theorem mid_run {A B : Job c} {dx dz : Dev nD} (b : Fin 4) {k : P F} {Q : PUnit → sProp 𝕄} {O₂ O₁ : CellTallies nD τ sig Unit}
    (O : CellTallies nD τ sig Unit) (hx : dx = nx c) (hz : dz = nz c)
    (h₂ : O₂ = O₁ + tallyAt (cell (nx c) 7 b) () (amt 7)) (h₁ : O₁ = O + tallyAt (cell (nz c) 9 b) () (amt 9))
    (hA₂ : Above 3 O₂) (hA₁ : Above 3 O₁) (hA : Above 0 O) :
    iprop(ctx I κ c ∗ pend I A B ∗ fwdPre c b ∗ outs c b ∗ owesA c O₂)
      ⊢ iprop(((pend I (J9 c b) (J7 c b) ∗ done I A ∗ done I B ∗ done I (J5 c b) ∗ done I (J8 c b) ∗ fwdPost c b ∗ owesA c O) -∗ runs c k Q)
        -∗ runs c (forward c dx dz b <| pair A.t B.t (T5 c b) (T8 c b) <| pair (T5 c b) (T8 c b) (T9 c b) (T7 c b) k) Q) := by
  iintro ⟨#Hc, Hp, Hf, Hw, Ho⟩ Hk
  ihave #Hl := (ctx_recs I κ c) $$ Hc
  ihave #Hl := (recs_lev I κ) $$ Hl
  iapply (forward_run I κ c b O hx hz h₂ h₁ hA₂ hA₁) $$ [Hf Ho]
  · isplitl []; · iexact Hc
    isplitl [Hf] <;> iassumption
  iintro ⟨Hf, Hg, Ho⟩
  iapply (four_run I c b hA) $$ [Hp Hg Hw Ho]
  · isplitl [Hp]; · iexact Hp
    isplitl [Hg]; · iexact Hg
    isplitl [Hw]; · iexact Hw
    isplitl [Ho]; · iexact Ho
    iexact Hl
  iintro ⟨Hp, HA, HB, H5, H8, Ho⟩
  iapply Hk
  isplitl [Hp]; · iexact Hp
  isplitl [HA]; · iexact HA
  isplitl [HB]; · iexact HB
  isplitl [H5]; · iexact H5
  isplitl [H8]; · iexact H8
  isplitl [Hf] <;> iassumption

/-- A block of the diagonal is waited for and its conversion started. -/
theorem diag_run {A B : Job c} (b : Fin 4) {k : P F} {Q : PUnit → sProp 𝕄} :
    iprop(ctx I κ c ∗ pend I A B ∗ dgPre c b ∗ owesA c 0)
      ⊢ iprop(((pend I (J10 c b) (J11 c b) ∗ done I A ∗ done I B ∗ dgPost c b ∗ owesA c 0) -∗ runs c k Q)
        -∗ runs c (diagWait c b <| pair A.t B.t (T10 c b) (T11 c b) k) Q) := by
  unfold dgPre dgPost outsD
  iintro ⟨#Hc, Hp, ⟨Hc7, Ha7, Hc9, Ha9, Hw10, Hw11⟩, Ho⟩ Hk
  ihave #Hl := (ctx_recs I κ c) $$ Hc
  ihave #Hl := (recs_lev I κ) $$ Hl
  iapply (diagWait_run I κ c b) $$ [Hc7 Ha7 Hc9 Ha9 Ho]
  · isplitl []; · iexact Hc
    isplitl [Hc7]; · iexact Hc7
    isplitl [Ha7]; · iexact Ha7
    isplitl [Hc9]; · iexact Hc9
    isplitl [Ha9] <;> iassumption
  iintro ⟨Ha7, Ha9, H10, H11, Ho⟩
  iapply (pair_run I A B (J10 c b) (J11 c b) (Above.zero 0)) $$ [Hp H10 Hw10 H11 Hw11 Ho]
  · isplitl [Hp]; · iexact Hp
    isplitl [H10 Hw10]; · unfold todo; isplitl [H10] <;> iassumption
    isplitl [H11 Hw11]; · unfold todo; isplitl [H11] <;> iassumption
    isplitl [Ho]; · iexact Ho
    iexact Hl
  iintro ⟨Hp, HA, HB, Ho⟩
  iapply Hk
  isplitl [Hp]; · iexact Hp
  isplitl [HA]; · iexact HA
  isplitl [HB]; · iexact HB
  isplitr [Ho]; · isplitl [Ha7] <;> iassumption
  iexact Ho

/-- Four of a family. -/
abbrev all4 (Φ : Fin 4 → sProp 𝕄) : sProp 𝕄 := iprop(Φ 0 ∗ Φ 1 ∗ Φ 2 ∗ Φ 3)

/-- The six converted tiles of block `b`. -/
def six (b : Fin 4) : sProp 𝕄 :=
  iprop(done I (J5 c b) ∗ done I (J8 c b) ∗ done I (J9 c b) ∗ done I (J7 c b) ∗ done I (J10 c b) ∗ done I (J11 c b))

/-- The two slots of the reading and of the writing. -/
def slots : sProp 𝕄 := iprop(cv (F := F) c 0 ∗ cv (F := F) c 1 ∗ co (F := F) c 0 ∗ co (F := F) c 1)

theorem above3 (n : ℕ) (hn : 15 ≤ n) : Above 3 (Ow c n) := by
  apply above_due
  intro p hp
  have hp' : p ∈ (dues c).drop 15 := by
    rw [show n = 15 + (n - 15) by omega, ← List.drop_drop] at hp
    exact List.mem_of_mem_drop hp
  have hq : p ∈ ([0, 1, 2, 3] : List (Fin 4)).flatMap fun b => [(cell (nb 3 c) (rk 3) b, amt (rk 3)), (cell (nb 4 c) (rk 4) b, amt (rk 4))] := hp'
  clear hp hp'
  obtain ⟨b, -, hb⟩ := List.mem_flatMap.mp hq
  have h7 : 3 < lvl (.dma (kS 7 b)) := by clear hb; revert b; decide
  have h9 : 3 < lvl (.dma (kS 9 b)) := by clear hb h7; revert b; decide
  rcases List.mem_cons.mp hb with rfl | hb
  · exact ⟨rfl, h7⟩
  · obtain rfl := List.mem_singleton.mp hb
    exact ⟨rfl, h9⟩

theorem Ow17 : Ow c 17 = Ow c 18 + tallyAt (cell (nx c) 7 1) () (amt 7) := rfl
theorem Ow18 : Ow c 18 = Ow c 19 + tallyAt (cell (nz c) 9 1) () (amt 9) := rfl
theorem Ow19 : Ow c 19 = Ow c 20 + tallyAt (cell (nx c) 7 2) () (amt 7) := rfl
theorem Ow20 : Ow c 20 = Ow c 21 + tallyAt (cell (nz c) 9 2) () (amt 9) := rfl
theorem Ow21 : Ow c 21 = Ow c 22 + tallyAt (cell (nx c) 7 3) () (amt 7) := rfl
theorem Ow22 : Ow c 22 = 0 + tallyAt (cell (nz c) 9 3) () (amt 9) := rfl

/-- The conversions. -/
theorem convert_run {x1 z1 x2 z2 x3 z3 : Dev nD} {k : P F} {Q : PUnit → sProp 𝕄} (hx1 : x1 = nx c) (hz1 : z1 = nz c)
    (hx2 : x2 = nx c) (hz2 : z2 = nz c) (hx3 : x3 = nx c) (hz3 : z3 = nz c) :
    iprop(ctx I κ c ∗ slots c ∗ fwdGot I c 0 ∗ (fwdPre c 1 ∗ fwdPre c 2 ∗ fwdPre c 3) ∗ all4 (outs c) ∗ all4 (dgPre c) ∗ owesA c (Ow c 17))
      ⊢ iprop(((slots c ∗ (fwdPost c 1 ∗ fwdPost c 2 ∗ fwdPost c 3) ∗ all4 (dgPost c) ∗ all4 (six I c) ∗ owesA c 0) -∗ runs c k Q)
        -∗ runs c (convert c x1 z1 x2 z2 x3 z3 k) Q) := by
  unfold slots
  iintro ⟨#Hc, ⟨Hv0, Hv1, Hw0, Hw1⟩, Hg, ⟨Hf1, Hf2, Hf3⟩, ⟨Ht0, Ht1, Ht2, Ht3⟩, ⟨Hd0, Hd1, Hd2, Hd3⟩, Ho⟩ Hk
  unfold convert
  ihave #Hl := (ctx_recs I κ c) $$ Hc
  ihave #Hl := (recs_lev I κ) $$ Hl
  unfold fwdGot
  icases Hg with ⟨H5, H8, H9, H7⟩
  icases (show (outs c 0 : sProp 𝕄) ⊢ iprop(oW (F := F) c (J5 c 0).n 128 ∗ oW (F := F) c (J8 c 0).n 128 ∗ oW (F := F) c (J9 c 0).n 128 ∗ oW (F := F) c (J7 c 0).n 128) from entails_refl _) $$ Ht0 with ⟨O5, O8, O9, O7⟩
  iapply (pair₀_run I (J5 c 0) (J8 c 0) ((above3 c 17 (by decide)).mono (Nat.zero_le _))) $$ [Hv0 Hv1 Hw0 Hw1 H5 O5 H8 O8 Ho]
  · isplitl [H5 O5]; · unfold todo; isplitl [H5] <;> iassumption
    isplitl [H8 O8]; · unfold todo; isplitl [H8] <;> iassumption
    isplitl [Hv0]; · iexact Hv0
    isplitl [Hv1]; · iexact Hv1
    isplitl [Hw0]; · iexact Hw0
    isplitl [Hw1]; · iexact Hw1
    isplitl [Ho]; · iexact Ho
    iexact Hl
  iintro ⟨Hp, Ho⟩
  iapply (pair_run I (J5 c 0) (J8 c 0) (J9 c 0) (J7 c 0) ((above3 c 17 (by decide)).mono (Nat.zero_le _))) $$ [Hp H9 O9 H7 O7 Ho]
  · isplitl [Hp]; · iexact Hp
    isplitl [H9 O9]; · unfold todo; isplitl [H9] <;> iassumption
    isplitl [H7 O7]; · unfold todo; isplitl [H7] <;> iassumption
    isplitl [Ho]; · iexact Ho
    iexact Hl
  iintro ⟨Hp, D5a, D8a, Ho⟩
  iapply (mid_run I κ c (A := J9 c 0) (B := J7 c 0) 1 (O₁ := Ow c 18) (Ow c 19) hx1 hz1 (Ow17 c) (Ow18 c) (above3 c 17 (by decide)) (above3 c 18 (by decide)) ((above3 c 19 (by decide)).mono (Nat.zero_le _))) $$ [Hp Hf1 Ht1 Ho]
  · isplitl []; · iexact Hc
    isplitl [Hp]; · iexact Hp
    isplitl [Hf1]; · iexact Hf1
    isplitl [Ht1] <;> iassumption
  iintro ⟨Hp, D9a, D7a, D5b, D8b, Hf1, Ho⟩
  iapply (mid_run I κ c (A := J9 c 1) (B := J7 c 1) 2 (O₁ := Ow c 20) (Ow c 21) hx2 hz2 (Ow19 c) (Ow20 c) (above3 c 19 (by decide)) (above3 c 20 (by decide)) ((above3 c 21 (by decide)).mono (Nat.zero_le _))) $$ [Hp Hf2 Ht2 Ho]
  · isplitl []; · iexact Hc
    isplitl [Hp]; · iexact Hp
    isplitl [Hf2]; · iexact Hf2
    isplitl [Ht2] <;> iassumption
  iintro ⟨Hp, D9b, D7b, D5c, D8c, Hf2, Ho⟩
  iapply (mid_run I κ c (A := J9 c 2) (B := J7 c 2) 3 (O₁ := Ow c 22) 0 hx3 hz3 (Ow21 c) (Ow22 c) (above3 c 21 (by decide)) (above3 c 22 (by decide)) (Above.zero 0)) $$ [Hp Hf3 Ht3 Ho]
  · isplitl []; · iexact Hc
    isplitl [Hp]; · iexact Hp
    isplitl [Hf3]; · iexact Hf3
    isplitl [Ht3] <;> iassumption
  iintro ⟨Hp, D9c, D7c, D5d, D8d, Hf3, Ho⟩
  iapply (diag_run I κ c (A := J9 c 3) (B := J7 c 3) 0) $$ [Hp Hd0 Ho]
  · isplitl []; · iexact Hc
    isplitl [Hp]; · iexact Hp
    isplitl [Hd0] <;> iassumption
  iintro ⟨Hp, D9d, D7d, Hd0, Ho⟩
  iapply (diag_run I κ c (A := J10 c 0) (B := J11 c 0) 1) $$ [Hp Hd1 Ho]
  · isplitl []; · iexact Hc
    isplitl [Hp]; · iexact Hp
    isplitl [Hd1] <;> iassumption
  iintro ⟨Hp, D10a, D11a, Hd1, Ho⟩
  iapply (diag_run I κ c (A := J10 c 1) (B := J11 c 1) 2) $$ [Hp Hd2 Ho]
  · isplitl []; · iexact Hc
    isplitl [Hp]; · iexact Hp
    isplitl [Hd2] <;> iassumption
  iintro ⟨Hp, D10b, D11b, Hd2, Ho⟩
  iapply (diag_run I κ c (A := J10 c 2) (B := J11 c 2) 3) $$ [Hp Hd3 Ho]
  · isplitl []; · iexact Hc
    isplitl [Hp]; · iexact Hp
    isplitl [Hd3] <;> iassumption
  iintro ⟨Hp, D10c, D11c, Hd3, Ho⟩
  iapply (flush_run I (J10 c 3) (J11 c 3) (Above.zero 0)) $$ [Hp Ho]
  · isplitl [Hp]; · iexact Hp
    isplitl [Ho]; · iexact Ho
    iexact Hl
  iintro ⟨D10d, D11d, Hv0, Hv1, Hw0, Hw1, Ho⟩
  iapply Hk
  unfold all4 six
  isplitl [Hv0 Hv1 Hw0 Hw1]
  · isplitl [Hv0]; · iexact Hv0
    isplitl [Hv1]; · iexact Hv1
    isplitl [Hw0] <;> iassumption
  isplitl [Hf1 Hf2 Hf3]
  · isplitl [Hf1]; · iexact Hf1
    isplitl [Hf2] <;> iassumption
  isplitl [Hd0 Hd1 Hd2 Hd3]
  · isplitl [Hd0]; · iexact Hd0
    isplitl [Hd1]; · iexact Hd1
    isplitl [Hd2] <;> iassumption
  isplitr [Ho]
  · isplitl [D5a D8a D9a D7a D10a D11a]
    · isplitl [D5a]; · iexact D5a
      isplitl [D8a]; · iexact D8a
      isplitl [D9a]; · iexact D9a
      isplitl [D7a]; · iexact D7a
      isplitl [D10a] <;> iassumption
    isplitl [D5b D8b D9b D7b D10b D11b]
    · isplitl [D5b]; · iexact D5b
      isplitl [D8b]; · iexact D8b
      isplitl [D9b]; · iexact D9b
      isplitl [D7b]; · iexact D7b
      isplitl [D10b] <;> iassumption
    isplitl [D5c D8c D9c D7c D10c D11c]
    · isplitl [D5c]; · iexact D5c
      isplitl [D8c]; · iexact D8c
      isplitl [D9c]; · iexact D9c
      isplitl [D7c]; · iexact D7c
      isplitl [D10c] <;> iassumption
    isplitl [D5d]; · iexact D5d
    isplitl [D8d]; · iexact D8d
    isplitl [D9d]; · iexact D9d
    isplitl [D7d]; · iexact D7d
    isplitl [D10d] <;> iassumption
  iexact Ho

end Cert.KernelIdeal.Fused

end
-- ==== Proof.Front.lean ====
module

public import proofs.«01_k».proof.Proof.Phases

@[expose] public section

noncomputable section

namespace Cert.KernelIdeal.Fused

open Idealize.ShloMosaic Idealize.ShloMosaic.TcCoe Idealize.SL Idealize.SL.Sem Idealize.SL.RA Idealize.SL.BI
open scoped Idealize.SL.BI
open Idealize.SL.BI.BIBase Idealize.SL.BI.Laws Idealize.SL.ProofMode
open Idealize.ShloMosaic.Rounds
open Cert.KernelIdeal Facts₀ Facts

variable {F : FTy → Type} [FloatOps F]

local notation "𝕄" => MT nD τ sig Unit (Elt F) ℕ UU ℕ

variable (I : In F) (κ : GSem nD τ sig → ℕ) (c : Dev nD)

/-! ## The levels of what is owed -/

def levels : List ℕ := [1, 1, 1, 2, 2, 2, 2, 3, 3, 3, 3, 3, 3, 3, 3, 4, 4, 4, 4, 4, 4, 4, 4]

theorem dues_levels : (dues c).map (fun p => lvl p.1.2) = levels := rfl
theorem dues_tc : (dues c).map (fun p => p.1.1.2) = List.replicate 23 .tc := rfl

/-- After `n` payments all that is owed is owed above level `m`. -/
theorem above (m n : ℕ) (h : ∀ x ∈ levels.drop n, m < x) : Above m (Ow c n) := above_due m _ fun p hp => by
  constructor
  · have : p.1.1.2 ∈ (dues c).map (fun p => p.1.1.2) := List.mem_map_of_mem (List.mem_of_mem_drop hp)
    rw [dues_tc] at this
    exact List.eq_of_mem_replicate this
  · refine h _ ?_
    rw [← dues_levels c, ← List.map_drop]
    exact List.mem_map_of_mem (f := fun p => lvl p.1.2) hp

theorem Ow0 : Ow c 0 = Ow c 1 + tallyAt (barCell (nx c)) () 1 := rfl
theorem Ow1 : Ow c 1 = Ow c 2 + tallyAt (barCell (ny c)) () 1 := rfl
theorem Ow2 : Ow c 2 = Ow c 3 + tallyAt (barCell (nz c)) () 1 := rfl
theorem Ow3 : Ow c 3 = Ow c 4 + tallyAt (cell (ny c) 1 0) () (amt 1) := rfl
theorem Ow4 : Ow c 4 = Ow c 5 + tallyAt (cell (ny c) 1 1) () (amt 1) := rfl
theorem Ow5 : Ow c 5 = Ow c 6 + tallyAt (cell (ny c) 1 2) () (amt 1) := rfl
theorem Ow6 : Ow c 6 = Ow c 7 + tallyAt (cell (ny c) 1 3) () (amt 1) := rfl
theorem Ow7 : Ow c 7 = Ow c 8 + tallyAt (cell (nx c) 3 0) () (amt 3) := rfl
theorem Ow8 : Ow c 8 = Ow c 9 + tallyAt (cell (nz c) 5 0) () (amt 5) := rfl
theorem Ow9 : Ow c 9 = Ow c 10 + tallyAt (cell (nx c) 3 1) () (amt 3) := rfl
theorem Ow10 : Ow c 10 = Ow c 11 + tallyAt (cell (nz c) 5 1) () (amt 5) := rfl
theorem Ow11 : Ow c 11 = Ow c 12 + tallyAt (cell (nx c) 3 2) () (amt 3) := rfl
theorem Ow12 : Ow c 12 = Ow c 13 + tallyAt (cell (nz c) 5 2) () (amt 5) := rfl
theorem Ow13 : Ow c 13 = Ow c 14 + tallyAt (cell (nx c) 3 3) () (amt 3) := rfl
theorem Ow14 : Ow c 14 = Ow c 15 + tallyAt (cell (nz c) 5 3) () (amt 5) := rfl
theorem Ow15 : Ow c 15 = Ow c 16 + tallyAt (cell (nx c) 7 0) () (amt 7) := rfl
theorem Ow16 : Ow c 16 = Ow c 17 + tallyAt (cell (nz c) 9 0) () (amt 9) := rfl

/-! ## The barrier -/

/-- What the barrier uses: the tokens of the neighbours' barriers and what each of them is handed, the credit and the
    position at the own one. -/
def barPre : sProp 𝕄 :=
  iprop(dutyTok ER (barCell (nx c)) 0 0 ∗ dutyTok ER (barCell (ny c)) 0 1 ∗ dutyTok ER (barCell (nz c)) 0 2
    ∗ barPay (F := F) (nx c) 0 ∗ barPay (F := F) (ny c) 1 ∗ barPay (F := F) (nz c) 2
    ∗ cred (tallyAt (barCell c) () 3) ∗ atPos ER (barCell c) 0 ∅ 0)
/-- What it leaves. -/
def barPost : sProp 𝕄 :=
  iprop(atPos ER (barCell c) (0 + 1) ∅ 0 ∗ rooms (F := F) c 0 ∗ rooms (F := F) c 1 ∗ rooms (F := F) c 2 ∗ rooms (F := F) c 3 ∗ rooms (F := F) c 4)

theorem barrier_run {dx dy dz : Dev nD} {k : P F} {Q : PUnit → sProp 𝕄} (hx : dx = nx c) (hy : dy = ny c) (hz : dz = nz c) :
    iprop(ctx I κ c ∗ barPre c ∗ owesA c (Ow c 0))
      ⊢ iprop(((barPost c ∗ owesA c (Ow c 3)) -∗ runs c k Q) -∗ runs c (barrier dx dy dz k) Q) := by
  unfold barPre barPost
  iintro ⟨#Hc, ⟨Htx, Hty, Htz, Hpx, Hpy, Hpz, Hcr, Hat⟩, Ho⟩ Hk
  iapply (wp_signalT I κ c 0 (Ow c 1) rfl hx (Ow0 c)) $$ [Htx Hpx Ho]
  · isplitl []; · iexact Hc
    isplitl [Ho]; · iexact Ho
    isplitl [Htx]; · iexact Htx
    iexact Hpx
  iintro Ho
  iapply (wp_signalT I κ c 1 (Ow c 2) rfl hy (Ow1 c)) $$ [Hty Hpy Ho]
  · isplitl []; · iexact Hc
    isplitl [Ho]; · iexact Ho
    isplitl [Hty]; · iexact Hty
    iexact Hpy
  iintro Ho
  iapply (wp_signalT I κ c 2 (Ow c 3) rfl hz (Ow2 c)) $$ [Htz Hpz Ho]
  · isplitl []; · iexact Hc
    isplitl [Ho]; · iexact Ho
    isplitl [Htz]; · iexact Htz
    iexact Hpz
  iintro Ho
  iapply (wp_waitBar I κ c rfl (above c 1 3 (by decide))) $$ [Hcr Hat Ho]
  · isplitl []; · iexact Hc
    isplitl [Hcr]; · iexact Hcr
    isplitl [Ho]; · iexact Ho
    iexact Hat
  unfold barPay
  iintro ⟨Ho, Hat, ⟨H1, H3⟩, H0, ⟨H2, H4⟩⟩
  iapply Hk
  isplitr [Ho]
  · isplitl [Hat]; · iexact Hat
    isplitl [H0]; · iexact H0
    isplitl [H1]; · iexact H1
    isplitl [H2]; · iexact H2
    isplitl [H3] <;> iassumption
  iexact Ho

/-! ## The copies along y -/

theorem sendYs_run {d₀ d₁ d₂ d₃ : Dev nD} {k : P F} {Q : PUnit → sProp 𝕄} (h₀ : d₀ = ny c) (h₁ : d₁ = ny c) (h₂ : d₂ = ny c) (h₃ : d₃ = ny c) :
    iprop(ctx I κ c ∗ all4 (fun b => part c (bBlk b) fullShare (I.b c)) ∗ all4 (kit c 0) ∗ rooms c 0 ∗ owesA c (Ow c 3))
      ⊢ iprop(((all4 (cr c 0) ∗ owesA c (Ow c 7)) -∗ runs c k Q)
        -∗ runs c (sendY d₀ 0 <| sendY d₁ 1 <| sendY d₂ 2 <| sendY d₃ 3 k) Q) := by
  unfold all4 rooms
  iintro ⟨#Hc, ⟨Hs0, Hs1, Hs2, Hs3⟩, ⟨Hk0, Hk1, Hk2, Hk3⟩, ⟨Hr0, Hr1, Hr2, Hr3⟩, Ho⟩ Hk
  iapply (wp_sendY I κ c 0 (Ow c 4) h₀ (Ow3 c)) $$ [Hs0 Hk0 Hr0 Ho]
  · isplitl []; · iexact Hc
    isplitl [Hs0]; · iexact Hs0
    isplitl [Hk0]; · iexact Hk0
    isplitl [Hr0] <;> iassumption
  iintro ⟨Hc0, Ho⟩
  iapply (wp_sendY I κ c 1 (Ow c 5) h₁ (Ow4 c)) $$ [Hs1 Hk1 Hr1 Ho]
  · isplitl []; · iexact Hc
    isplitl [Hs1]; · iexact Hs1
    isplitl [Hk1]; · iexact Hk1
    isplitl [Hr1] <;> iassumption
  iintro ⟨Hc1, Ho⟩
  iapply (wp_sendY I κ c 2 (Ow c 6) h₂ (Ow5 c)) $$ [Hs2 Hk2 Hr2 Ho]
  · isplitl []; · iexact Hc
    isplitl [Hs2]; · iexact Hs2
    isplitl [Hk2]; · iexact Hk2
    isplitl [Hr2] <;> iassumption
  iintro ⟨Hc2, Ho⟩
  iapply (wp_sendY I κ c 3 (Ow c 7) h₃ (Ow6 c)) $$ [Hs3 Hk3 Hr3 Ho]
  · isplitl []; · iexact Hc
    isplitl [Hs3]; · iexact Hs3
    isplitl [Hk3]; · iexact Hk3
    isplitl [Hr3] <;> iassumption
  iintro ⟨Hc3, Ho⟩
  iapply Hk
  isplitr [Ho]
  · isplitl [Hc0]; · iexact Hc0
    isplitl [Hc1]; · iexact Hc1
    isplitl [Hc2] <;> iassumption
  iexact Ho

/-! ## The four blocks -/

theorem blocks_run {x₀ z₀ x₁ z₁ x₂ z₂ x₃ z₃ : Dev nD} {k : P F} {Q : PUnit → sProp 𝕄} (hx₀ : x₀ = nx c) (hz₀ : z₀ = nz c)
    (hx₁ : x₁ = nx c) (hz₁ : z₁ = nz c) (hx₂ : x₂ = nx c) (hz₂ : z₂ = nz c) (hx₃ : x₃ = nx c) (hz₃ : z₃ = nz c) :
    iprop(ctx I κ c ∗ idle I c 0 ∗ tools I c ∗ all4 (blockPre c) ∗ owesA c (Ow c 7))
      ⊢ iprop(((idle I c 0 ∗ tools I c ∗ all4 (blockPost I c) ∗ owesA c (Ow c 15)) -∗ runs c k Q)
        -∗ runs c (fetch (pT c 0) (rT c 0) 0 <| block c x₀ z₀ 0 0 1 2 <| block c x₁ z₁ 1 2 3 4 <| block c x₂ z₂ 2 4 5 6 <| lastBlock c x₃ z₃ 3 6 7 k) Q) := by
  unfold all4
  iintro ⟨#Hc, Hi, Ht, ⟨Hb0, Hb1, Hb2, Hb3⟩, Ho⟩ Hk
  iapply (wp_fetch I c) $$ [Hi]
  · iexact Hi
  iintro Hf
  iapply (block_run I κ c 0 (O₁ := Ow c 8) (Ow c 9) rfl rfl hx₀ hz₀ (Ow7 c) (Ow8 c) (above c 2 7 (by decide))) $$ [Hf Ht Hb0 Ho]
  · isplitl []; · iexact Hc
    isplitl [Hf]; · iexact Hf
    isplitl [Ht]; · iexact Ht
    isplitl [Hb0] <;> iassumption
  iintro ⟨Hf, Ht, Hb0, Ho⟩
  iapply (block_run I κ c 1 (O₁ := Ow c 10) (Ow c 11) rfl rfl hx₁ hz₁ (Ow9 c) (Ow10 c) (above c 2 9 (by decide))) $$ [Hf Ht Hb1 Ho]
  · isplitl []; · iexact Hc
    isplitl [Hf]; · iexact Hf
    isplitl [Ht]; · iexact Ht
    isplitl [Hb1] <;> iassumption
  iintro ⟨Hf, Ht, Hb1, Ho⟩
  iapply (block_run I κ c 2 (O₁ := Ow c 12) (Ow c 13) rfl rfl hx₂ hz₂ (Ow11 c) (Ow12 c) (above c 2 11 (by decide))) $$ [Hf Ht Hb2 Ho]
  · isplitl []; · iexact Hc
    isplitl [Hf]; · iexact Hf
    isplitl [Ht]; · iexact Ht
    isplitl [Hb2] <;> iassumption
  iintro ⟨Hf, Ht, Hb2, Ho⟩
  iapply (lastBlock_run I κ c 3 (O₁ := Ow c 14) (Ow c 15) rfl rfl hx₃ hz₃ (Ow13 c) (Ow14 c) (above c 2 13 (by decide))) $$ [Hf Ht Hb3 Ho]
  · isplitl []; · iexact Hc
    isplitl [Hf]; · iexact Hf
    isplitl [Ht]; · iexact Ht
    isplitl [Hb3] <;> iassumption
  iintro ⟨Hf, Ht, Hb3, Ho⟩
  iapply Hk
  isplitl [Hf]; · iexact Hf
  isplitl [Ht]; · iexact Ht
  isplitr [Ho]
  · isplitl [Hb0]; · iexact Hb0
    isplitl [Hb1]; · iexact Hb1
    isplitl [Hb2] <;> iassumption
  iexact Ho

/-! ## The waits for the own copies -/

/-- Four waits of one kind, one per block. -/
theorem take4 (kk : Fin 10) {sp sp' : Space} {s s' : Shape} {e e' : EltTy} (src : Fin 4 → WM sp s e) (dst : Fin 4 → WM sp' s' e')
    {k : P F} {Q : PUnit → sProp 𝕄} (hN : ∀ b, bytes (dst b) = amt kk) :
    iprop(ctx I κ c ∗ all4 (cr c kk) ∗ all4 (at0 c kk) ∗ owesA c 0)
      ⊢ iprop(((all4 (pay I c kk) ∗ all4 (at1 c kk) ∗ owesA c 0) -∗ runs c k Q)
        -∗ runs c (await (kS kk 0) (src 0) (dst 0) <| await (kS kk 1) (src 1) (dst 1) <| await (kS kk 2) (src 2) (dst 2) <|
          await (kS kk 3) (src 3) (dst 3) k) Q) := by
  unfold all4
  iintro ⟨#Hc, ⟨Hc0, Hc1, Hc2, Hc3⟩, ⟨Ha0, Ha1, Ha2, Ha3⟩, Ho⟩ Hk
  iapply (wp_take I κ c kk 0 (hN 0) (Above.zero _)) $$ [Hc0 Ha0 Ho]
  · isplitl []; · iexact Hc
    isplitl [Hc0]; · iexact Hc0
    isplitl [Ha0] <;> iassumption
  iintro ⟨Hp0, Ha0, Ho⟩
  iapply (wp_take I κ c kk 1 (hN 1) (Above.zero _)) $$ [Hc1 Ha1 Ho]
  · isplitl []; · iexact Hc
    isplitl [Hc1]; · iexact Hc1
    isplitl [Ha1] <;> iassumption
  iintro ⟨Hp1, Ha1, Ho⟩
  iapply (wp_take I κ c kk 2 (hN 2) (Above.zero _)) $$ [Hc2 Ha2 Ho]
  · isplitl []; · iexact Hc
    isplitl [Hc2]; · iexact Hc2
    isplitl [Ha2] <;> iassumption
  iintro ⟨Hp2, Ha2, Ho⟩
  iapply (wp_take I κ c kk 3 (hN 3) (Above.zero _)) $$ [Hc3 Ha3 Ho]
  · isplitl []; · iexact Hc
    isplitl [Hc3]; · iexact Hc3
    isplitl [Ha3] <;> iassumption
  iintro ⟨Hp3, Ha3, Ho⟩
  iapply Hk
  isplitl [Hp0 Hp1 Hp2 Hp3]
  · isplitl [Hp0]; · iexact Hp0
    isplitl [Hp1]; · iexact Hp1
    isplitl [Hp2] <;> iassumption
  isplitl [Ha0 Ha1 Ha2 Ha3]
  · isplitl [Ha0]; · iexact Ha0
    isplitl [Ha1]; · iexact Ha1
    isplitl [Ha2] <;> iassumption
  iexact Ho

/-- One kind's four credits and positions; four payloads and positions. -/
def owedK (kk : Fin 10) : sProp 𝕄 := iprop(all4 (cr (F := F) c kk) ∗ all4 (at0 c kk))
def gotK (kk : Fin 10) : sProp 𝕄 := iprop(all4 (pay I c kk) ∗ all4 (at1 c kk))

theorem sent_run {Q : PUnit → sProp 𝕄} :
    iprop(ctx I κ c ∗ owedK c 0 ∗ owedK c 2 ∗ owedK c 4 ∗ owedK c 6 ∗ owedK c 8 ∗ owesA c 0)
      ⊢ iprop(((gotK I c 0 ∗ gotK I c 2 ∗ gotK I c 4 ∗ gotK I c 6 ∗ gotK I c 8 ∗ owesA c 0) -∗ runs c (.ret ⟨⟩) Q) -∗ runs c (sent c) Q) := by
  unfold owedK gotK sent
  iintro ⟨#Hc, ⟨C0, A0⟩, ⟨C2, A2⟩, ⟨C4, A4⟩, ⟨C6, A6⟩, ⟨C8, A8⟩, Ho⟩ Hk
  iapply (take4 I κ c 0 (fun b => rcBlk b) (fun b => bBlk b) bytes_bBlk) $$ [C0 A0 Ho]
  · isplitl []; · iexact Hc
    isplitl [C0]; · iexact C0
    isplitl [A0] <;> iassumption
  iintro ⟨C0, A0, Ho⟩
  iapply (take4 I κ c 2 (fun b => B3 c b) (fun b => B3 c b) (fun b => bytes_gBlk)) $$ [C2 A2 Ho]
  · isplitl []; · iexact Hc
    isplitl [C2]; · iexact C2
    isplitl [A2] <;> iassumption
  iintro ⟨C2, A2, Ho⟩
  iapply (take4 I κ c 4 (fun b => B3 c b) (fun b => B3 c b) (fun b => bytes_gBlk)) $$ [C4 A4 Ho]
  · isplitl []; · iexact Hc
    isplitl [C4]; · iexact C4
    isplitl [A4] <;> iassumption
  iintro ⟨C4, A4, Ho⟩
  iapply (take4 I κ c 6 (fun b => (T5 c b).g) (fun b => (T5 c b).g) (fun b => bytes_gTile (w := k1_off5_wordsbf16 c b))) $$ [C6 A6 Ho]
  · isplitl []; · iexact Hc
    isplitl [C6]; · iexact C6
    isplitl [A6] <;> iassumption
  iintro ⟨C6, A6, Ho⟩
  iapply (take4 I κ c 8 (fun b => (T7 c b).g) (fun b => (T7 c b).g) (fun b => bytes_gTile (w := k1_off7_wordsbf16 c b))) $$ [C8 A8 Ho]
  · isplitl []; · iexact Hc
    isplitl [C8]; · iexact C8
    isplitl [A8] <;> iassumption
  iintro ⟨C8, A8, Ho⟩
  iapply Hk
  isplitl [C0 A0]; · isplitl [C0] <;> iassumption
  isplitl [C2 A2]; · isplitl [C2] <;> iassumption
  isplitl [C4 A4]; · isplitl [C4] <;> iassumption
  isplitl [C6 A6]; · isplitl [C6] <;> iassumption
  isplitl [C8 A8]; · isplitl [C8] <;> iassumption
  iexact Ho

end Cert.KernelIdeal.Fused

end
-- ==== Proof.Whole.lean ====
module

public import proofs.«01_k».proof.Proof.Front

@[expose] public section

noncomputable section

namespace Cert.KernelIdeal.Fused

open Idealize.ShloMosaic Idealize.ShloMosaic.TcCoe Idealize.SL Idealize.SL.Sem Idealize.SL.RA Idealize.SL.BI
open scoped Idealize.SL.BI
open Idealize.SL.BI.BIBase Idealize.SL.BI.Laws Idealize.SL.ProofMode
open Idealize.ShloMosaic.Rounds
open Cert.KernelIdeal Facts₀ Facts

variable {F : FTy → Type} [FloatOps F]

local notation "𝕄" => MT nD τ sig Unit (Elt F) ℕ UU ℕ

variable (I : In F) (κ : GSem nD τ sig → ℕ) (c : Dev nD)

/-! ## Families of four -/

theorem all4_mono {A B : Fin 4 → sProp 𝕄} (h : ∀ b, A b ⊢ B b) : all4 A ⊢ all4 B := by
  unfold all4
  iintro ⟨H0, H1, H2, H3⟩
  isplitl [H0]; · iapply (h 0); iexact H0
  isplitl [H1]; · iapply (h 1); iexact H1
  isplitl [H2]; · iapply (h 2); iexact H2
  iapply (h 3); iexact H3
theorem all4_sep (A B : Fin 4 → sProp 𝕄) : all4 (fun b => iprop(A b ∗ B b)) ⊢ iprop(all4 A ∗ all4 B) := by
  unfold all4
  iintro ⟨⟨A0, B0⟩, ⟨A1, B1⟩, ⟨A2, B2⟩, ⟨A3, B3⟩⟩
  isplitl [A0 A1 A2 A3]
  · isplitl [A0]; · iexact A0
    isplitl [A1]; · iexact A1
    isplitl [A2] <;> iassumption
  isplitl [B0]; · iexact B0
  isplitl [B1]; · iexact B1
  isplitl [B2] <;> iassumption
theorem sep_all4 (A B : Fin 4 → sProp 𝕄) : iprop(all4 A ∗ all4 B) ⊢ all4 (fun b => iprop(A b ∗ B b)) := by
  unfold all4
  iintro ⟨⟨A0, A1, A2, A3⟩, ⟨B0, B1, B2, B3⟩⟩
  isplitl [A0 B0]; · isplitl [A0] <;> iassumption
  isplitl [A1 B1]; · isplitl [A1] <;> iassumption
  isplitl [A2 B2]; · isplitl [A2] <;> iassumption
  isplitl [A3] <;> iassumption

theorem rooms_all4 (j : Fin 5) : (rooms c j : sProp 𝕄) ⊢ all4 (room c j) := by
  unfold rooms all4; exact BI.Entails.refl _

/-! ## The state before and after -/

/-- What block `b` of the own chunk uses, but the room on the neighbours. -/
def own0 (b : Fin 4) : sProp 𝕄 :=
  iprop(cr (F := F) c 1 b ∗ at0 c 1 b ∗ oW (F := F) c (c0 c + 256 * b.val) 256 ∗ gW (F := F) c (c0 c + 256 * b.val) 256 ∗ kit c 1 b ∗ kit c 2 b)
/-- What the forwarding of block `b` uses, but the room on the neighbours. -/
def fwd0 (b : Fin 4) : sProp 𝕄 :=
  iprop(cr (F := F) c 5 b ∗ at0 c 5 b ∗ cr c 3 b ∗ at0 c 3 b ∗ kit c 3 b ∗ kit c 4 b)
def own1 (b : Fin 4) : sProp 𝕄 := iprop(at1 c 1 b ∗ part c (rcBlk b) fullShare (RC I c) ∗ oR c (OUT I c) (c0 c + 256 * b.val) 256)
def fwd1 (b : Fin 4) : sProp 𝕄 := iprop(at1 (F := F) c 5 b ∗ at1 c 3 b)

theorem own_block (b : Fin 4) : iprop(own0 (F := F) c b ∗ room c 1 b ∗ room c 2 b) ⊢ (blockPre c b : sProp 𝕄) := by
  unfold own0 blockPre
  iintro ⟨⟨H1, H2, H3, H4, H5, H6⟩, R1, R2⟩
  isplitl [H1]; · iexact H1
  isplitl [H2]; · iexact H2
  isplitl [H3]; · iexact H3
  isplitl [H4]; · iexact H4
  isplitl [H5]; · iexact H5
  isplitl [R1]; · iexact R1
  isplitl [H6] <;> iassumption
theorem block_own (b : Fin 4) : (blockPost I c b : sProp 𝕄) ⊢ iprop(own1 I c b ∗ cr c 2 b ∗ cr c 4 b) := by
  unfold own1 blockPost
  iintro ⟨H1, H2, H3, H4, H5⟩
  isplitl [H1 H2 H3]
  · isplitl [H1]; · iexact H1
    isplitl [H2] <;> iassumption
  isplitl [H4] <;> iassumption
theorem fwd_pre (b : Fin 4) : iprop(fwd0 (F := F) c b ∗ room c 3 b ∗ room c 4 b) ⊢ (fwdPre c b : sProp 𝕄) := by
  unfold fwd0 fwdPre
  iintro ⟨⟨H1, H2, H3, H4, H5, H6⟩, R1, R2⟩
  isplitl [H1]; · iexact H1
  isplitl [H2]; · iexact H2
  isplitl [H3]; · iexact H3
  isplitl [H4]; · iexact H4
  isplitl [H5]; · iexact H5
  isplitl [R1]; · iexact R1
  isplitl [H6] <;> iassumption
theorem fwd_post (b : Fin 4) : (fwdPost c b : sProp 𝕄) ⊢ iprop(fwd1 (F := F) c b ∗ cr c 6 b ∗ cr c 8 b) := by
  unfold fwd1 fwdPost
  iintro ⟨H1, H2, H3, H4⟩
  isplitl [H1 H2]; · isplitl [H1] <;> iassumption
  isplitl [H3] <;> iassumption

/-- The buffers and counters only device `c` touches. -/
def priv : sProp 𝕄 :=
  iprop(idle I c 0 ∗ idle I c 1 ∗ wr (F := F) c 0 ∗ wr (F := F) c 1 ∗ cv (F := F) c 0 ∗ cv (F := F) c 1
    ∗ part c gamV fullShare (I.g c) ∗ semVal ((c : Thread nD τ), .dma gS) 0)

/-- Before the kernel. -/
def before : sProp 𝕄 :=
  iprop(barPre c ∗ all4 (fun b => part c (bBlk b) fullShare (I.b c)) ∗ all4 (kit c 0) ∗ priv I c ∗ raw c gvV
    ∗ all4 (own0 c) ∗ all4 (fwd0 c) ∗ all4 (outs c) ∗ all4 (dgPre c)
    ∗ all4 (at0 c 0) ∗ all4 (at0 c 2) ∗ all4 (at0 c 4) ∗ all4 (at0 c 6) ∗ all4 (at0 c 8))
/-- After it. -/
def after : sProp 𝕄 :=
  iprop(atPos ER (barCell c) (0 + 1) ∅ 0 ∗ priv I c ∗ part c gvV fullShare (I.g c) ∗ all4 (own1 I c) ∗ all4 (fwd1 c) ∗ all4 (dgPost c) ∗ all4 (six I c)
    ∗ gotK I c 0 ∗ gotK I c 2 ∗ gotK I c 4 ∗ gotK I c 6 ∗ gotK I c 8)

/-- The kernel, run on device `c`. -/
theorem fused_run {Q : PUnit → sProp 𝕄} :
    iprop(ctx I κ c ∗ before I c ∗ owesA c (Ow c 0))
      ⊢ iprop(((after I c ∗ owesA c 0) -∗ runs c (.ret ⟨⟩) Q) -∗ runs c (fused c) Q) := by
  unfold before after priv fused
  iintro ⟨#Hc, ⟨Hbar, Hb, Hk0, ⟨Hi0, Hi1, Hw0, Hw1, Hv0, Hv1, Hgam, Hgs⟩, Hgv, Hown, Hfwd, Hout, Hdg, A0, A2, A4, A6, A8⟩, Ho⟩ Hk
  ihave #Hl := (ctx_recs I κ c) $$ Hc
  ihave #Hl := (recs_lev I κ) $$ Hl
  iapply (barrier_run I κ c (dev1 c) (dev2 c) (dev3 c)) $$ [Hbar Ho]
  · isplitl []; · iexact Hc
    isplitl [Hbar] <;> iassumption
  unfold barPost
  iintro ⟨⟨Hat, R0, R1, R2, R3, R4⟩, Ho⟩
  iapply (sendYs_run I κ c (dev4 c) (dev5 c) (dev6 c) (dev7 c)) $$ [Hb Hk0 R0 Ho]
  · isplitl []; · iexact Hc
    isplitl [Hb]; · iexact Hb
    isplitl [Hk0]; · iexact Hk0
    isplitl [R0] <;> iassumption
  iintro ⟨C0, Ho⟩
  iapply (wp_getGamma I c (above c 0 7 (by decide))) $$ [Hgam Hgv Hgs Ho]
  · isplitl [Hgam]; · iexact Hgam
    isplitl [Hgv]; · iexact Hgv
    isplitl [Hgs]; · iexact Hgs
    isplitl [Ho]; · iexact Ho
    iexact Hl
  iintro ⟨Hgam, Hgv, Hgs, Ho⟩
  iapply (blocks_run I κ c (dev8 c) (dev9 c) (dev10 c) (dev11 c) (dev12 c) (dev13 c) (dev14 c) (dev15 c)) $$ [Hi0 Hi1 Hgv Hw0 Hw1 Hown R1 R2 Ho]
  · isplitl []; · iexact Hc
    isplitl [Hi0]; · iexact Hi0
    isplitl [Hi1 Hgv Hw0 Hw1]
    · unfold tools
      isplitl [Hi1]; · iexact Hi1
      isplitl [Hgv]; · iexact Hgv
      isplitl [Hw0] <;> iassumption
    isplitl [Hown R1 R2]
    · iapply (all4_mono (own_block c))
      iapply (sep_all4 (own0 c) (fun b => iprop(room c 1 b ∗ room c 2 b)))
      isplitl [Hown]; · iexact Hown
      iapply (sep_all4 (room c 1) (room c 2))
      isplitl [R1]; · iapply (rooms_all4 c 1); iexact R1
      iapply (rooms_all4 c 2); iexact R2
    iexact Ho
  unfold tools
  iintro ⟨Hi0, ⟨Hi1, Hgv, Hw0, Hw1⟩, Hown, Ho⟩
  ihave Hown := (all4_mono (block_own I c)) $$ Hown
  icases (all4_sep (own1 I c) (fun b => iprop(cr c 2 b ∗ cr c 4 b))) $$ Hown with ⟨Hown, C⟩
  icases (all4_sep (cr c 2) (cr c 4)) $$ C with ⟨C2, C4⟩
  ihave R3 := (rooms_all4 c 3) $$ R3
  ihave R4 := (rooms_all4 c 4) $$ R4
  icombine R3 R4 as R
  ihave R := (sep_all4 (room c 3) (room c 4)) $$ R
  icombine Hfwd R as Hfwd
  ihave Hfwd := (sep_all4 (fwd0 c) (fun b => iprop(room c 3 b ∗ room c 4 b))) $$ Hfwd
  ihave Hfwd := (all4_mono (fwd_pre c)) $$ Hfwd
  unfold all4
  icases Hfwd with ⟨Hf0, Hf⟩
  iapply (forward_run I κ c 0 (O₁ := Ow c 16) (Ow c 17) (dev16 c) (dev17 c) (Ow15 c) (Ow16 c) (above3 c 15 (by decide)) (above3 c 16 (by decide))) $$ [Hf0 Ho]
  · isplitl []; · iexact Hc
    isplitl [Hf0] <;> iassumption
  iintro ⟨Hf0, Hg, Ho⟩
  unfold wr
  icases Hw0 with ⟨Hco0, Hnt0, Hs30, Hs20⟩
  icases Hw1 with ⟨Hco1, Hnt1, Hs31, Hs21⟩
  iapply (convert_run I κ c (dev18 c) (dev19 c) (dev20 c) (dev21 c) (dev22 c) (dev23 c)) $$ [Hv0 Hv1 Hco0 Hco1 Hs30 Hs31 Hg Hf Hout Hdg Ho]
  · isplitl []; · iexact Hc
    isplitl [Hv0 Hv1 Hco0 Hco1 Hs30 Hs31]
    · unfold slots co
      isplitl [Hv0]; · iexact Hv0
      isplitl [Hv1]; · iexact Hv1
      isplitl [Hco0 Hs30]; · isplitl [Hco0] <;> iassumption
      isplitl [Hco1] <;> iassumption
    isplitl [Hg]; · iexact Hg
    isplitl [Hf]; · iexact Hf
    isplitl [Hout]; · iexact Hout
    isplitl [Hdg] <;> iassumption
  unfold slots co
  iintro ⟨⟨Hv0, Hv1, ⟨Hco0, Hs30⟩, ⟨Hco1, Hs31⟩⟩, Hf, Hdg, Hsix, Ho⟩
  icombine Hf0 Hf as Hf
  ihave Hf := (all4_mono (fwd_post c)) $$ Hf
  icases (all4_sep (fwd1 c) (fun b => iprop(cr c 6 b ∗ cr c 8 b))) $$ Hf with ⟨Hf, C⟩
  icases (all4_sep (cr c 6) (cr c 8)) $$ C with ⟨C6, C8⟩
  iapply (sent_run I κ c) $$ [C0 A0 C2 A2 C4 A4 C6 A6 C8 A8 Ho]
  · unfold owedK
    isplitl []; · iexact Hc
    isplitl [C0 A0]; · isplitl [C0] <;> iassumption
    isplitl [C2 A2]; · isplitl [C2] <;> iassumption
    isplitl [C4 A4]; · isplitl [C4] <;> iassumption
    isplitl [C6 A6]; · isplitl [C6] <;> iassumption
    isplitl [C8 A8]; · isplitl [C8] <;> iassumption
    iexact Ho
  iintro ⟨G0, G2, G4, G6, G8, Ho⟩
  iapply Hk
  isplitr [Ho]
  · isplitl [Hat]; · iexact Hat
    isplitl [Hi0 Hi1 Hco0 Hnt0 Hs30 Hs20 Hco1 Hnt1 Hs31 Hs21 Hv0 Hv1 Hgam Hgs]
    · isplitl [Hi0]; · iexact Hi0
      isplitl [Hi1]; · iexact Hi1
      isplitl [Hco0 Hnt0 Hs30 Hs20]
      · isplitl [Hco0]; · iexact Hco0
        isplitl [Hnt0]; · iexact Hnt0
        isplitl [Hs30] <;> iassumption
      isplitl [Hco1 Hnt1 Hs31 Hs21]
      · isplitl [Hco1]; · iexact Hco1
        isplitl [Hnt1]; · iexact Hnt1
        isplitl [Hs31] <;> iassumption
      isplitl [Hv0]; · iexact Hv0
      isplitl [Hv1]; · iexact Hv1
      isplitl [Hgam] <;> iassumption
    isplitl [Hgv]; · iexact Hgv
    isplitl [Hown]; · iexact Hown
    isplitl [Hf]; · iexact Hf
    isplitl [Hdg]; · iexact Hdg
    isplitl [Hsix]; · iexact Hsix
    isplitl [G0]; · iexact G0
    isplitl [G2]; · iexact G2
    isplitl [G4]; · iexact G4
    isplitl [G6] <;> iassumption
  iexact Ho

end Cert.KernelIdeal.Fused

end
-- ==== Proof.Arrays.lean ====
module

public import proofs.«01_k».proof.Proof.Whole

@[expose] public section

noncomputable section

namespace Cert.KernelIdeal.Fused

open Idealize.ShloMosaic Idealize.ShloMosaic.TcCoe Idealize.SL Idealize.SL.Sem Idealize.SL.RA Idealize.SL.BI
open scoped Idealize.SL.BI
open Idealize.SL.BI.BIBase Idealize.SL.BI.Laws Idealize.SL.ProofMode
open Idealize.ShloMosaic.Rounds
open Cert.KernelIdeal Facts₀ Facts

variable {F : FTy → Type} [FloatOps F]

local notation "𝕄" => MT nD τ sig Unit (Elt F) ℕ UU ℕ

variable (I : In F) (c : Dev nD)

theorem all4_sep_eq (A B : Fin 4 → sProp 𝕄) : all4 (fun b => iprop(A b ∗ B b)) = iprop(all4 A ∗ all4 B) :=
  BI.equiv_iff.mp ⟨all4_sep A B, sep_all4 A B⟩

/-! ## The rows of a 4096-row array, chunk by chunk -/

/-- A chunk is its four blocks. -/
theorem chunk_blocks {X : ℕ → ℕ → sProp 𝕄} (hX : ∀ n k k', X n (k + k') = iprop(X n k ∗ X (n + k) k')) (n : ℕ) : X n 1024 = all4 fun b => X (n + 256 * b.val) 256 := by
  rw [hX n 256 768, hX (n + 256) 256 512, hX (n + 256 + 256) 256 256]
  rfl

/-- The four chunks of a plane, starting with the device's own. -/
theorem chunks {X : ℕ → ℕ → sProp 𝕄} (hX : ∀ n k k', X n (k + k') = iprop(X n k ∗ X (n + k) k')) (c : Dev nD) : X 0 4096 = iprop(X (c0 c) 1024 ∗ X (c0 (nx c)) 1024 ∗ X (c0 (nz c)) 1024 ∗ X (c0 (nz (nx c))) 1024) := by
  have e₀ : X 0 4096 = bigSep ({0, 1024, 2048, 3072} : Finset ℕ) fun n => X n 1024 := by
    rw [hX 0 1024 3072, hX (0 + 1024) 1024 2048, hX (0 + 1024 + 1024) 1024 1024, bigSep_insert (by decide), bigSep_insert (by decide), bigSep_insert (by decide),
      bigSep_singleton]
    rfl
  have e₁ : ({0, 1024, 2048, 3072} : Finset ℕ) = {c0 c, c0 (nx c), c0 (nz c), c0 (nz (nx c))} := by clear hX; revert c; decide
  have h₁ : c0 c ∉ ({c0 (nx c), c0 (nz c), c0 (nz (nx c))} : Finset ℕ) := by clear hX e₁; revert c; decide
  have h₂ : c0 (nx c) ∉ ({c0 (nz c), c0 (nz (nx c))} : Finset ℕ) := by clear hX e₁ h₁; revert c; decide
  have h₃ : c0 (nz c) ∉ ({c0 (nz (nx c))} : Finset ℕ) := by clear hX e₁ h₁ h₂; revert c; decide
  rw [e₀, e₁, bigSep_insert h₁, bigSep_insert h₂, bigSep_insert h₃, bigSep_singleton]
  rfl

/-- The four chunks, block by block. -/
theorem spread {X : ℕ → ℕ → sProp 𝕄} (hX : ∀ n k k', X n (k + k') = iprop(X n k ∗ X (n + k) k')) (c : Dev nD) : X 0 4096 = iprop((all4 fun b => X (c0 c + 256 * b.val) 256) ∗ (all4 fun b => X (c0 (nx c) + 256 * b.val) 256)
    ∗ (all4 fun b => X (c0 (nz c) + 256 * b.val) 256) ∗ (all4 fun b => X (c0 (nz (nx c)) + 256 * b.val) 256)) := by
  rw [chunks hX c, chunk_blocks hX, chunk_blocks hX, chunk_blocks hX, chunk_blocks hX]

theorem halves {X : ℕ → ℕ → sProp 𝕄} (hX : ∀ n k k', X n (k + k') = iprop(X n k ∗ X (n + k) k')) (n : ℕ) : X n 256 = iprop(X n 128 ∗ X (n + 128) 128) := hX n 128 128

/-! ## Buffers cut into windows -/

section
variable {ℓ : Loc nD τ sig}

/-- A buffer is its four windows. -/
theorem cut4 (K : Fin 4 → Finset (Idx ℓ)) (hd : ∀ t t', t ≠ t' → Disjoint (K t) (K t')) (hu : ∀ i, ∃ t, i ∈ K t)
    (q : PosShare TreeShare) (f : Buf (Elt F) ℓ) : (ℓ ↦{q} f : sProp 𝕄) = all4 fun b => ℓ ↦[K b]{q} f := by
  have e := pointsTo_biUnion (Ix := Unit) (Name := ℕ) (U := UU) (Lvl := ℕ) (q := q) (f := f) Finset.univ K fun t _ t' _ h => hd t t' h
  rw [show Finset.univ.biUnion K = Finset.univ from Finset.eq_univ_iff_forall.mpr fun i => by
    obtain ⟨t, ht⟩ := hu i; exact Finset.mem_biUnion.mpr ⟨t, Finset.mem_univ t, ht⟩] at e
  rw [e, bigSep_univ_eq_bigSepL [0, 1, 2, 3] (by decide) (by decide)]
  rfl

/-- A buffer whose contents are not named, as its two windows, -/
theorem cut2 (K : Fin 2 → Finset (Idx ℓ)) (hd : Disjoint (K 0) (K 1)) (hu : K 0 ∪ K 1 = Finset.univ) :
    (iprop(∃ f : Buf (Elt F) ℓ, ℓ ↦{fullShare} f) : sProp 𝕄) ⊢ iprop((∃ f : Buf (Elt F) ℓ, ℓ ↦[K 0]{fullShare} f) ∗ ∃ f : Buf (Elt F) ℓ, ℓ ↦[K 1]{fullShare} f) := by
  rw [← hu]
  iintro ⟨%f, H⟩
  icases (pointsTo_union (f := f) hd).1 $$ H with ⟨H, H'⟩
  isplitl [H]; · iexists f; iexact H
  iexists f; iexact H'
/-- and put together again. -/
theorem glue2 (K : Fin 2 → Finset (Idx ℓ)) (hd : Disjoint (K 0) (K 1)) (hu : K 0 ∪ K 1 = Finset.univ) :
    iprop((∃ f : Buf (Elt F) ℓ, ℓ ↦[K 0]{fullShare} f) ∗ ∃ f : Buf (Elt F) ℓ, ℓ ↦[K 1]{fullShare} f)
      ⊢ (iprop(∃ f : Buf (Elt F) ℓ, ℓ ↦{fullShare} f) : sProp 𝕄) := by
  rw [← hu]
  iintro ⟨⟨%f, H⟩, ⟨%g, H'⟩⟩
  iexists _
  iapply (pointsTo_join (f := f) (g := g) hd)
  isplitl [H] <;> iassumption

/-- A buffer at the full share is two halves. -/
theorem share2 (f : Buf (Elt F) ℓ) : (ℓ ↦{fullShare} f : sProp 𝕄) = iprop((ℓ ↦{qL} f) ∗ (ℓ ↦{qR} f)) := by
  have e := pointsTo_share (Ix := Unit) (Name := ℕ) (U := UU) (Lvl := ℕ) (ℓ := ℓ) (I := Finset.univ) (f := f) (PosShare.mem_left_op_right fullShare)
  exact BI.equiv_iff.mp ⟨e.1, e.2⟩
end

theorem mem_slot {s : Fin 2} {i : S2x128x4096.Idx} : i ∈ (slotRect s).set ↔ (i 0).val = s.val := by
  rw [Rect.mem_set_unit]
  constructor
  · intro h
    have h0 : s.val ≤ (i 0).val ∧ (i 0).val < s.val + 1 := h 0
    omega
  · intro h a
    match a with
    | ⟨0, _⟩ => exact ⟨Nat.le_of_eq h.symm, by show (i 0).val < s.val + 1; omega⟩
    | ⟨1, _⟩ => exact ⟨Nat.zero_le _, by have : (i 1).val < 128 := (i 1).isLt; show (i 1).val < 0 + 128; omega⟩
    | ⟨2, _⟩ => exact ⟨Nat.zero_le _, by have : (i 2).val < 4096 := (i 2).isLt; show (i 2).val < 0 + 4096; omega⟩
theorem mem_rcRect {b : Fin 4} {i : S4x256x4096.Idx} : i ∈ (rcRect b).set ↔ (i 0).val = b.val := by
  rw [Rect.mem_set_unit]
  constructor
  · intro h
    have h0 : b.val ≤ (i 0).val ∧ (i 0).val < b.val + 1 := h 0
    omega
  · intro h a
    match a with
    | ⟨0, _⟩ => exact ⟨Nat.le_of_eq h.symm, by show (i 0).val < b.val + 1; omega⟩
    | ⟨1, _⟩ => exact ⟨Nat.zero_le _, by have : (i 1).val < 256 := (i 1).isLt; show (i 1).val < 0 + 256; omega⟩
    | ⟨2, _⟩ => exact ⟨Nat.zero_le _, by have : (i 2).val < 4096 := (i 2).isLt; show (i 2).val < 0 + 4096; omega⟩
theorem mem_bRect {b : Fin 4} {i : S1024x4096.Idx} :
    i ∈ (Rect.unit (s := S1024x4096) ![256 * b.val, 0] S256x4096.size (bBlk_inb b)).set ↔ (i 0).val / 256 = b.val := by
  rw [Rect.mem_set_unit]
  constructor
  · intro h
    have h0 : 256 * b.val ≤ (i 0).val ∧ (i 0).val < 256 * b.val + 256 := h 0
    omega
  · intro h a
    match a with
    | ⟨0, _⟩ => exact ⟨by show 256 * b.val ≤ (i 0).val; omega, by show (i 0).val < 256 * b.val + 256; omega⟩
    | ⟨1, _⟩ => exact ⟨Nat.zero_le _, by have : (i 1).val < 4096 := (i 1).isLt; show (i 1).val < 0 + 4096; omega⟩

theorem slot_disj : Disjoint (slotRect 0).set (slotRect 1).set :=
  Finset.disjoint_left.mpr fun i h h' => by
    rw [mem_slot] at h h'; exact absurd (h.symm.trans h') (by decide)
theorem slot_univ : (slotRect 0).set ∪ (slotRect 1).set = Finset.univ :=
  Finset.eq_univ_iff_forall.mpr fun i => by
    rw [Finset.mem_union, mem_slot, mem_slot]
    have : (i 0).val < 2 := (i 0).isLt
    show (i 0).val = 0 ∨ (i 0).val = 1
    omega

/-- A double buffer is its two slots. -/
theorem fSlots (b : Memref sig .tc .vmem S2x128x4096 .f32) (s : Fin 2) (S : Finset (Idx (b.view.loc (c : Thread nD τ))))
    (h : (fSlot b s).m.view.set = S) : (raw (F := F) c (fSlot b s) : sProp 𝕄)
      = iprop(∃ f : Buf (Elt F) (b.view.loc (c : Thread nD τ)), b.view.loc (c : Thread nD τ) ↦[S]{fullShare} f) := by
  subst h; rfl

theorem hSlots (b : Memref sig .tc .vmem S2x128x4096 .bf16) (hb : b.IsWhole) (s : Fin 2) (S : Finset (Idx (b.view.loc (c : Thread nD τ))))
    (h : (hSlot b hb s).m.view.set = S) : (raw (F := F) c (hSlot b hb s) : sProp 𝕄)
      = iprop(∃ f : Buf (Elt F) (b.view.loc (c : Thread nD τ)), b.view.loc (c : Thread nD τ) ↦[S]{fullShare} f) := by
  subst h; rfl

/-- The chunk to send is its four blocks. -/
theorem bBlks (f : Vec F S1024x4096 .bf16) :
    (bM.view.loc (c : Thread nD τ) ↦{fullShare} f : sProp 𝕄) = all4 fun b => part c (bBlk b) fullShare f := by
  rw [cut4 (ℓ := bM.view.loc (c : Thread nD τ)) (fun b => (Rect.unit (s := S1024x4096) ![256 * b.val, 0] S256x4096.size (bBlk_inb b)).set)
    (fun t t' h => Finset.disjoint_left.mpr fun i hi hi' => h (Fin.ext ((mem_bRect.mp hi).symm.trans (mem_bRect.mp hi'))))
    (fun i => ⟨⟨(i 0).val / 256, by have : (i 0).val < 1024 := (i 0).isLt; omega⟩, mem_bRect.mpr rfl⟩)]
  have e (b : Fin 4) : (bBlk b).m.view.set = (Rect.unit (s := S1024x4096) ![256 * b.val, 0] S256x4096.size (bBlk_inb b)).set := View.set_slice_whole _ _
  simp only [part, e]

/-- The receive buffer is its four blocks. -/
theorem rcBlks (f : Vec F S4x256x4096 .bf16) :
    (rcM.view.loc (c : Thread nD τ) ↦{fullShare} f : sProp 𝕄) = all4 fun b => part c (rcBlk b) fullShare f := by
  rw [cut4 (ℓ := rcM.view.loc (c : Thread nD τ)) (fun b => (rcRect b).set)
    (fun t t' h => Finset.disjoint_left.mpr fun i hi hi' => h (Fin.ext ((mem_rcRect.mp hi).symm.trans (mem_rcRect.mp hi'))))
    (fun i => ⟨⟨(i 0).val, (i 0).isLt⟩, mem_rcRect.mpr rfl⟩)]
  have e (b : Fin 4) : (rcBlk b).m.view.set = (rcRect b).set := by rw [View.set_reshape]; exact View.set_slice_whole _ _
  simp only [part, e]

/-- The array of gathered rows, whole. -/
theorem gR_whole (f : Vec F S4096x4096 .bf16) : (gbM.view.loc (c : Thread nD τ) ↦{fullShare} f : sProp 𝕄) = gR c fullShare f 0 4096 := by
  unfold gR; rw [rows_univ]
theorem oR_whole (f : Vec F S4096x4096 .f32) : (outM.view.loc (c : Thread nD τ) ↦{fullShare} f : sProp 𝕄) = oR c f 0 4096 := by
  unfold oR; rw [rows_univ]

end Cert.KernelIdeal.Fused

end
-- ==== Proof.Setup.lean ====
module

public import proofs.«01_k».proof.Proof.Arrays

@[expose] public section

noncomputable section

namespace Cert.KernelIdeal.Fused

open Idealize.ShloMosaic Idealize.ShloMosaic.TcCoe Idealize.SL Idealize.SL.Sem Idealize.SL.RA Idealize.SL.BI
open scoped Idealize.SL.BI
open Idealize.SL.BI.BIBase Idealize.SL.BI.Laws Idealize.SL.ProofMode
open Idealize.ShloMosaic.Rounds
open Cert.KernelIdeal Facts₀ Facts

variable {F : FTy → Type} [FloatOps F]

local notation "𝕄" => MT nD τ sig Unit (Elt F) ℕ UU ℕ

variable (I : In F) (κ : GSem nD τ sig → ℕ) (c : Dev nD)

/-- A buffer of the device, whole, at the contents given; and at contents not named. -/
abbrev at_ (r : Ref sig .tc) (f : Buf (Elt F) ((c : Thread nD τ).loc r)) : sProp 𝕄 := (c : Thread nD τ).loc r ↦{fullShare} f
abbrev any (r : Ref sig .tc) : sProp 𝕄 := iprop(∃ f : Buf (Elt F) ((c : Thread nD τ).loc r), (c : Thread nD τ).loc r ↦{fullShare} f)

/-- The operands of the kernel: its inputs, and its two results at contents not named. -/
def arr0 : sProp 𝕄 :=
  iprop(at_ c main_arg0 (I.p c) ∗ at_ c main_arg1 (I.r c) ∗ at_ c main_v12 (I.b c) ∗ at_ c main_v13 (I.g c)
    ∗ any (F := F) c main_v14_0 ∗ any (F := F) c main_v14_1)
/-- The same, the results written. -/
def arr1 : sProp 𝕄 :=
  iprop(at_ c main_arg0 (I.p c) ∗ at_ c main_arg1 (I.r c) ∗ at_ c main_v12 (I.b c) ∗ at_ c main_v13 (I.g c)
    ∗ at_ c main_v14_0 (OUT I c) ∗ at_ c main_v14_1 (G I c))
/-- The kernel's scratch buffers. -/
def scr : sProp 𝕄 :=
  iprop(any (F := F) c cc1_scratch0 ∗ any (F := F) c cc1_scratch1 ∗ any (F := F) c cc1_scratch2 ∗ any (F := F) c cc1_scratch3
    ∗ any (F := F) c cc1_scratch4 ∗ any (F := F) c cc1_scratch5 ∗ any (F := F) c cc1_scratch6)
abbrev zero (s : DmaSem sig) : sProp 𝕄 := semVal ((c : Thread nD τ), .dma s) 0
/-- The counters of the local copies, at zero. -/
def loc0 : sProp 𝕄 :=
  iprop(zero (F := F) c gS ∗ (zero (F := F) c (lS 0 0) ∗ zero (F := F) c (lS 0 1)) ∗ (zero (F := F) c (lS 1 0) ∗ zero (F := F) c (lS 1 1))
    ∗ (zero (F := F) c (lS 2 0) ∗ zero (F := F) c (lS 2 1)) ∗ (zero (F := F) c (lS 3 0) ∗ zero (F := F) c (lS 3 1))
    ∗ (zero (F := F) c (lS 4 0) ∗ zero (F := F) c (lS 4 1)))
/-- The rights to pay: the three units on the neighbours' barriers, the copies of the five exchanges. -/
def tok : sProp 𝕄 :=
  iprop((dutyTok ER (barCell (nx c)) 0 0 ∗ dutyTok ER (barCell (ny c)) 0 1 ∗ dutyTok ER (barCell (nz c)) 0 2)
    ∗ all4 (kit c 0) ∗ all4 (kit c 1) ∗ all4 (kit c 2) ∗ all4 (kit c 3) ∗ all4 (kit c 4))
/-- The credit to wait at the barrier and for what lands here. -/
def crs : sProp 𝕄 :=
  iprop(cred (tallyAt (barCell c) () 3) ∗ all4 (cr c 1) ∗ all4 (cr c 3) ∗ all4 (cr c 5) ∗ all4 (cr c 7) ∗ all4 (cr c 9))
/-- One of each kind of cell. -/
abbrev kinds (Φ : Fin 10 → sProp 𝕄) : sProp 𝕄 :=
  iprop((Φ 0 ∗ Φ 1) ∗ (Φ 2 ∗ Φ 3) ∗ (Φ 4 ∗ Φ 5) ∗ (Φ 6 ∗ Φ 7) ∗ (Φ 8 ∗ Φ 9))

/-! ## The barrier's payloads -/

theorem give (j : Fin 5) (W : Fin 4 → sProp 𝕄) (h : ∀ b, iprop(reached ER (cell c (rk j) b) 0 ∗ W b) ⊢ room (nb j c) j b) :
    iprop(ctx I κ c ∗ all4 W) ⊢ (rooms (nb j c) j : sProp 𝕄) := by
  refine BI.Entails.trans ?_ (show all4 (room (nb j c) j) ⊢ (rooms (nb j c) j : sProp 𝕄) from by unfold rooms all4; exact BI.Entails.refl _)
  refine BI.Entails.trans ?_ (all4_mono h)
  show iprop(ctx I κ c ∗ W 0 ∗ W 1 ∗ W 2 ∗ W 3) ⊢ iprop((reached ER (cell c (rk j) 0) 0 ∗ W 0) ∗ (reached ER (cell c (rk j) 1) 0 ∗ W 1)
    ∗ (reached ER (cell c (rk j) 2) 0 ∗ W 2) ∗ (reached ER (cell c (rk j) 3) 0 ∗ W 3))
  iintro ⟨#Hc, W0, W1, W2, W3⟩
  isplitl [W0]
  · isplitl []; · iapply (ctx_opened I κ c (rk j) 0); iexact Hc
    iexact W0
  isplitl [W1]
  · isplitl []; · iapply (ctx_opened I κ c (rk j) 1); iexact Hc
    iexact W1
  isplitl [W2]
  · isplitl []; · iapply (ctx_opened I κ c (rk j) 2); iexact Hc
    iexact W2
  isplitl []; · iapply (ctx_opened I κ c (rk j) 3); iexact Hc
  iexact W3

theorem give0 (b : Fin 4) : iprop(reached ER (cell c (rk 0) b) 0 ∗ raw (F := F) c (rcBlk b)) ⊢ room (nb 0 c) 0 b :=
  of_eq (by
    show _ = iprop(reached ER (cell (ny (ny c)) (rk 0) b) 0 ∗ raw (ny (ny c)) (rcBlk b))
    rw [ny_ny])
theorem give1 (b : Fin 4) : iprop(reached ER (cell c (rk 1) b) 0 ∗ gW (F := F) c (c0 (nx c) + 256 * b.val) 256) ⊢ room (nb 1 c) 1 b :=
  of_eq (by
    show _ = iprop(reached ER (cell (nx (nx c)) (rk 1) b) 0 ∗ gW (nx (nx c)) (c0 (nx c) + 256 * b.val) 256)
    rw [nx_nx])
theorem give2 (b : Fin 4) : iprop(reached ER (cell c (rk 2) b) 0 ∗ gW (F := F) c (c0 (nz c) + 256 * b.val) 256) ⊢ room (nb 2 c) 2 b :=
  of_eq (by
    show _ = iprop(reached ER (cell (nz (nz c)) (rk 2) b) 0 ∗ gW (nz (nz c)) (c0 (nz c) + 256 * b.val) 256)
    rw [nz_nz])
theorem give3 (b : Fin 4) : iprop(reached ER (cell c (rk 3) b) 0 ∗ gW (F := F) c (c0 (nz (nx c)) + 256 * b.val) 128) ⊢ room (nb 3 c) 3 b :=
  of_eq (by
    show _ = iprop(reached ER (cell (nx (nx c)) (rk 3) b) 0 ∗ gW (nx (nx c)) (c0 (nz (nx c)) + 256 * b.val) 128)
    rw [nx_nx])
theorem give4 (b : Fin 4) : iprop(reached ER (cell c (rk 4) b) 0 ∗ gW (F := F) c (c0 (nz (nx c)) + 256 * b.val + 128) 128) ⊢ room (nb 4 c) 4 b :=
  of_eq (by
    show _ = iprop(reached ER (cell (nz (nz c)) (rk 4) b) 0 ∗ gW (nz (nz c)) (c0 (nx (nz c)) + 256 * b.val + 128) 128)
    rw [nz_nz, nx_nz])

/-! ## The buffers cut and put together -/

theorem gb_cut : (any (F := F) c main_v14_1 : sProp 𝕄) ⊢ iprop((all4 fun b => gW c (c0 c + 256 * b.val) 256) ∗ (all4 fun b => gW c (c0 (nx c) + 256 * b.val) 256)
    ∗ (all4 fun b => gW c (c0 (nz c) + 256 * b.val) 256)
    ∗ (all4 fun b => gW c (c0 (nz (nx c)) + 256 * b.val) 128) ∗ (all4 fun b => gW c (c0 (nz (nx c)) + 256 * b.val + 128) 128)) := by
  iintro ⟨%f, H⟩
  ihave H := (of_eq (gR_whole c f)) $$ H
  icases (of_eq (spread (gR_add c fullShare f) c)) $$ H with ⟨H1, H2, H3, H4⟩
  isplitl [H1]; · iapply (all4_mono fun b => gW_of c f (c0 c + 256 * b.val) 256); iexact H1
  isplitl [H2]; · iapply (all4_mono fun b => gW_of c f (c0 (nx c) + 256 * b.val) 256); iexact H2
  isplitl [H3]; · iapply (all4_mono fun b => gW_of c f (c0 (nz c) + 256 * b.val) 256); iexact H3
  iapply (all4_sep (fun b => gW c (c0 (nz (nx c)) + 256 * b.val) 128) (fun b => gW c (c0 (nz (nx c)) + 256 * b.val + 128) 128))
  iapply (all4_mono fun b => (gW_of c f (c0 (nz (nx c)) + 256 * b.val) 256).trans (gW_split c _ 128 128)); iexact H4

theorem oW_of (f : Vec F S4096x4096 .f32) (n k : ℕ) : (oR c f n k : sProp 𝕄) ⊢ oW c n k := by
  unfold oW; iintro H; iexists f; iexact H

theorem out_cut : (any (F := F) c main_v14_0 : sProp 𝕄)
    ⊢ iprop((all4 fun b => oW c (c0 c + 256 * b.val) 256) ∗ all4 (outs (F := F) c) ∗ all4 (outsD (F := F) c)) := by
  iintro ⟨%f, H⟩
  ihave H := (of_eq (oR_whole c f)) $$ H
  icases (of_eq (spread (oR_add c f) c)) $$ H with ⟨H1, H2, H3, H4⟩
  isplitl [H1]; · iapply (all4_mono fun b => oW_of c f (c0 c + 256 * b.val) 256); iexact H1
  isplitl [H2 H3]
  · icombine H2 H3 as H
    ihave H := (sep_all4 (fun b => oR c f (c0 (nx c) + 256 * b.val) 256) (fun b => oR c f (c0 (nz c) + 256 * b.val) 256)) $$ H
    iapply (all4_mono (A := fun b => iprop(oR c f (c0 (nx c) + 256 * b.val) 256 ∗ oR c f (c0 (nz c) + 256 * b.val) 256)) (B := outs c) fun b => by
      unfold outs
      iintro ⟨Hx, Hz⟩
      icases ((oW_of c f (c0 (nx c) + 256 * b.val) 256).trans (oW_split c _ 128 128)) $$ Hx with ⟨Hx, Hx'⟩
      icases ((oW_of c f (c0 (nz c) + 256 * b.val) 256).trans (oW_split c _ 128 128)) $$ Hz with ⟨Hz, Hz'⟩
      isplitl [Hz]; · iexact Hz
      isplitl [Hz']; · iexact Hz'
      isplitl [Hx]; · iexact Hx
      iexact Hx')
    iexact H
  iapply (all4_mono (A := fun b => oR c f (c0 (nz (nx c)) + 256 * b.val) 256) (B := outsD c) fun b =>
    (oW_of c f (c0 (nz (nx c)) + 256 * b.val) 256).trans (oW_split c _ 128 128))
  iexact H4

theorem rc_cut : (any (F := F) c cc1_scratch0 : sProp 𝕄) ⊢ all4 fun b => raw c (rcBlk b) := by
  iintro ⟨%f, H⟩
  iapply (all4_mono fun b => part_raw c (rcBlk b) f)
  iapply (of_eq (rcBlks c f)); iexact H

/-- A double buffer as its slots, and back. -/
theorem slots_cut {r : Ref sig .tc} {R : Fin 2 → sProp 𝕄} {K : Fin 2 → Finset (Idx ((c : Thread nD τ).loc r))}
    (hR : ∀ s, R s = iprop(∃ f : Buf (Elt F) ((c : Thread nD τ).loc r), (c : Thread nD τ).loc r ↦[K s]{fullShare} f))
    (hd : Disjoint (K 0) (K 1)) (hu : K 0 ∪ K 1 = Finset.univ) : (any (F := F) c r : sProp 𝕄) = iprop(R 0 ∗ R 1) := by
  rw [hR 0, hR 1]
  exact BI.equiv_iff.mp ⟨cut2 K hd hu, glue2 K hd hu⟩

theorem ps_slots : (any (F := F) c cc1_scratch2 : sProp 𝕄) = iprop(raw c (fSlot psM 0) ∗ raw c (fSlot psM 1)) :=
  slots_cut c (r := cc1_scratch2) (R := fun s => raw c (fSlot psM s)) (K := fun s => (slotRect s).set)
    (fun s => fSlots c psM s _ (by rw [View.set_reshape]; exact View.set_slice_whole _ _)) slot_disj slot_univ
theorem rs_slots : (any (F := F) c cc1_scratch3 : sProp 𝕄) = iprop(raw c (fSlot rsM 0) ∗ raw c (fSlot rsM 1)) :=
  slots_cut c (r := cc1_scratch3) (R := fun s => raw c (fSlot rsM s)) (K := fun s => (slotRect s).set)
    (fun s => fSlots c rsM s _ (by rw [View.set_reshape]; exact View.set_slice_whole _ _)) slot_disj slot_univ
theorem co_slots : (any (F := F) c cc1_scratch6 : sProp 𝕄) = iprop(raw c (fSlot coM 0) ∗ raw c (fSlot coM 1)) :=
  slots_cut c (r := cc1_scratch6) (R := fun s => raw c (fSlot coM s)) (K := fun s => (slotRect s).set)
    (fun s => fSlots c coM s _ (by rw [View.set_reshape]; exact View.set_slice_whole _ _)) slot_disj slot_univ
theorem nt_slots : (any (F := F) c cc1_scratch4 : sProp 𝕄)
    = iprop(raw c (hSlot ntM (Memref.isWhole_whole _) 0) ∗ raw c (hSlot ntM (Memref.isWhole_whole _) 1)) :=
  slots_cut c (r := cc1_scratch4) (R := fun s => raw c (hSlot ntM (Memref.isWhole_whole _) s)) (K := fun s => (slotRect s).set)
    (fun s => hSlots c ntM _ s _ (by rw [View.set_reshape]; exact View.set_slice_whole _ _)) slot_disj slot_univ
theorem ci_slots : (any (F := F) c cc1_scratch5 : sProp 𝕄) = iprop(raw c (ciW 0) ∗ raw c (ciW 1)) :=
  slots_cut c (r := cc1_scratch5) (R := fun s => raw c (ciW s)) (K := fun s => (slotRect s).set)
    (fun s => hSlots c ciM _ s _ (by rw [View.set_reshape]; exact View.set_slice_whole _ _)) slot_disj slot_univ

theorem gam_whole (f : Vec F S1x4096 .f32) : (part c gamV fullShare f : sProp 𝕄) = at_ c main_v13 f := by
  unfold part; rw [show gamV.m.view.set = Finset.univ from View.set_whole _]
theorem gv_whole : (raw (F := F) c gvV : sProp 𝕄) = any c cc1_scratch1 := by
  unfold raw; rw [show gvV.m.view.set = Finset.univ from View.set_whole _]

end Cert.KernelIdeal.Fused

end
-- ==== Proof.Enter.lean ====
module

public import proofs.«01_k».proof.Proof.Setup

@[expose] public section

noncomputable section

namespace Cert.KernelIdeal.Fused

open Idealize.ShloMosaic Idealize.ShloMosaic.TcCoe Idealize.SL Idealize.SL.Sem Idealize.SL.RA Idealize.SL.BI
open scoped Idealize.SL.BI
open Idealize.SL.BI.BIBase Idealize.SL.BI.Laws Idealize.SL.ProofMode
open Idealize.ShloMosaic.Rounds
open Cert.KernelIdeal Facts₀ Facts

variable {F : FTy → Type} [FloatOps F]

local notation "𝕄" => MT nD τ sig Unit (Elt F) ℕ UU ℕ

variable (I : In F) (κ : GSem nD τ sig → ℕ) (c : Dev nD)

/-- Where the waits stand before the kernel. -/
def pos0 : sProp 𝕄 := iprop(atPos ER (barCell c) 0 ∅ 0 ∗ kinds fun k => all4 (at0 (F := F) c k))

theorem own0_all : iprop(all4 (cr (F := F) c 1) ∗ all4 (at0 c 1) ∗ (all4 fun b => oW (F := F) c (c0 c + 256 * b.val) 256)
      ∗ (all4 fun b => gW (F := F) c (c0 c + 256 * b.val) 256) ∗ all4 (kit c 1) ∗ all4 (kit c 2)) ⊢ (all4 (own0 c) : sProp 𝕄) :=
  of_eq (by unfold own0; rw [all4_sep_eq, all4_sep_eq, all4_sep_eq, all4_sep_eq, all4_sep_eq])
theorem fwd0_all : iprop(all4 (cr (F := F) c 5) ∗ all4 (at0 c 5) ∗ all4 (cr c 3) ∗ all4 (at0 c 3) ∗ all4 (kit c 3) ∗ all4 (kit c 4))
    ⊢ (all4 (fwd0 c) : sProp 𝕄) :=
  of_eq (by unfold fwd0; rw [all4_sep_eq, all4_sep_eq, all4_sep_eq, all4_sep_eq, all4_sep_eq])
theorem dgPre_all : iprop(all4 (cr (F := F) c 7) ∗ all4 (at0 c 7) ∗ all4 (cr c 9) ∗ all4 (at0 c 9) ∗ all4 (outsD c))
    ⊢ (all4 (dgPre c) : sProp 𝕄) :=
  of_eq (by unfold dgPre; rw [all4_sep_eq, all4_sep_eq, all4_sep_eq, all4_sep_eq])

/-- The slots and the counters of the local copies, with the inputs they read. -/
theorem priv_in : iprop(at_ c main_arg0 (I.p c) ∗ at_ c main_arg1 (I.r c) ∗ at_ c main_v13 (I.g c) ∗ any (F := F) c cc1_scratch2 ∗ any (F := F) c cc1_scratch3
      ∗ any (F := F) c cc1_scratch4 ∗ any (F := F) c cc1_scratch5 ∗ any (F := F) c cc1_scratch6 ∗ loc0 c) ⊢ (priv I c : sProp 𝕄) := by
  unfold priv loc0 idle wr cv
  iintro ⟨Hp, Hr, Hg, S2, S3, S4, S5, S6, Lg, ⟨L00, L01⟩, ⟨L10, L11⟩, ⟨L20, L21⟩, ⟨L30, L31⟩, L40, L41⟩
  icases (of_eq (share2 (I.p c))) $$ Hp with ⟨Hp, Hp'⟩
  icases (of_eq (share2 (I.r c))) $$ Hr with ⟨Hr, Hr'⟩
  icases (of_eq (ps_slots c)) $$ S2 with ⟨S2, S2'⟩
  icases (of_eq (rs_slots c)) $$ S3 with ⟨S3, S3'⟩
  icases (of_eq (nt_slots c)) $$ S4 with ⟨S4, S4'⟩
  icases (of_eq (ci_slots c)) $$ S5 with ⟨S5, S5'⟩
  icases (of_eq (co_slots c)) $$ S6 with ⟨S6, S6'⟩
  isplitl [S2 S3 L00 L10 Hp Hr]
  · isplitl [S2]; · iexact S2
    isplitl [S3]; · iexact S3
    isplitl [L00]; · iexact L00
    isplitl [L10]; · iexact L10
    isplitl [Hp]; · iexact Hp
    iexact Hr
  isplitl [S2' S3' L01 L11 Hp' Hr']
  · isplitl [S2']; · iexact S2'
    isplitl [S3']; · iexact S3'
    isplitl [L01]; · iexact L01
    isplitl [L11]; · iexact L11
    isplitl [Hp']; · iexact Hp'
    iexact Hr'
  isplitl [S6 S4 L30 L20]
  · isplitl [S6]; · iexact S6
    isplitl [S4]; · iexact S4
    isplitl [L30]; · iexact L30
    iexact L20
  isplitl [S6' S4' L31 L21]
  · isplitl [S6']; · iexact S6'
    isplitl [S4']; · iexact S4'
    isplitl [L31]; · iexact L31
    iexact L21
  isplitl [S5 L40]
  · isplitl [S5]; · iexact S5
    iexact L40
  isplitl [S5' L41]
  · isplitl [S5']; · iexact S5'
    iexact L41
  isplitl [Hg]; · iapply (of_eq (gam_whole c (I.g c)).symm); iexact Hg
  iexact Lg

theorem priv_out : (priv I c : sProp 𝕄) ⊢ iprop(at_ c main_arg0 (I.p c) ∗ at_ c main_arg1 (I.r c) ∗ at_ c main_v13 (I.g c) ∗ any (F := F) c cc1_scratch2
      ∗ any (F := F) c cc1_scratch3 ∗ any (F := F) c cc1_scratch4 ∗ any (F := F) c cc1_scratch5 ∗ any (F := F) c cc1_scratch6 ∗ loc0 c) := by
  unfold priv loc0 idle wr cv
  iintro ⟨⟨S2, S3, L00, L10, Hp, Hr⟩, ⟨S2', S3', L01, L11, Hp', Hr'⟩, ⟨S6, S4, L30, L20⟩, ⟨S6', S4', L31, L21⟩, ⟨S5, L40⟩, ⟨S5', L41⟩, Hg, Lg⟩
  icombine Hp Hp' as Hp
  icombine Hr Hr' as Hr
  icombine S2 S2' as S2
  icombine S3 S3' as S3
  icombine S4 S4' as S4
  icombine S5 S5' as S5
  icombine S6 S6' as S6
  isplitl [Hp]; · iapply (of_eq (share2 (I.p c)).symm); iexact Hp
  isplitl [Hr]; · iapply (of_eq (share2 (I.r c)).symm); iexact Hr
  isplitl [Hg]; · iapply (of_eq (gam_whole c (I.g c))); iexact Hg
  isplitl [S2]; · iapply (of_eq (ps_slots c).symm); iexact S2
  isplitl [S3]; · iapply (of_eq (rs_slots c).symm); iexact S3
  isplitl [S4]; · iapply (of_eq (nt_slots c).symm); iexact S4
  isplitl [S5]; · iapply (of_eq (ci_slots c).symm); iexact S5
  isplitl [S6]; · iapply (of_eq (co_slots c).symm); iexact S6
  isplitl [Lg]; · iexact Lg
  isplitl [L00 L01]
  · isplitl [L00]; · iexact L00
    iexact L01
  isplitl [L10 L11]
  · isplitl [L10]; · iexact L10
    iexact L11
  isplitl [L20 L21]
  · isplitl [L20]; · iexact L20
    iexact L21
  isplitl [L30 L31]
  · isplitl [L30]; · iexact L30
    iexact L31
  isplitl [L40]; · iexact L40
  iexact L41

/-- The kernel's operands, its scratch, its counters and its ghost state are what it runs from. -/
theorem enter : iprop(ctx I κ c ∗ arr0 I c ∗ scr (F := F) c ∗ loc0 c ∗ tok c ∗ crs c ∗ pos0 c) ⊢ (before I c : sProp 𝕄) := by
  unfold arr0 scr tok crs pos0 before barPre
  iintro ⟨#Hc, ⟨Hp, Hr, Hb, Hg, Ho, Hgb⟩, ⟨S0, S1, S2, S3, S4, S5, S6⟩, Hl, ⟨⟨T0, T1, T2⟩, K0, K1, K2, K3, K4⟩, ⟨Cb, C1, C3, C5, C7, C9⟩,
    Ab, ⟨A0, A1⟩, ⟨A2, A3⟩, ⟨A4, A5⟩, ⟨A6, A7⟩, A8, A9⟩
  icases (gb_cut c) $$ Hgb with ⟨G0, Gx, Gz, Gd, Gd'⟩
  icases (out_cut c) $$ Ho with ⟨O0, O1, O2⟩
  ihave Hrc := (rc_cut c) $$ S0
  isplitl [T0 T1 T2 Cb Ab Gx Gz Gd Gd' Hrc]
  · isplitl [T0]; · iexact T0
    isplitl [T1]; · iexact T1
    isplitl [T2]; · iexact T2
    isplitl [Gx Gd]
    · iapply (show iprop(rooms (F := F) (nx c) 1 ∗ rooms (nx c) 3) ⊢ (barPay (nx c) 0 : sProp 𝕄) from BI.Entails.refl _)
      isplitl [Gx]
      · iapply (give I κ c 1 (fun b => gW c (c0 (nx c) + 256 * b.val) 256) (give1 c)); isplitl []; · iexact Hc
        iexact Gx
      iapply (give I κ c 3 (fun b => gW c (c0 (nz (nx c)) + 256 * b.val) 128) (give3 c)); isplitl []; · iexact Hc
      iexact Gd
    isplitl [Hrc]
    · iapply (show rooms (F := F) (ny c) 0 ⊢ (barPay (ny c) 1 : sProp 𝕄) from BI.Entails.refl _)
      iapply (give I κ c 0 (fun b => raw c (rcBlk b)) (give0 c)); isplitl []; · iexact Hc
      iexact Hrc
    isplitl [Gz Gd']
    · iapply (show iprop(rooms (F := F) (nz c) 2 ∗ rooms (nz c) 4) ⊢ (barPay (nz c) 2 : sProp 𝕄) from BI.Entails.refl _)
      isplitl [Gz]
      · iapply (give I κ c 2 (fun b => gW c (c0 (nz c) + 256 * b.val) 256) (give2 c)); isplitl []; · iexact Hc
        iexact Gz
      iapply (give I κ c 4 (fun b => gW c (c0 (nz (nx c)) + 256 * b.val + 128) 128) (give4 c)); isplitl []; · iexact Hc
      iexact Gd'
    isplitl [Cb]; · iexact Cb
    iexact Ab
  isplitl [Hb]; · iapply (of_eq (bBlks c (I.b c))); iexact Hb
  isplitl [K0]; · iexact K0
  isplitl [Hp Hr Hg S2 S3 S4 S5 S6 Hl]
  · iapply (priv_in I c)
    isplitl [Hp]; · iexact Hp
    isplitl [Hr]; · iexact Hr
    isplitl [Hg]; · iexact Hg
    isplitl [S2]; · iexact S2
    isplitl [S3]; · iexact S3
    isplitl [S4]; · iexact S4
    isplitl [S5]; · iexact S5
    isplitl [S6]; · iexact S6
    iexact Hl
  isplitl [S1]; · iapply (of_eq (gv_whole c).symm); iexact S1
  isplitl [C1 A1 O0 G0 K1 K2]
  · iapply (own0_all c)
    isplitl [C1]; · iexact C1
    isplitl [A1]; · iexact A1
    isplitl [O0]; · iexact O0
    isplitl [G0]; · iexact G0
    isplitl [K1]; · iexact K1
    iexact K2
  isplitl [C5 A5 C3 A3 K3 K4]
  · iapply (fwd0_all c)
    isplitl [C5]; · iexact C5
    isplitl [A5]; · iexact A5
    isplitl [C3]; · iexact C3
    isplitl [A3]; · iexact A3
    isplitl [K3]; · iexact K3
    iexact K4
  isplitl [O1]; · iexact O1
  isplitl [C7 A7 C9 A9 O2]
  · iapply (dgPre_all c)
    isplitl [C7]; · iexact C7
    isplitl [A7]; · iexact A7
    isplitl [C9]; · iexact C9
    isplitl [A9]; · iexact A9
    iexact O2
  isplitl [A0]; · iexact A0
  isplitl [A2]; · iexact A2
  isplitl [A4]; · iexact A4
  isplitl [A6]; · iexact A6
  iexact A8

end Cert.KernelIdeal.Fused

end
-- ==== Proof.Leave.lean ====
module

public import proofs.«01_k».proof.Proof.Enter

@[expose] public section

noncomputable section

namespace Cert.KernelIdeal.Fused

open Idealize.ShloMosaic Idealize.ShloMosaic.TcCoe Idealize.SL Idealize.SL.Sem Idealize.SL.RA Idealize.SL.BI
open scoped Idealize.SL.BI
open Idealize.SL.BI.BIBase Idealize.SL.BI.Laws Idealize.SL.ProofMode
open Idealize.ShloMosaic.Rounds
open Cert.KernelIdeal Facts₀ Facts

variable {F : FTy → Type} [FloatOps F]

local notation "𝕄" => MT nD τ sig Unit (Elt F) ℕ UU ℕ

variable (I : In F) (κ : GSem nD τ sig → ℕ) (c : Dev nD)

/-- Where the waits stand after the kernel. -/
def pos1 : sProp 𝕄 := iprop(atPos ER (barCell c) (0 + 1) ∅ 0 ∗ kinds fun k => all4 (at1 (F := F) c k))

theorem all4_six (A B C D E F' : Fin 4 → sProp 𝕄) : all4 (fun b => iprop(A b ∗ B b ∗ C b ∗ D b ∗ E b ∗ F' b))
    ⊢ iprop(all4 A ∗ all4 B ∗ all4 C ∗ all4 D ∗ all4 E ∗ all4 F') :=
  of_eq (by rw [all4_sep_eq, all4_sep_eq, all4_sep_eq, all4_sep_eq, all4_sep_eq])

/-- One converted block of two tiles: its two halves of both arrays. -/
theorem gb_256 (n : ℕ) : iprop(gR c fullShare (G I c) n 128 ∗ gR c fullShare (G I c) (n + 128) 128) ⊢ (gR c fullShare (G I c) n 256 : sProp 𝕄) :=
  of_eq (gR_add c fullShare (G I c) n 128 128).symm
theorem ob_256 (n : ℕ) : iprop(oR c (OUT I c) n 128 ∗ oR c (OUT I c) (n + 128) 128) ⊢ (oR c (OUT I c) n 256 : sProp 𝕄) :=
  of_eq (oR_add c (OUT I c) n 128 128).symm

/-- What the conversions leave, with what the forwarding copies bring back: three chunks of both arrays. -/
theorem six_back (b : Fin 4) : iprop(six I c b ∗ pay I c 6 b ∗ pay I c 8 b)
    ⊢ (iprop((gR c fullShare (G I c) (c0 (nx c) + 256 * b.val) 256 ∗ gR c fullShare (G I c) (c0 (nz c) + 256 * b.val) 256
        ∗ gR c fullShare (G I c) (c0 (nz (nx c)) + 256 * b.val) 256)
      ∗ oR c (OUT I c) (c0 (nx c) + 256 * b.val) 256 ∗ oR c (OUT I c) (c0 (nz c) + 256 * b.val) 256
        ∗ oR c (OUT I c) (c0 (nz (nx c)) + 256 * b.val) 256) : sProp 𝕄) := by
  unfold six done
  iintro ⟨⟨⟨G5, O5⟩, ⟨G8, O8⟩, ⟨G9, O9⟩, ⟨G7, O7⟩, ⟨G10, O10⟩, G11, O11⟩, P6, P8⟩
  ihave P6 := (show pay I c 6 b ⊢ (gR c qL (G I c) (c0 (nz c) + 256 * b.val) 128 : sProp 𝕄) from BI.Entails.refl _) $$ P6
  ihave P8 := (show pay I c 8 b ⊢ (gR c qL (G I c) (c0 (nx c) + 256 * b.val + 128) 128 : sProp 𝕄) from BI.Entails.refl _) $$ P8
  icombine P6 G5 as G5
  icombine P8 G7 as G7
  ihave G5 := (of_eq (gR_share c (G I c) (c0 (nz c) + 256 * b.val) 128).symm) $$ G5
  ihave G7 := (of_eq (gR_share c (G I c) (c0 (nx c) + 256 * b.val + 128) 128).symm) $$ G7
  isplitl [G5 G8 G9 G7 G10 G11]
  · isplitl [G9 G7]
    · iapply (gb_256 I c); isplitl [G9]; · iexact G9
      iexact G7
    isplitl [G5 G8]
    · iapply (gb_256 I c); isplitl [G5]; · iexact G5
      iexact G8
    iapply (gb_256 I c); isplitl [G10]; · iexact G10
    iexact G11
  isplitl [O9 O7]
  · iapply (ob_256 I c); isplitl [O9]; · iexact O9
    iexact O7
  isplitl [O5 O8]
  · iapply (ob_256 I c); isplitl [O5]; · iexact O5
    iexact O8
  iapply (ob_256 I c); isplitl [O10]; · iexact O10
  iexact O11

theorem six_all : iprop(all4 (six I c) ∗ all4 (pay I c 6) ∗ all4 (pay I c 8))
    ⊢ (iprop(((all4 fun b => gR c fullShare (G I c) (c0 (nx c) + 256 * b.val) 256) ∗ (all4 fun b => gR c fullShare (G I c) (c0 (nz c) + 256 * b.val) 256)
        ∗ all4 fun b => gR c fullShare (G I c) (c0 (nz (nx c)) + 256 * b.val) 256)
      ∗ (all4 fun b => oR c (OUT I c) (c0 (nx c) + 256 * b.val) 256) ∗ (all4 fun b => oR c (OUT I c) (c0 (nz c) + 256 * b.val) 256)
        ∗ all4 fun b => oR c (OUT I c) (c0 (nz (nx c)) + 256 * b.val) 256) : sProp 𝕄) := by
  rw [← all4_sep_eq, ← all4_sep_eq, ← all4_sep_eq, ← all4_sep_eq, ← all4_sep_eq, ← all4_sep_eq, ← all4_sep_eq]
  exact all4_mono (six_back I c)

theorem own_share : iprop(all4 (pay I c 2) ∗ all4 (pay I c 4)) ⊢ (all4 fun b => gR c fullShare (G I c) (c0 c + 256 * b.val) 256 : sProp 𝕄) := by
  rw [← all4_sep_eq]
  exact all4_mono fun b => of_eq (gR_share c (G I c) (c0 c + 256 * b.val) 256).symm

theorem own1_all : all4 (own1 I c) ⊢ iprop(all4 (at1 c 1) ∗ (all4 fun b => part c (rcBlk b) fullShare (RC I c))
    ∗ (all4 fun b => oR c (OUT I c) (c0 c + 256 * b.val) 256 : sProp 𝕄)) :=
  of_eq (by unfold own1; rw [all4_sep_eq, all4_sep_eq])
theorem fwd1_all : all4 (fwd1 c) ⊢ (iprop(all4 (at1 c 5) ∗ all4 (at1 c 3)) : sProp 𝕄) := of_eq (by unfold fwd1; rw [all4_sep_eq])
theorem dgPost_all : all4 (dgPost c) ⊢ (iprop(all4 (at1 c 7) ∗ all4 (at1 c 9)) : sProp 𝕄) := of_eq (by unfold dgPost; rw [all4_sep_eq])

/-- What the kernel leaves is its operands, the results written, its scratch and its counters, with every wait past its round. -/
theorem leave : after I c ⊢ (iprop(arr1 I c ∗ scr (F := F) c ∗ loc0 c ∗ pos1 c) : sProp 𝕄) := by
  unfold after arr1 scr pos1 gotK
  iintro ⟨Ab, Hp, Hgv, Hown, Hfwd, Hdg, Hsix, ⟨P0, A0⟩, ⟨P2, A2⟩, ⟨P4, A4⟩, ⟨P6, A6⟩, P8, A8⟩
  icases (priv_out I c) $$ Hp with ⟨Hp, Hr, Hg, S2, S3, S4, S5, S6, Hl⟩
  icases (own1_all I c) $$ Hown with ⟨A1, Hrc, O0⟩
  icases (fwd1_all c) $$ Hfwd with ⟨A5, A3⟩
  icases (dgPost_all c) $$ Hdg with ⟨A7, A9⟩
  icombine Hsix P6 P8 as H6
  icases (six_all I c) $$ H6 with ⟨⟨Gx, Gz, Gd⟩, Ox, Oz, Od⟩
  icombine P2 P4 as P
  ihave G0 := (own_share I c) $$ P
  isplitl [Hp Hr P0 Hg G0 Gx Gz Gd O0 Ox Oz Od]
  · isplitl [Hp]; · iexact Hp
    isplitl [Hr]; · iexact Hr
    isplitl [P0]
    · iapply (of_eq (bBlks c (I.b c)).symm)
      iapply (show all4 (pay I c 0) ⊢ (all4 fun b => part c (bBlk b) fullShare (I.b c) : sProp 𝕄) from BI.Entails.refl _); iexact P0
    isplitl [Hg]; · iexact Hg
    isplitl [O0 Ox Oz Od]
    · iapply (of_eq (oR_whole c (OUT I c)).symm)
      iapply (of_eq (spread (oR_add c (OUT I c)) c).symm)
      isplitl [O0]; · iexact O0
      isplitl [Ox]; · iexact Ox
      isplitl [Oz]; · iexact Oz
      iexact Od
    iapply (of_eq (gR_whole c (G I c)).symm)
    iapply (of_eq (spread (gR_add c fullShare (G I c)) c).symm)
    isplitl [G0]; · iexact G0
    isplitl [Gx]; · iexact Gx
    isplitl [Gz]; · iexact Gz
    iexact Gd
  isplitl [Hrc Hgv S2 S3 S4 S5 S6]
  · isplitl [Hrc]
    · iexists (RC I c); iapply (of_eq (rcBlks c (RC I c)).symm); iexact Hrc
    isplitl [Hgv]
    · iapply (of_eq (gv_whole c)); iapply (part_raw c gvV (I.g c)); iexact Hgv
    isplitl [S2]; · iexact S2
    isplitl [S3]; · iexact S3
    isplitl [S4]; · iexact S4
    isplitl [S5]; · iexact S5
    iexact S6
  isplitl [Hl]; · iexact Hl
  isplitl [Ab]; · iexact Ab
  isplitl [A0 A1]
  · isplitl [A0]; · iexact A0
    iexact A1
  isplitl [A2 A3]
  · isplitl [A2]; · iexact A2
    iexact A3
  isplitl [A4 A5]
  · isplitl [A4]; · iexact A4
    iexact A5
  isplitl [A6 A7]
  · isplitl [A6]; · iexact A6
    iexact A7
  isplitl [A8]; · iexact A8
  iexact A9

end Cert.KernelIdeal.Fused

end
-- ==== Proof.Cast.lean ====
module

public import proofs.«01_k».proof.Proof.Leave

@[expose] public section

noncomputable section

namespace Cert.KernelIdeal.Fused

open Idealize.ShloMosaic Idealize.ShloMosaic.TcCoe Idealize.SL Idealize.SL.Sem Idealize.SL.RA Idealize.SL.BI
open scoped Idealize.SL.BI
open Idealize.SL.BI.BIBase Idealize.SL.BI.Laws Idealize.SL.ProofMode
open Idealize.ShloMosaic.Rounds
open Cert.KernelIdeal Facts₀ Facts

variable {F : FTy → Type} [FloatOps F]

local notation "𝕄" => MT nD τ sig Unit (Elt F) ℕ UU ℕ

/-- A rectangle that is a whole shape places every index at itself. -/
theorem emb_full {S : Shape} (off : Fin S.rank → ℕ) (h0 : ∀ a, off a = 0) (h : ∀ a, off a + S.size a ≤ S.size a) (i : S.Idx) :
    (Rect.unit (s := S) off S.size h).emb i = i := by
  funext a; apply Fin.ext
  show off a + 1 * (i a).val = (i a).val
  rw [h0 a]; omega

/-- What the cast kernel stores of the tile it is given. -/
def castT (X : Vec F S1x128x4096 .f32) : Vec F S128x4096 .bf16 := truncf .bf16 (shapeCast S128x4096 X shapeCasts_S1x128x4096_S128x4096) bitsLt_bf16_f32

theorem cast_run (c : Dev nD) (i : grid0.Coords) (a1 : Memref sig .tc .smem S1 .i32) (h1 : a1.IsWhole) (a2 : Memref sig .tc .vmem S1x128x4096 .f32)
    (h2 : a2.IsWhole) (a3 : Memref sig .tc .vmem S128x4096 .bf16) (h3 : a3.IsWhole) (X : Vec F S1x128x4096 .f32) (Y : Vec F S128x4096 .bf16) {Q : PUnit → sProp 𝕄} :
    iprop(owns (c : Thread nD τ) a2 fullShare X ∗ owns (c : Thread nD τ) a3 fullShare Y)
      ⊢ iprop(((owns (c : Thread nD τ) a2 fullShare X ∗ owns (c : Thread nD τ) a3 fullShare (castT X)) -∗ Q ⟨⟩) -∗ runs c (cc0_body i a1 h1 a2 h2 a3 h3) Q) := by
  unfold owns cc0_body
  iintro ⟨⟨%f, %hf, Hf⟩, %g, %hg, Hg⟩ Hk
  iapply (wp_load_rect 𝒱₀ (c : Thread nD τ) none Set.univ (S := a2.view.set) (q := fullShare) (f := f) (View.set_slice_subset _ _)) $$ [Hf]
  · iexact Hf
  iintro Hf
  iapply (wp_load_rect 𝒱₀ (c : Thread nD τ) none Set.univ (S := a3.view.set) (q := fullShare) (f := g) (View.set_slice_subset _ _)) $$ [Hg]
  · iexact Hg
  iintro Hg
  iapply (wp_store 𝒱₀ (c : Thread nD τ) none Set.univ (S := a3.view.set) (f := g) (View.set_slice_subset _ _)) $$ [Hg]
  · iexact Hg
  iintro Hg
  rw [show ((Prog.ret PUnit.unit).bind fun _ => (Pure.pure PUnit.unit : Prog _ PUnit)) = Prog.ret PUnit.unit from rfl, wp_ret]; imodintro
  iapply Hk
  isplitl [Hf]
  · iexists f; isplitr; · ipureintro; exact hf
    iexact Hf
  iexists _; isplitr
  rotate_left
  · iexact Hg
  ipureintro
  have hX : View.read (Elt F) (a2.access (Rect.unit ![0, 0, 0] S1x128x4096.size (by decide))) f = X := by
    rw [← hf]; funext j
    exact congrArg (View.read (Elt F) a2.view f) (emb_full _ (by decide) _ j)
  rw [← hX]
  funext j
  refine Eq.trans (congrArg (View.read (Elt F) a3.view _) (emb_full ![0, 0] (by decide) (by decide) j)).symm ?_
  exact congrFun (View.read_write_univ (v := a3.access (Rect.unit ![0, 0] S128x4096.size (by decide))) g _) j

end Cert.KernelIdeal.Fused

end
-- ==== Proof.Call0.lean ====
module

public import proofs.«01_k».proof.Proof.Cast
public import proofs.«01_k».proof.Proof.Gen.KernelIdeal.Regions

@[expose] public section

noncomputable section

namespace Cert.KernelIdeal.Fused

open Idealize.ShloMosaic Idealize.ShloMosaic.TcCoe Idealize.SL Idealize.SL.Sem Idealize.SL.RA Idealize.SL.BI
open scoped Idealize.SL.BI
open Idealize.SL.BI.BIBase Idealize.SL.BI.Laws Idealize.SL.ProofMode
open Idealize.ShloMosaic.Rounds
open Cert.KernelIdeal Facts₀ Facts

variable {F : FTy → Type} [FloatOps F]

local notation "𝕄" => MT nD τ sig Unit (Elt F) ℕ UU ℕ

open Idealize.ShloMosaic.Pipeline (Dat BodyObligation)

/-- What a loop holds of the tallies, from the tallies owed with any record, -/
theorem owesAt_intro {cfg : Pipeline.Cfg sig Λ₀} {c : Dev nD} (dat : Dat τ (Elt F) Unit ℕ UU ℕ cfg c) (t : Fin (cfg.N + 1))
    (O : CellTallies nD τ sig Unit) (h0 : dat.owed t = O) (hr : dat.recorded t = Set.univ) :
    (owesA (F := F) c O) ⊢ (dat.owesAt () t : sProp 𝕄) := by
  unfold owesA Dat.owesAt Pipeline.owesWithin Dat.bound; rw [h0, hr]
  iintro ⟨%W, HO⟩; iexists W; isplitr; · ipureintro; exact fun _ _ => Or.inl trivial
  iexact HO

/-- and back. -/
theorem owesAt_elim {cfg : Pipeline.Cfg sig Λ₀} {c : Dev nD} (dat : Dat τ (Elt F) Unit ℕ UU ℕ cfg c) (t : Fin (cfg.N + 1))
    (O : CellTallies nD τ sig Unit) (h0 : dat.owed t = O) :
    (dat.owesAt () t : sProp 𝕄) ⊢ owesA (F := F) c O := by
  unfold owesA Dat.owesAt Pipeline.owesWithin; rw [h0]
  iintro ⟨%W, -, HO⟩; iexists W; iexact HO

/-- The block of `P` the cast call fetches at point `t`, at the admissible table `a`. -/
def blkT (a : (pcfg0 (F := F)).Adm) (c : Dev nD) (P : Buf (Elt F) ((c : Thread nD τ).loc main_arg0)) (t : Fin grid0.N) : Vec F S1x128x4096 .f32 :=
  ((win0 a 0).blk t).view.read (Elt F) P

/-- The cast call's proof data: the array `P` in, `B` before it, its tiles cast; `R` rides along, the device owes all it owes at the start. -/
def dat0 (a : (pcfg0 (F := F)).Adm) (c : Dev nD) (P : Buf (Elt F) ((c : Thread nD τ).loc main_arg0)) (B : Buf (Elt F) ((c : Thread nD τ).loc main_v12)) (R : sProp 𝕄) :
    Dat τ (Elt F) Unit ℕ UU ℕ (cfg0 a) c where
  A := fun | 0 => P | 1 => B | ⟨_ + 2, h⟩ => absurd h (Nat.not_lt.2 (Nat.le_add_left _ _))
  after := fun | 0 => fun t => blkT a c P t | 1 => fun t => castT (blkT a c P t) | ⟨_ + 2, h⟩ => absurd h (Nat.not_lt.2 (Nat.le_add_left _ _))
  Φ := fun _ => R
  q := fun _ => fullShare
  owed := fun _ => Ow c 0

theorem before0 (a : (pcfg0 (F := F)).Adm) (c : Dev nD) (P) (B) (R : sProp 𝕄) (t : Fin grid0.N) (d) : (dat0 a c P B R).before 0 t d = blkT a c P t :=
  (dat0 a c P B R).before_in_eq_fetched 0 rfl (fun _ => rfl) (fun _ _ _ => rfl) (fun _ => rfl) t d

theorem body0 (a : (pcfg0 (F := F)).Adm) (c : Dev nD) (P) (B) (R : sProp 𝕄) : BodyObligation (dat0 a c P B R) defs₀ 𝒱₀ () Set.univ := fun t => by
  change Fin grid0.N at t
  rw [Gen.bigSep_W0, Gen.bigSep_W0]
  show iprop(R ∗ (dat0 a c P B R).owesAt () t.castSucc ∗ (∃ d, owns (c : Thread nD τ) ((win0 a 0).stage ((cfg0 a).slots t 0)) fullShare ((dat0 a c P B R).before 0 t d))
      ∗ (∃ d, owns (c : Thread nD τ) ((win0 a 1).stage ((cfg0 a).slots t 1)) fullShare ((dat0 a c P B R).before 1 t d)))
    ⊢ runs c (cc0_body (grid0.coords t) (Memref.whole main_v11) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)))
      fun _ => iprop(R ∗ (dat0 a c P B R).owesAt () t.succ ∗ owns (c : Thread nD τ) ((win0 a 0).stage ((cfg0 a).slots t 0)) fullShare (blkT a c P t)
        ∗ owns (c : Thread nD τ) ((win0 a 1).stage ((cfg0 a).slots t 1)) fullShare (castT (blkT a c P t)))
  iintro ⟨HR, HO, ⟨%d, H0⟩, ⟨%e, H1⟩⟩
  ihave H0 := (Entails.of_eq (congrArg (owns (c : Thread nD τ) ((win0 a 0).stage ((cfg0 a).slots t 0)) fullShare) (before0 a c P B R t d))) $$ H0
  iapply (cast_run c (grid0.coords t) _ _ _ _ _ _ (blkT a c P t) _) $$ [H0 H1]
  · isplitl [H0]; · iexact H0
    iexact H1
  iintro ⟨H0, H1⟩
  isplitl [HR]; · iexact HR
  isplitl [HO]; · iexact HO
  isplitl [H0]; · iexact H0
  iexact H1

end Cert.KernelIdeal.Fused

end
-- ==== Proof.Table.lean ====
module

public import proofs.«01_k».proof.Proof.Call0
public import Idealize.ShloMosaic.Lib.Pipeline.Covers
public import Idealize.ShloMosaic.Lib.Pipeline.ValueKit.Geometry

@[expose] public section

noncomputable section

namespace Cert.KernelIdeal.Fused

open Idealize.ShloMosaic Idealize.ShloMosaic.TcCoe Idealize.SL Idealize.SL.Sem Idealize.SL.RA Idealize.SL.BI
open scoped Idealize.SL.BI
open Idealize.SL.BI.BIBase Idealize.SL.BI.Laws Idealize.SL.ProofMode
open Idealize.ShloMosaic.Rounds
open Cert.KernelIdeal Facts₀ Facts

variable {F : FTy → Type} [FloatOps F]

local notation "𝕄" => MT nD τ sig Unit (Elt F) ℕ UU ℕ

/-- The word the host prefetches for the cast call: the number of the device's rows of 1024. -/
def tbl (c : Dev nD) : pre0.Contents (Elt F) := fun | 0 => fun _ => BitVec.ofNat 32 (c0 c / 1024) | ⟨_ + 1, h⟩ => absurd h (Nat.not_lt.2 (Nat.le_add_left _ _))

/-- With that word the cast call's input block at point `i` is block `c0 c / 128 + i` of the rows. -/
theorem tbl_ix (c : Dev nD) (i : grid0.Coords) :
    cc0_transform_0 inb_S1_S1_0 numel1_S1 (tbl (F := F) c) i = ![0, c0 c / 128 + (i 0).val, 0] := by
  have hi : (i 0).val < 8 := (i 0).isLt
  show ![_, (Scalar.addi (Scalar.muli (BitVec.ofNat 32 (c0 c / 1024)) 8#32) (BitVec.ofNat 32 (i 0).val)).toNat, _] = _
  generalize (i 0).val = n at hi ⊢
  have : ∀ c : Dev nD, ∀ n : Fin 8, (Scalar.addi (Scalar.muli (BitVec.ofNat 32 (c0 c / 1024)) 8#32) (BitVec.ofNat 32 n.val)).toNat = c0 c / 128 + n.val := by decide
  rw [this c ⟨n, hi⟩]; rfl

theorem tbl_ok (c : Dev nD) : ok0 (F := F) (tbl c) := by
  intro i
  have hi : (i 0).val < 8 := (i 0).isLt
  have := c0_le c
  refine ⟨fun a => ?_, .inl rfl⟩
  rw [tbl_ix]
  match a with
  | 0 => show 0 + 1 ≤ 1; omega
  | 1 => show (c0 c / 128 + (i 0).val + 1) * 128 ≤ 4096; omega
  | 2 => show (0 + 1) * 4096 ≤ 4096; omega

/-- The contents of the two calls' tables at which they are run. -/
def adm (c : Dev nD) : (p : Fin 2) → (pcfgs (F := F) p).Adm := fun | 0 => ⟨tbl c, tbl_ok c⟩ | 1 => cfg1.toPCfg_adm | ⟨_ + 2, h⟩ => absurd h (Nat.not_lt.2 (Nat.le_add_left _ _))

/-- Where in the partial array the chunk's element `i` lies. -/
def rowIx (c : Dev nD) (i : S1024x4096.Idx) : S1x4096x4096.Idx :=
  fun | 0 => ⟨0, Nat.zero_lt_one⟩ | 1 => ⟨c0 c + (i 0).val, by have := c0_le c; have : (i 0).val < 1024 := (i 0).isLt; show _ < 4096; omega⟩ | 2 => i 1

/-- The device's chunk of `P`, cast: what the cast call leaves. -/
def BV (c : Dev nD) (P : Buf (Elt F) ((c : Thread nD τ).loc main_arg0)) : Vec F S1024x4096 .bf16 :=
  truncf .bf16 (fun i : S1024x4096.Idx => P (rowIx c i)) bitsLt_bf16_f32

theorem nblk1_0 (a : (pcfg0 (F := F)).Adm) : (win0 a 1).nblk (0 : Fin 2) = 8 :=
  show (S1024x4096.size 0 + S128x4096.size 0 - 1) / S128x4096.size 0 = 8 by decide
theorem nblk1_1 (a : (pcfg0 (F := F)).Adm) : (win0 a 1).nblk (1 : Fin 2) = 1 :=
  show (S1024x4096.size 1 + S128x4096.size 1 - 1) / S128x4096.size 1 = 1 by decide

theorem covers1 (a : (pcfg0 (F := F)).Adm) : (win0 a 1).Covers :=
  (win0 a 1).covers_of_indexMap_surj rfl (by intro b; exact (show ∀ b : Fin 2, 0 < S128x4096.size b by decide) b) fun β =>
    ⟨fun | (0 : Fin 1) => ⟨(β (0 : Fin 2)).val, lt_of_lt_of_eq (β (0 : Fin 2)).isLt (nblk1_0 a)⟩, fun b => by
      match b with
      | 0 =>
        have h : (β (0 : Fin 2)).val < 8 := lt_of_lt_of_eq (β (0 : Fin 2)).isLt (nblk1_0 a)
        show (BitVec.ofNat 32 (β (0 : Fin 2)).val).toNat = _
        rw [BitVec.toNat_ofNat]; omega
      | 1 =>
        have h : (β (1 : Fin 2)).val < 1 := lt_of_lt_of_eq (β (1 : Fin 2)).isLt (nblk1_1 a)
        show 0 = _
        omega⟩

theorem arr1_end (c : Dev nD) (P) (B) (R : sProp 𝕄) : (dat0 (F := F) (adm c 0) c P B R).arrAt 1 grid0.N = BV c P := by
  refine (dat0 (F := F) (adm c 0) c P B R).arrAt_eq_of_covers 1 _ (covers1 _) fun t hf y => ?_
  blk_simp
  change S128x4096.Idx at y
  show FloatOps.truncf .bf16 bitsLt_bf16_f32 (shapeCast S128x4096 (blkT (adm c 0) c P t) shapeCasts_S1x128x4096_S128x4096 y) = FloatOps.truncf .bf16 bitsLt_bf16_f32 (P (rowIx c ((((cfg0 (adm c 0)).win 1).blk t).view.emb y)))
  congr 1
  refine (shapeCast_dropUnit_apply ![128, 4096] _ _ y).trans ?_
  have e0 := tbl_ix (F := F) c (grid0.coords t)
  have hi : ((grid0.coords t) 0).val < 8 := ((grid0.coords t) 0).isLt
  have h8 : c0 c / 128 * 128 = c0 c := by unfold c0; omega
  have hx : ((win0 (F := F) (adm c 0) 0).blk t).view.emb (Fin.cons ⟨0, Nat.one_pos⟩ y) = rowIx c ((((cfg0 (adm c 0)).win 1).blk t).view.emb y) := by
    funext b
    apply Fin.ext
    match b with
    | 0 => rfl
    | 1 =>
      show cc0_transform_0 inb_S1_S1_0 numel1_S1 (tbl (F := F) c) (grid0.coords t) 1 * 128 + 1 * (y 0).val = c0 c + ((BitVec.ofNat 32 ((grid0.coords t) 0).val).toNat * 128 + 1 * (y 0).val)
      rw [e0, BitVec.toNat_ofNat]
      show (c0 c / 128 + ((grid0.coords t) 0).val) * 128 + 1 * (y 0).val = _
      rw [Nat.mod_eq_of_lt (by omega)]
      omega
    | 2 =>
      show 0 * 4096 + 1 * (y 1).val = 0 * 4096 + 1 * (y 1).val
      rfl
  exact congrArg P hx

variable (m : (ℓ : Loc nD τ sig) → Buf (Elt F) ℓ)

/-- The host's integer arithmetic for that word. -/
theorem host_word : ∀ c : Dev nD, IntOp.addi (IntOp.muli (IntOp.remui .host (IntOp.divui .host c.word 4#32) 2#32) 2#32) (IntOp.remui .host (IntOp.divui .host c.word 1#32) 2#32)
    = BitVec.ofNat 32 (c0 c / 1024) := by decide

/-- The host leaves that word. -/
theorem V1_tbl (c : Dev nD) : Gen.V1 m c main_v11 = tbl (F := F) c 0 := by
  after_results
  funext i
  exact host_word c

end Cert.KernelIdeal.Fused

end
-- ==== Proof.Vals.lean ====
module

public import proofs.«01_k».proof.Proof.Table

@[expose] public section

noncomputable section

namespace Cert.KernelIdeal.Fused

open Idealize.ShloMosaic Idealize.ShloMosaic.TcCoe Idealize.SL Idealize.SL.Sem Idealize.SL.RA Idealize.SL.BI
open scoped Idealize.SL.BI
open Idealize.SL.BI.BIBase Idealize.SL.BI.Laws Idealize.SL.ProofMode
open Idealize.ShloMosaic.Rounds
open Cert.KernelIdeal Facts₀ Facts

variable {F : FTy → Type} [FloatOps F]

local notation "𝕄" => MT nD τ sig Unit (Elt F) ℕ UU ℕ

variable (m : (ℓ : Loc nD τ sig) → Buf (Elt F) ℓ)

/-- What the cast call leaves on device `c`. -/
def bv (c : Dev nD) : Buf (Elt F) ((c : Thread nD τ).loc main_v12) := BV c (m ((c : Thread nD τ).loc main_arg0))

/-- The unscoped buffers before the cast call, after it, before the fused call. -/
def W1 (c : Dev nD) : Valuation τ sig (Elt F) := Gen.V1 m c
def W2 (c : Dev nD) : Valuation τ sig (Elt F) := Function.update (W1 m c) main_v12 (bv m c)
def W3 (c : Dev nD) : Valuation τ sig (Elt F) := StableHlo.after Gen.hostOps1 (W2 m c)

/-- The inputs of the fused call. -/
def ins : In F where
  p c := m ((c : Thread nD τ).loc main_arg0)
  b c := bv m c
  r c := m ((c : Thread nD τ).loc main_arg1)
  g c := W3 m c main_v13

/-- The unscoped buffers after the fused call. -/
def W4 (c : Dev nD) : Valuation τ sig (Elt F) :=
  Function.update (Function.update (W3 m c) main_v14_0 (OUT (ins m) c)) main_v14_1 (G (ins m) c)

theorem W1_of (c : Dev nD) (r : Ref sig .tc) (h : r ∉ Gen.hostOps0_W) : W1 m c r = m ((c : Thread nD τ).loc r) := Gen.V1_of m c r h
theorem W2_of (c : Dev nD) (r : Ref sig .tc) (h : r ≠ main_v12) : W2 m c r = W1 m c r := Function.update_of_ne (StableHlo.devRef_ne_of_ne h) _ _
theorem W2_v12 (c : Dev nD) : W2 m c main_v12 = bv m c := Function.update_self _ _ _
theorem W3_of (c : Dev nD) (r : Ref sig .tc) (h : r ∉ Gen.hostOps1_W) : W3 m c r = W2 m c r := StableHlo.after_of_writes_sub Gen.hostOps1 _ Gen.hostOps1_writes h
theorem W4_of (c : Dev nD) (r : Ref sig .tc) (h : r ≠ main_v14_0) (h' : r ≠ main_v14_1) : W4 m c r = W3 m c r :=
  (Function.update_of_ne (StableHlo.devRef_ne_of_ne h') _ _).trans (Function.update_of_ne (StableHlo.devRef_ne_of_ne h) _ _)
theorem W4_out (c : Dev nD) : W4 m c main_v14_0 = OUT (ins m) c :=
  (Function.update_of_ne (StableHlo.devRef_ne_of_ne (by decide : main_v14_0 ≠ main_v14_1)) _ _).trans (Function.update_self _ _ _)
theorem W4_gat (c : Dev nD) : W4 m c main_v14_1 = G (ins m) c := Function.update_self _ _ _

theorem W1_arg0 (c : Dev nD) : W1 m c main_arg0 = m ((c : Thread nD τ).loc main_arg0) := W1_of m c _ (by decide)
theorem W1_v11 (c : Dev nD) : W1 m c main_v11 = tbl (F := F) c 0 := V1_tbl m c
theorem W3_arg0 (c : Dev nD) : W3 m c main_arg0 = (ins m).p c := (W3_of m c _ (by decide)).trans <| (W2_of m c _ (by decide)).trans (W1_of m c _ (by decide))
theorem W3_arg1 (c : Dev nD) : W3 m c main_arg1 = (ins m).r c := (W3_of m c _ (by decide)).trans <| (W2_of m c _ (by decide)).trans (W1_of m c _ (by decide))
theorem W3_arg2 (c : Dev nD) : W3 m c main_arg2 = m ((c : Thread nD τ).loc main_arg2) := (W3_of m c _ (by decide)).trans <| (W2_of m c _ (by decide)).trans (W1_of m c _ (by decide))
theorem W3_v12 (c : Dev nD) : W3 m c main_v12 = (ins m).b c := (W3_of m c _ (by decide)).trans (W2_v12 m c)

/-- The arguments are as launched. -/
theorem W4_arg0 (c : Dev nD) : W4 m c main_arg0 = m ((c : Thread nD τ).loc main_arg0) := (W4_of m c _ (by decide) (by decide)).trans (W3_arg0 m c)
theorem W4_arg1 (c : Dev nD) : W4 m c main_arg1 = m ((c : Thread nD τ).loc main_arg1) := (W4_of m c _ (by decide) (by decide)).trans (W3_arg1 m c)
theorem W4_arg2 (c : Dev nD) : W4 m c main_arg2 = m ((c : Thread nD τ).loc main_arg2) := (W4_of m c _ (by decide) (by decide)).trans (W3_arg2 m c)

/-! ## The buffers of a call taken out of all -/

/-- Buffers as the valuations name them. -/
abbrev refs (l : List (Ref sig .tc)) : Finset (DevRef τ sig) := (l.map (Proc.devRef .tc)).toFinset

/-- The cast call's array in, its array out and its table. -/
abbrev r0 : List (Ref sig .tc) := [main_arg0, main_v12, main_v11]
/-- The fused call's six arrays. -/
abbrev r1 : List (Ref sig .tc) := [main_arg0, main_arg1, main_v12, main_v13, main_v14_0, main_v14_1]

theorem r0_sub : refs r0 ⊆ Pipeline.ucRefs τ sig := by decide
theorem r1_sub : refs r1 ⊆ Pipeline.ucRefs τ sig := by decide

theorem held_r0 (c : Dev nD) (W : Valuation τ sig (Elt F)) : (StableHlo.held (c : Thread nD τ) (refs r0) W : sProp 𝕄)
    = iprop(at_ c main_arg0 (W main_arg0) ∗ at_ c main_v12 (W main_v12) ∗ at_ c main_v11 (W main_v11)) := by
  unfold StableHlo.held
  rw [bigSep_eq_bigSepL_of_eq (r0.map (Proc.devRef .tc)) (by decide) (by decide)]
  rfl
theorem held_r1 (c : Dev nD) (W : Valuation τ sig (Elt F)) : (StableHlo.held (c : Thread nD τ) (refs r1) W : sProp 𝕄)
    = iprop(at_ c main_arg0 (W main_arg0) ∗ at_ c main_arg1 (W main_arg1) ∗ at_ c main_v12 (W main_v12) ∗ at_ c main_v13 (W main_v13)
      ∗ at_ c main_v14_0 (W main_v14_0) ∗ at_ c main_v14_1 (W main_v14_1)) := by
  unfold StableHlo.held
  rw [bigSep_eq_bigSepL_of_eq (r1.map (Proc.devRef .tc)) (by decide) (by decide)]
  rfl

theorem rest0 (c : Dev nD) : (StableHlo.held (c : Thread nD τ) (Pipeline.ucRefs τ sig \ refs r0) (W1 m c) : sProp 𝕄)
    = StableHlo.held (c : Thread nD τ) (Pipeline.ucRefs τ sig \ refs r0) (W2 m c) :=
  StableHlo.held_congr _ fun b hb => (Function.update_of_ne (fun h : b = Proc.devRef .tc main_v12 => (Finset.mem_sdiff.mp hb).2 (by rw [h]; decide)) _ _).symm
theorem rest1 (c : Dev nD) : (StableHlo.held (c : Thread nD τ) (Pipeline.ucRefs τ sig \ refs r1) (W3 m c) : sProp 𝕄)
    = StableHlo.held (c : Thread nD τ) (Pipeline.ucRefs τ sig \ refs r1) (W4 m c) :=
  StableHlo.held_congr _ fun b hb => ((Function.update_of_ne (fun h : b = Proc.devRef .tc main_v14_1 => (Finset.mem_sdiff.mp hb).2 (by rw [h]; decide)) _ _).trans
    (Function.update_of_ne (fun h : b = Proc.devRef .tc main_v14_0 => (Finset.mem_sdiff.mp hb).2 (by rw [h]; decide)) _ _)).symm

end Cert.KernelIdeal.Fused

end
-- ==== Proof.Cells.lean ====
module

public import proofs.«01_k».proof.Proof.Vals
public import proofs.«01_k».proof.Proof.Leave

@[expose] public section

noncomputable section

namespace Cert.KernelIdeal.Fused

open Idealize.ShloMosaic Idealize.ShloMosaic.TcCoe Idealize.SL Idealize.SL.Sem Idealize.SL.RA Idealize.SL.BI
open scoped Idealize.SL.BI
open Idealize.SL.BI.BIBase Idealize.SL.BI.Laws Idealize.SL.ProofMode
open Idealize.ShloMosaic.Rounds
open Cert.KernelIdeal Facts₀ Facts

variable {F : FTy → Type} [FloatOps F]

local notation "𝕄" => MT nD τ sig Unit (Elt F) ℕ UU ℕ

/-! ## Families over the kinds and the blocks -/

theorem sep_assoc_eq (A B C : sProp 𝕄) : iprop((A ∗ B) ∗ C) = iprop(A ∗ B ∗ C) := BI.equiv_iff.mp ⟨(BI.Laws.sep_assoc (PROP := sProp 𝕄)).1, (BI.Laws.sep_assoc (PROP := sProp 𝕄)).2⟩

theorem kinds_big (Φ : Fin 10 → sProp 𝕄) : bigSep Finset.univ Φ = kinds Φ := by
  rw [bigSep_univ_eq_bigSepL [0, 1, 2, 3, 4, 5, 6, 7, 8, 9] (by decide) (by decide)]
  unfold kinds
  rw [sep_assoc_eq, sep_assoc_eq, sep_assoc_eq, sep_assoc_eq]
  rfl
theorem all4_big (Φ : Fin 4 → sProp 𝕄) : bigSep Finset.univ Φ = all4 Φ :=
  bigSep_univ_eq_bigSepL [0, 1, 2, 3] (by decide) (by decide) Φ
/-- A family over all cells, kind by kind. -/
theorem cells_big (Φ : Fin 10 × Fin 4 → sProp 𝕄) : bigSep Finset.univ Φ = kinds fun k => all4 fun b => Φ (k, b) := by
  rw [BI.bigSep_univ_prod, kinds_big]
  unfold kinds
  simp only [all4_big]

/-! ## The fused call's own counters -/

/-- The counters of the remote copies, then those of the local copies. -/
def osem1 : (Fin 10 × Fin 4) ⊕ (Unit ⊕ Fin 5 × Fin 2) → SemLoc sig
  | .inl p => .dma (kS p.1 p.2)
  | .inr (.inl _) => .dma gS
  | .inr (.inr p) => .dma (lS p.1 p.2)

theorem lS_inj : ∀ k k' : Fin 5, ∀ s s' : Fin 2, lS k s = lS k' s' → (k, s) = (k', s') := by decide
theorem osem1_inj : Function.Injective osem1 := by
  have hk : ∀ p p' : Fin 10 × Fin 4, kS p.1 p.2 = kS p'.1 p'.2 → p = p' := fun ⟨k, b⟩ ⟨k', b'⟩ h => by
    dsimp only at h
    exact Prod.ext ((kOf_kS k b).symm.trans ((congrArg kOf h).trans (kOf_kS k' b'))) ((bOf_kS k b).symm.trans ((congrArg bOf h).trans (bOf_kS k' b')))
  have hb : ∀ (k : Fin 10) (b : Fin 4), (kS k b).val < 44 := fun k b => by
    have := k.isLt; have := b.isLt; show 4 + (4 * k.val + b.val) < 44; omega
  have hl : ∀ (k : Fin 5) (s : Fin 2), 44 < (lS k s).val := fun k s => by show 44 < 45 + _; omega
  rintro (p | ⟨⟩ | p) (p' | ⟨⟩ | p') h
  · exact congrArg _ (hk _ _ (SemLoc.dma.inj h))
  · exact absurd (congrArg Fin.val (SemLoc.dma.inj h)) (Nat.ne_of_lt (hb _ _))
  · exact absurd (congrArg Fin.val (SemLoc.dma.inj h)) (Nat.ne_of_lt ((hb _ _).trans (hl _ _)))
  · exact absurd (congrArg Fin.val (SemLoc.dma.inj h)) (Nat.ne_of_gt (hb _ _))
  · rfl
  · exact absurd (congrArg Fin.val (SemLoc.dma.inj h)) (Nat.ne_of_lt (hl _ _))
  · exact absurd (congrArg Fin.val (SemLoc.dma.inj h)) (Nat.ne_of_gt ((hb _ _).trans (hl _ _)))
  · exact absurd (congrArg Fin.val (SemLoc.dma.inj h)) (Nat.ne_of_gt (hl _ _))
  · exact congrArg _ (congrArg _ (lS_inj _ _ _ _ (SemLoc.dma.inj h)))
theorem osem1_scoped : ∀ k, (osem1 k).isScoped .tc = true := by
  rintro (⟨k, b⟩ | u | ⟨k, s⟩)
  · revert k b; decide
  · revert u; decide
  · revert k s; decide
theorem own1_facts : Pipeline.OwnSemFacts (pcfgs (F := F) 1).spec osem1 := ⟨osem1_scoped, osem1_inj, fun _ w => w.elim0⟩

/-- The own counters at zero: those of the remote copies cell by cell, those of the local copies. -/
theorem ownSems1_eq (c : Dev nD) : (Pipeline.ownSems0 osem1 c : sProp 𝕄)
    = iprop((bigSep Finset.univ fun p : Fin 10 × Fin 4 => semVal (cell c p.1 p.2) 0) ∗ loc0 c) := by
  unfold Pipeline.ownSems0
  rw [BI.bigSep_univ_sum, BI.bigSep_univ_sum]
  refine congrArg₂ _ rfl (congrArg₂ _ (BI.bigSep_univ_of_subsingleton ()) ?_)
  rw [BI.bigSep_univ_prod, bigSep_univ_eq_bigSepL [0, 1, 2, 3, 4] (by decide) (by decide)]
  simp only [BI.bigSep_fin_two]
  rfl

variable (I : In F) (c : Dev nD)

/-- What a device holds from the launch on for the fused call. -/
def talk0 : sProp 𝕄 :=
  iprop(∃ κ, recs I κ ∗ tok c ∗ crs c ∗ atPos ER (barCell c) 0 ∅ 0 ∗ bigSep Finset.univ fun p : Fin 10 × Fin 4 => openTok ER (cell c p.1 p.2))
/-- The same with its cells open. -/
def talk1 : sProp 𝕄 := iprop(∃ κ, ctx I κ c ∗ tok c ∗ crs c ∗ pos0 c)

/-- Every cell of the device opened. -/
theorem open_all : iprop(talk0 I c ∗ bigSep Finset.univ fun p : Fin 10 × Fin 4 => semVal (cell c p.1 p.2) 0)
    ⊢ (|={Set.univ}=> talk1 I c : sProp 𝕄) := by
  unfold talk0
  iintro ⟨⟨%κ, #Hr, Ht, Hc, Hb, Ho⟩, Hs⟩
  icombine Ho Hs as H
  have h : iprop(recs I κ ∗ (bigSep Finset.univ fun p : Fin 10 × Fin 4 => openTok ER (cell c p.1 p.2)) ∗ bigSep Finset.univ fun p : Fin 10 × Fin 4 => semVal (cell c p.1 p.2) 0)
      ⊢ (|={Set.univ}=> ((bigSep Finset.univ fun p : Fin 10 × Fin 4 => atPos ER (cell c p.1 p.2) 0 ∅ 0)
        ∗ bigSep Finset.univ fun p : Fin 10 × Fin 4 => reached ER (cell c p.1 p.2) 0) : sProp 𝕄) := by
    rw [← bigSep_sep', ← bigSep_sep']
    refine (BI.bigSep_with_persistent (Ψ := fun p : Fin 10 × Fin 4 => iprop(|={Set.univ}=> (atPos ER (cell c p.1 p.2) 0 ∅ 0 ∗ reached ER (cell c p.1 p.2) 0))) fun p _ => ?_).trans
      (BI.bigSep_fupd _ _)
    show iprop(recs I κ ∗ openTok ER (cell c p.1 p.2) ∗ semVal (cell c p.1 p.2) 0) ⊢ iprop(|={Set.univ}=> (atPos ER (cell c p.1 p.2) 0 ∅ 0 ∗ reached ER (cell c p.1 p.2) 0))
    iintro ⟨#Hr, Ho, Hs⟩
    iapply (Rounds.cell_open ER (Rd I) (g := cell c p.1 p.2) (Set.mem_univ (κ (cell c p.1 p.2))))
    isplitl []; · iapply (recs_cell I κ c p.1 p.2); iexact Hr
    isplitl [Ho]; · iexact Ho
    iexact Hs
  icombine Hr H as H
  imod h $$ H with ⟨Ha, Hw⟩
  imodintro
  unfold talk1 ctx pos0
  iexists κ
  isplitl [Hw]
  · isplitl []; · iexact Hr
    iexact Hw
  isplitl [Ht]; · iexact Ht
  isplitl [Hc]; · iexact Hc
  isplitl [Hb]; · iexact Hb
  iapply (of_eq (cells_big (fun p : Fin 10 × Fin 4 => (atPos ER (cell c p.1 p.2) 0 ∅ 0 : sProp 𝕄)))); iexact Ha

/-- Every cell of the device closed: its counters are at zero. -/
theorem close_all (κ : GSem nD τ sig → ℕ) : iprop(ctx I κ c ∗ pos1 c)
    ⊢ (|={Set.univ}=> (semVal (barCell c) 0 ∗ bigSep Finset.univ fun p : Fin 10 × Fin 4 => semVal (cell c p.1 p.2) 0) : sProp 𝕄) := by
  unfold pos1
  iintro ⟨#Hc, Hb, Ha⟩
  ihave #Hr := (ctx_recs I κ c) $$ Hc
  ihave Ha := (show kinds (fun k => all4 (at1 (F := F) c k)) ⊢ (bigSep Finset.univ fun p : Fin 10 × Fin 4 => (atPos ER (cell c p.1 p.2) (0 + 1) ∅ 0 : sProp 𝕄)) from
    of_eq (cells_big (fun p : Fin 10 × Fin 4 => (atPos ER (cell c p.1 p.2) (0 + 1) ∅ 0 : sProp 𝕄))).symm) $$ Ha
  have h : iprop(recs I κ ∗ bigSep Finset.univ fun p : Fin 10 × Fin 4 => atPos ER (cell c p.1 p.2) (0 + 1) ∅ 0)
      ⊢ (|={Set.univ}=> (bigSep Finset.univ fun p : Fin 10 × Fin 4 => semVal (cell c p.1 p.2) 0) : sProp 𝕄) := by
    refine (BI.bigSep_with_persistent (Ψ := fun p : Fin 10 × Fin 4 => iprop(|={Set.univ}=> semVal (cell c p.1 p.2) 0)) fun p _ => ?_).trans
      (BI.bigSep_fupd _ _)
    show iprop(recs I κ ∗ atPos ER (cell c p.1 p.2) (0 + 1) ∅ 0) ⊢ iprop(|={Set.univ}=> semVal (cell c p.1 p.2) 0)
    iintro ⟨#Hr, Ha⟩
    iapply (Rounds.cell_close ER (Rd I) (g := cell c p.1 p.2) (Set.mem_univ (κ (cell c p.1 p.2))) id (duties_later I (cell c p.1 p.2)))
    isplitl []; · iapply (recs_cell I κ c p.1 p.2); iexact Hr
    iexact Ha
  icombine Hr Ha as H
  imod h $$ H with Hs
  imod (Rounds.cell_close ER (Rd I) (g := barCell c) (Set.mem_univ (κ (barCell c))) id (duties_later I (barCell c))) $$ [Hb] with Hb
  · isplitl []; · iapply (recs_bar I κ c); iexact Hr
    iexact Hb
  imodintro
  isplitl [Hb]; · iexact Hb
  iexact Hs

end Cert.KernelIdeal.Fused

end
-- ==== Proof.Body1.lean ====
module

public import proofs.«01_k».proof.Proof.Cells
public import proofs.«01_k».proof.Proof.Call0

@[expose] public section

noncomputable section

namespace Cert.KernelIdeal.Fused

open Idealize.ShloMosaic Idealize.ShloMosaic.TcCoe Idealize.SL Idealize.SL.Sem Idealize.SL.RA Idealize.SL.BI
open scoped Idealize.SL.BI
open Idealize.SL.BI.BIBase Idealize.SL.BI.Laws Idealize.SL.ProofMode
open Idealize.ShloMosaic.Rounds
open Cert.KernelIdeal Facts₀ Facts

variable {F : FTy → Type} [FloatOps F]

local notation "𝕄" => MT nD τ sig Unit (Elt F) ℕ UU ℕ

open Idealize.ShloMosaic.Pipeline (Dat BodyObligation)

variable (I : In F) (c : Dev nD)

/-- What the fused call runs from and what it leaves, beside the scoped buffers and its own counters. -/
def X1 : sProp 𝕄 := iprop(arr0 I c ∗ talk1 I c ∗ loc0 c)
def Y1 : sProp 𝕄 := iprop(arr1 I c ∗ semVal (barCell c) 0)
/-- The scoped buffers the fused call does not use. -/
def stg : sProp 𝕄 := iprop(any (F := F) c cc0_stg0_0 ∗ any (F := F) c cc0_stg0_1 ∗ any (F := F) c cc0_stg1_0 ∗ any (F := F) c cc0_stg1_1)

theorem scoped1 : (Pipeline.scopedRest cfg1.spec c : sProp 𝕄) = iprop(stg (F := F) c ∗ scr (F := F) c) := by
  rw [Gen.scopedRest1_eq]
  unfold stg scr
  rw [sep_assoc_eq, sep_assoc_eq, sep_assoc_eq]

/-- The fused call's proof data: no window; the device owes all before its one point and nothing after. -/
def dat1 : Dat τ (Elt F) Unit ℕ UU ℕ cfg1 c where
  A w := w.elim0
  after w := w.elim0
  Φ t := if t.val = 0 then iprop(X1 I c ∗ stg (F := F) c ∗ scr (F := F) c)
    else iprop(Y1 I c ∗ ((bigSep Finset.univ fun p : Fin 10 × Fin 4 => semVal (cell c p.1 p.2) 0) ∗ loc0 c) ∗ stg (F := F) c ∗ scr (F := F) c)
  q w := w.elim0
  owed t := if t.val = 0 then Ow c 0 else 0

theorem owed1_first (t : Fin grid1.N) : (dat1 I c).owed t.castSucc = Ow c 0 := by
  obtain rfl := Gen.fin_N1 t
  show (if (Fin.castSucc Gen.t1_0).val = 0 then Ow c 0 else 0) = Ow c 0; exact if_pos rfl
theorem owed1_last (t : Fin grid1.N) : (dat1 I c).owed t.succ = 0 := by
  obtain rfl := Gen.fin_N1 t
  show (if (Fin.succ Gen.t1_0).val = 0 then Ow c 0 else 0) = 0; exact if_neg (by decide)

theorem bigSep_W {M : Type} [URA M] (Φ : Fin 0 → sProp M) : bigSep Finset.univ Φ = (BI.emp : sProp M) :=
  bigSep_univ_eq_bigSepL [] (by decide) (by decide) Φ

set_option maxRecDepth 200000 in
theorem body1 : BodyObligation (dat1 I c) defs₀ 𝒱₀ () Set.univ := fun t => by
  obtain rfl := Gen.fin_N1 t
  rw [bigSep_W, bigSep_W]
  show iprop(iprop(X1 I c ∗ stg (F := F) c ∗ scr (F := F) c) ∗ (dat1 I c).owesAt () (Fin.castSucc Gen.t1_0) ∗ iprop(emp))
    ⊢ runs c (Gen.bodyAt1 (F := F) Gen.t1_0) fun _ => iprop(iprop(Y1 I c ∗ ((bigSep Finset.univ fun p : Fin 10 × Fin 4 => semVal (cell c p.1 p.2) 0) ∗ loc0 c) ∗ stg (F := F) c ∗ scr (F := F) c)
        ∗ (dat1 I c).owesAt () (Fin.succ Gen.t1_0) ∗ iprop(emp))
  rw [bodyAt_eq]
  unfold runs
  rw [wp_deviceId]
  unfold X1 talk1
  iintro ⟨⟨⟨Ha, ⟨%κ, #Hc, Ht, Hcr, Hp⟩, Hl⟩, Hstg, Hscr⟩, HO, -⟩
  ihave HO := (owesAt_elim (dat1 I c) (Fin.castSucc Gen.t1_0) (Ow c 0) (owed1_first I c Gen.t1_0)) $$ HO
  iapply (fused_run I κ c) $$ [Ha Ht Hcr Hp Hl Hscr HO]
  · isplitl []; · iexact Hc
    isplitr [HO]
    · iapply (enter I κ c)
      isplitl []; · iexact Hc
      isplitl [Ha]; · iexact Ha
      isplitl [Hscr]; · iexact Hscr
      isplitl [Hl]; · iexact Hl
      isplitl [Ht]; · iexact Ht
      isplitl [Hcr]; · iexact Hcr
      iexact Hp
    iexact HO
  iintro ⟨Haf, HO⟩
  icases (leave I c) $$ Haf with ⟨Ha, Hscr, Hl, Hp⟩
  icombine Hc Hp as Hp
  unfold runs
  rw [wp_ret]
  imod (close_all I c κ) $$ Hp with ⟨Hb, Hs⟩
  imodintro
  unfold Y1
  isplitr [HO]
  · isplitl [Ha Hb]
    · isplitl [Ha]; · iexact Ha
      iexact Hb
    isplitl [Hs Hl]
    · isplitl [Hs]; · iexact Hs
      iexact Hl
    isplitl [Hstg]; · iexact Hstg
    iexact Hscr
  isplitl [HO]
  · iapply (owesAt_intro (dat1 I c) (Fin.succ Gen.t1_0) 0 (owed1_last I c Gen.t1_0) rfl); iexact HO
  iempintro

end Cert.KernelIdeal.Fused

end
-- ==== Proof.Records.lean ====
module

public import proofs.«01_k».proof.Proof.Body1
public import Idealize.ShloMosaic.Lib.Pipeline.RegionArraysT

@[expose] public section

noncomputable section

namespace Cert.KernelIdeal.Fused

open Idealize.ShloMosaic Idealize.ShloMosaic.TcCoe Idealize.SL Idealize.SL.Sem Idealize.SL.RA Idealize.SL.BI
open scoped Idealize.SL.BI
open Idealize.SL.BI.BIBase Idealize.SL.BI.Laws Idealize.SL.ProofMode
open Idealize.ShloMosaic.Rounds
open Cert.KernelIdeal Facts₀ Facts

variable {F : FTy → Type} [FloatOps F]

local notation "𝕄" => MT nD τ sig Unit (Elt F) ℕ UU ℕ

open Idealize.ShloMosaic.Pipeline (Dat BodyObligation)

variable (m : (ℓ : Loc nD τ sig) → Buf (Elt F) ℓ)

/-- The tables of the two calls, device by device. -/
abbrev adms (c : Dev nD) (p : Fin 2) : (pcfgs (F := F) p).Adm := adm c p

/-- What rides along with the cast call: its table and the scoped buffers it does not use. -/
def ride (c : Dev nD) : sProp 𝕄 := iprop(Pipeline.prefHeld pre0 c (fun _ => fullShare) (tbl (F := F) c) ∗ Pipeline.scopedRest spec0 c)

/-- The proof data of the two calls. -/
def pdats : (p : Fin 2) → (c : Dev nD) → Dat τ (Elt F) Unit ℕ UU ℕ (Pipeline.pinD (pcfgs (F := F)) adms c p) c
  | 0 => fun c => dat0 (adm c 0) c (W1 m c main_arg0) (W1 m c main_v12) (ride c)
  | 1 => fun c => dat1 (ins m) c
  | ⟨_ + 2, h⟩ => absurd h (Nat.not_lt.2 (Nat.le_add_left _ _))

theorem arrays0_eq (c : Dev nD) (G) : ((pdats m 0 c).arrays G : sProp 𝕄) = iprop(at_ c main_arg0 (G 0) ∗ at_ c main_v12 (G 1)) := by
  rw [Pipeline.PerCore.arrays_eq (Pipeline.pinD (pcfgs (F := F)) adms) (pdats m) 0 c Gen.arr_whole0 (fun w => by fin_cases w <;> rfl)]
  exact Gen.bigSep_W0 _
theorem arr0_end (c : Dev nD) (P) (B) (R : sProp 𝕄) : ∀ n, (dat0 (F := F) (adm c 0) c P B R).arrAt 0 n = P
  | 0 => rfl
  | n + 1 => by
    have ih := arr0_end c P B R n
    unfold Dat.arrAt
    by_cases h : n < grid0.N
    · exact (dif_pos h).trans ((if_neg (show ¬ (false = true) from Bool.false_ne_true)).trans ih)
    · exact (dif_neg h).trans ih
theorem arrays0_end (c : Dev nD) : ((pdats m 0 c).arrays ((pdats m 0 c).arrAt · (Pipeline.pinD (pcfgs (F := F)) adms c 0).N) : sProp 𝕄)
    = iprop(at_ c main_arg0 (W1 m c main_arg0) ∗ at_ c main_v12 (bv m c)) := by
  refine (arrays0_eq m c _).trans (congrArg₂ _ (congrArg (at_ c main_arg0) (arr0_end c _ _ _ grid0.N)) (congrArg (at_ c main_v12) ?_))
  refine (arr1_end c _ _ _).trans ?_
  rw [W1_arg0]; rfl
theorem arrays1_eq (c : Dev nD) (G) : ((pdats m 1 c).arrays G : sProp 𝕄) = BI.emp := bigSep_W _
theorem pref0_eq (c : Dev nD) : (Pipeline.prefHeld pre0 c (fun _ => fullShare) (tbl (F := F) c) : sProp 𝕄) = at_ c main_v11 (tbl (F := F) c 0) :=
  BI.bigSep_univ_of_subsingleton (0 : Fin 1)
theorem pref1_eq (c : Dev nD) (q) (G) : (Pipeline.prefHeld (pcfgs (F := F) 1).pre c q G : sProp 𝕄) = BI.emp := bigSep_W _

theorem lvl_rk : ∀ (j : Fin 5) (b : Fin 4), 0 < lvl (.dma (kS (rk j) b)) := by decide
theorem lvl_stg : ∀ (w : Fin 2) (s : Fin (spec0 w).nbuf), lvl (.dma ((spec0 w).sem s)) = 0 := by decide

theorem above0 (c : Dev nD) : Above 0 (Ow c 0) := above_due 0 _ (by
  intro p hp
  have h : p ∈ dues c := by simpa using hp
  clear hp
  revert h
  unfold dues
  simp only [List.mem_append, List.mem_cons, List.mem_map, List.mem_flatMap, List.not_mem_nil, or_false]
  rintro (((h | h) | h) | h)
  · rcases h with rfl | rfl | rfl <;> exact ⟨rfl, (by decide : 0 < lvl (.reg barS))⟩
  · obtain ⟨b, hb, rfl⟩ := h; exact ⟨rfl, lvl_rk _ b⟩
  · obtain ⟨b, hb, rfl | rfl⟩ := h <;> exact ⟨rfl, lvl_rk _ b⟩
  · obtain ⟨b, hb, rfl | rfl⟩ := h <;> exact ⟨rfl, lvl_rk _ b⟩)

/-- The thread state between the calls: the unscoped buffers, what the fused call needs, and what is owed. -/
def mid (W : Dev nD → Valuation τ sig (Elt F)) (c : Dev nD) : sProp 𝕄 :=
  iprop(StableHlo.held (c : Thread nD τ) (Pipeline.ucRefs τ sig) (W c) ∗ talk0 (ins m) c ∗ owesA c (Ow c 0))
/-- The thread state at the end. -/
def fin (c : Dev nD) : sProp 𝕄 :=
  iprop(StableHlo.held (c : Thread nD τ) (Pipeline.ucRefs τ sig) (W4 m c) ∗ semVal (barCell c) 0 ∗ owesA c 0)

theorem N1_last : (Fin.last (Pipeline.pinD (pcfgs (F := F)) adms (0 : Dev nD) 1).N) = Fin.succ Gen.t1_0 := by
  apply Fin.ext; show grid1.N = 1; exact Gen.N_1

theorem exit0 (c : Dev nD) : iprop((pdats m 0 c).arrays ((pdats m 0 c).arrAt · (Pipeline.pinD (pcfgs (F := F)) adms c 0).N)
      ∗ (pdats m 0 c).owesAt () (Fin.last (Pipeline.pinD (pcfgs (F := F)) adms c 0).N) ∗ Pipeline.prefHeld pre0 c (fun _ => fullShare) (tbl (F := F) c)
      ∗ talk0 (ins m) c ∗ StableHlo.held (c : Thread nD τ) (Pipeline.ucRefs τ sig \ refs r0) (W1 m c)) ⊢ (|={Set.univ}=> mid m (W2 m) c : sProp 𝕄) := by
  unfold mid
  rw [arrays0_end, StableHlo.held_sub_split (c : Thread nD τ) r0_sub (W2 m c), held_r0, W2_of m c main_arg0 (by decide), W2_of m c main_v11 (by decide),
    W2_v12, W1_v11, pref0_eq, rest0]
  iintro ⟨⟨Ha, Hv⟩, HO, Ht, Hk, Hr⟩
  imodintro
  isplitl [Ha Hv Ht Hr]
  · isplitl [Ha Hv Ht]
    · isplitl [Ha]; · iexact Ha
      isplitl [Hv]; · iexact Hv
      iexact Ht
    iexact Hr
  isplitl [Hk]; · iexact Hk
  iapply (owesAt_elim (pdats m 0 c) _ (Ow c 0) rfl); iexact HO

set_option backward.isDefEq.respectTransparency.types false in
/-- The cast call. -/
def reg0 : Pipeline.PerCore.RegionSeg (pcfgs (F := F)) adms (pdats m) () defs₀ 𝒱₀ L lv 0 where
  win := Gen.winFacts0.to₀
  block_pos := Gen.block_pos0
  stage_whole := Gen.stage_whole0
  K := PEmpty
  osem k := k.elim
  ho := Pipeline.OwnSemFacts.none _
  hbody c := (body0 (adm c 0) c _ _ _).loose
  hwaits c := Pipeline.PerCore.cellsWaits_intro (Pipeline.pinD (pcfgs (F := F)) adms) (pdats m) () 0 c fun w s t =>
    mayWait c _ (by
      have h : lvl (SemLoc.dma ((spec0 w).sem s)) = 0 := lvl_stg w s
      show Above (lvl (SemLoc.dma ((spec0 w).sem s))) (Ow c 0)
      rw [h]; exact above0 c)
  pre := mid m (W1 m)
  post := mid m (W2 m)
  X _ := iprop(emp)
  Y c := Pipeline.prefHeld pre0 c (fun _ => fullShare) (tbl (F := F) c)
  Z c := iprop(talk0 (ins m) c ∗ StableHlo.held (c : Thread nD τ) (Pipeline.ucRefs τ sig \ refs r0) (W1 m c))
  hentry c := by
    rw [Pipeline.ownSems0_none, arrays0_eq]
    show iprop(mid m (W1 m) c ∗ iprop(emp) ∗ levAts L lv) ⊢ iprop(|={Set.univ}=> ((at_ c main_arg0 (W1 m c main_arg0) ∗ at_ c main_v12 (W1 m c main_v12))
      ∗ Pipeline.prefHeld pre0 c (fun _ => fullShare) (tbl (F := F) c) ∗ (pdats m 0 c).owesAt () 0 ∗ iprop(emp)
      ∗ talk0 (ins m) c ∗ StableHlo.held (c : Thread nD τ) (Pipeline.ucRefs τ sig \ refs r0) (W1 m c)))
    unfold mid
    rw [StableHlo.held_sub_split (c : Thread nD τ) r0_sub, held_r0, W1_v11, pref0_eq]
    iintro ⟨⟨⟨⟨Ha, Hv, Ht⟩, Hr⟩, Hk, HO⟩, -, -⟩
    imodintro
    isplitl [Ha Hv]
    · isplitl [Ha]; · iexact Ha
      iexact Hv
    isplitl [Ht]; · iexact Ht
    isplitl [HO]; · iapply (owesAt_intro (pdats m 0 c) 0 (Ow c 0) rfl rfl); iexact HO
    isplitl []; · iempintro
    isplitl [Hk]; · iexact Hk
    iexact Hr
  hin c := by
    show iprop(iprop(emp) ∗ Pipeline.prefHeld pre0 c (fun _ => fullShare) (tbl (F := F) c) ∗ Pipeline.scopedRest spec0 c) ⊢ (ride c : sProp 𝕄)
    unfold ride
    iintro ⟨-, H1, H2⟩
    isplitl [H1]; · iexact H1
    iexact H2
  hout c := by
    rw [Pipeline.ownSems0_none]
    show (ride c : sProp 𝕄) ⊢ iprop(Pipeline.prefHeld pre0 c (fun _ => fullShare) (tbl (F := F) c) ∗ iprop(emp) ∗ Pipeline.scopedRest spec0 c)
    unfold ride
    iintro ⟨H1, H2⟩
    isplitl [H1]; · iexact H1
    isplitl []; · iempintro
    iexact H2
  hexit c := exit0 m c

set_option backward.isDefEq.respectTransparency.types false in
/-- The fused call. -/
def reg1 : Pipeline.PerCore.RegionSeg (pcfgs (F := F)) adms (pdats m) () defs₀ 𝒱₀ L lv 1 where
  win := Gen.winFacts1.to₀
  block_pos := Gen.block_pos1
  stage_whole := Gen.stage_whole1
  K := (Fin 10 × Fin 4) ⊕ (Unit ⊕ Fin 5 × Fin 2)
  osem := osem1
  ho := own1_facts
  hbody c := (body1 (ins m) c).loose
  hwaits c := Pipeline.PerCore.cellsWaits_intro (Pipeline.pinD (pcfgs (F := F)) adms) (pdats m) () 1 c fun w => w.elim0
  pre := mid m (W3 m)
  post := fin m
  X c := X1 (ins m) c
  Y c := Y1 (ins m) c
  Z c := StableHlo.held (c : Thread nD τ) (Pipeline.ucRefs τ sig \ refs r1) (W3 m c)
  hentry c := by
    rw [arrays1_eq, pref1_eq, ownSems1_eq]
    unfold mid X1 arr0
    rw [StableHlo.held_sub_split (c : Thread nD τ) r1_sub, held_r1, W3_arg0, W3_arg1, W3_v12]
    iintro ⟨⟨⟨⟨H0, H1, H2, H3, H4, H5⟩, Hr⟩, Hk, HO⟩, ⟨Hs, Hl⟩, -⟩
    icombine Hk Hs as Hk
    imod (open_all (ins m) c) $$ Hk with Hk
    imodintro
    isplitl []; · iempintro
    isplitl []; · iempintro
    isplitl [HO]; · iapply (owesAt_intro (pdats m 1 c) 0 (Ow c 0) (owed1_first (ins m) c Gen.t1_0) rfl); iexact HO
    isplitr [Hr]
    · isplitl [H0 H1 H2 H3 H4 H5]
      · isplitl [H0]; · iexact H0
        isplitl [H1]; · iexact H1
        isplitl [H2]; · iexact H2
        isplitl [H3]; · iexact H3
        isplitl [H4]; · iexists _; iexact H4
        iexists _; iexact H5
      isplitl [Hk]; · iexact Hk
      iexact Hl
    iexact Hr
  hin c := by
    show iprop(X1 (ins m) c ∗ Pipeline.prefHeld (pcfgs (F := F) 1).pre c (fun _ => fullShare) (adms c 1).1 ∗ Pipeline.scopedRest cfg1.spec c)
      ⊢ iprop(X1 (ins m) c ∗ stg (F := F) c ∗ scr (F := F) c)
    rw [scoped1]
    iintro ⟨H1, -, H2⟩
    isplitl [H1]; · iexact H1
    iexact H2
  hout c := by
    rw [ownSems1_eq]
    show iprop(Y1 (ins m) c ∗ ((bigSep Finset.univ fun p : Fin 10 × Fin 4 => semVal (cell c p.1 p.2) 0) ∗ loc0 c) ∗ stg (F := F) c ∗ scr (F := F) c)
      ⊢ iprop(Y1 (ins m) c ∗ ((bigSep Finset.univ fun p : Fin 10 × Fin 4 => semVal (cell c p.1 p.2) 0) ∗ loc0 c) ∗ Pipeline.scopedRest cfg1.spec c)
    rw [scoped1]
  hexit c := by
    rw [arrays1_eq]
    show iprop(iprop(emp) ∗ (pdats m 1 c).owesAt () (Fin.succ Gen.t1_0) ∗ Y1 (ins m) c ∗ StableHlo.held (c : Thread nD τ) (Pipeline.ucRefs τ sig \ refs r1) (W3 m c)) ⊢ iprop(|={Set.univ}=> fin m c)
    unfold fin Y1 arr1
    rw [StableHlo.held_sub_split (c : Thread nD τ) r1_sub (W4 m c), held_r1, W4_of m c main_arg0 (by decide) (by decide), W4_of m c main_arg1 (by decide) (by decide),
      W4_of m c main_v12 (by decide) (by decide), W4_of m c main_v13 (by decide) (by decide), W4_out, W4_gat, W3_arg0, W3_arg1, W3_v12, rest1]
    iintro ⟨-, HO, ⟨Ha, Hb⟩, Hr⟩
    imodintro
    isplitl [Ha Hr]
    · isplitl [Ha]; · iexact Ha
      iexact Hr
    isplitl [Hb]; · iexact Hb
    iapply (owesAt_elim (pdats m 1 c) _ 0 (owed1_last (ins m) c Gen.t1_0)); iexact HO

end Cert.KernelIdeal.Fused

end
-- ==== Proof.Deal.lean ====
module

public import proofs.«01_k».proof.Proof.Records

@[expose] public section

noncomputable section

namespace Cert.KernelIdeal.Fused

open Idealize.ShloMosaic Idealize.ShloMosaic.TcCoe Idealize.SL Idealize.SL.Sem Idealize.SL.RA Idealize.SL.BI
open scoped Idealize.SL.BI
open Idealize.SL.BI.BIBase Idealize.SL.BI.Laws Idealize.SL.ProofMode
open Idealize.ShloMosaic.Rounds
open Cert.KernelIdeal Facts₀ Facts

variable {F : FTy → Type} [FloatOps F]

local notation "𝕄" => MT nD τ sig Unit (Elt F) ℕ UU ℕ

open Idealize.ShloMosaic.Pipeline (Dat BodyObligation)

/-! ## The credit the launch gives -/

theorem cell_eq (a : Dev nD) (k : Fin 10) (b : Fin 4) (a' : Dev nD) (k' : Fin 10) (b' : Fin 4) :
    cell a k b = cell a' k' b' ↔ a = a' ∧ k = k' ∧ b = b' := by
  constructor
  · intro h
    have := scEmb.injective (a₁ := (a, k, b)) (a₂ := (a', k', b')) h
    simpa using this
  · rintro ⟨rfl, rfl, rfl⟩; rfl
theorem bar_eq (a a' : Dev nD) : barCell a = barCell a' ↔ a = a' := barEmb.injective.eq_iff (a := a) (b := a')
theorem bar_ne_cell (a a' : Dev nD) (k : Fin 10) (b : Fin 4) : barCell a ≠ cell a' k b := fun h => by
  have := congrArg Prod.snd h; cases this
theorem rk_eq (j j' : Fin 5) : rk j = rk j' ↔ j = j' := by revert j j'; decide

/-- What a list owes at a cell. -/
theorem due_at (l : List (GSem nD τ sig × ℕ)) (g : GSem nD τ sig) : due l g () = (l.map fun p => if p.1 = g then p.2 else 0).sum := by
  induction l with
  | nil => rfl
  | cons p l ih =>
    show (due l + tallyAt p.1 () p.2) g () = _
    rw [Pi.add_apply, Finsupp.add_apply, tallyAt_apply, ih, List.map_cons, List.sum_cons, Nat.add_comm]
    congr 1
    exact if_congr ⟨fun h => h.1.symm, fun h => ⟨h.symm, rfl⟩⟩ rfl rfl

/-- What a device owes at a cell: a unit on each neighbour's barrier, a block's bytes on each cell it copies to. -/
theorem owed_at (d : Dev nD) (g : GSem nD τ sig) : Ow d 0 g ()
    = (∑ e : Fin 3, if barCell (bn e d) = g then 1 else 0) + ∑ j : Fin 5, ∑ b : Fin 4, if cell (nb j d) (rk j) b = g then amt (rk j) else 0 := by
  unfold Ow
  rw [List.drop_zero, due_at]
  let X : Fin 5 → Fin 4 → ℕ := fun j b => if cell (nb j d) (rk j) b = g then amt (rk j) else 0
  let B : Fin 3 → ℕ := fun e => if barCell (bn e d) = g then 1 else 0
  show ([B 0, B 1, B 2, X 0 0, X 0 1, X 0 2, X 0 3, X 1 0, X 2 0, X 1 1, X 2 1, X 1 2, X 2 2, X 1 3, X 2 3,
    X 3 0, X 4 0, X 3 1, X 4 1, X 3 2, X 4 2, X 3 3, X 4 3] : List ℕ).sum = (∑ e : Fin 3, B e) + ∑ j : Fin 5, ∑ b : Fin 4, X j b
  generalize B = B'
  generalize X = X'
  simp only [List.sum_cons, List.sum_nil, Fin.sum_univ_three, Fin.sum_univ_five, Fin.sum_univ_four]
  omega

theorem owing_bar (c : Dev nD) : launchCredit (Pipeline.owing fun d => Ow d 0) 0 (barCell c) = Finsupp.single () 3 := by
  refine Finsupp.ext fun u => ?_
  cases u
  rw [Finsupp.single_eq_same]
  show launchCredit (Pipeline.owing fun d => Ow d 0) 0 ((c, Proc.tc), SemLoc.reg barS) () = 3
  rw [Pipeline.launchCredit_owing]
  rw [Finset.sum_congr rfl fun d _ => (owed_at d (barCell c)).trans (congrArg₂ _ (Finset.sum_congr rfl fun e _ =>
      if_congr (show barCell (bn e d) = barCell c ↔ d = bn e c from (bar_eq _ _).trans ⟨fun h => by rw [← h, bn_bn], fun h => by rw [h, bn_bn]⟩) rfl rfl)
    (Finset.sum_eq_zero fun j _ => Finset.sum_eq_zero fun b _ => if_neg fun h => bar_ne_cell _ _ _ _ h.symm))]
  simp only [Nat.add_zero]
  rw [Finset.sum_comm]
  simp

theorem owing_cell (c : Dev nD) (j : Fin 5) (b : Fin 4) :
    launchCredit (Pipeline.owing fun d => Ow d 0) 0 (cell c (rk j) b) = Finsupp.single () (amt (rk j)) := by
  refine Finsupp.ext fun u => ?_
  cases u
  rw [Finsupp.single_eq_same]
  show launchCredit (Pipeline.owing fun d => Ow d 0) 0 ((c, Proc.tc), SemLoc.dma (kS (rk j) b)) () = _
  rw [Pipeline.launchCredit_owing]
  rw [Finset.sum_congr rfl fun d _ => (owed_at d (cell c (rk j) b)).trans (congrArg₂ _ (Finset.sum_eq_zero fun e _ => if_neg (bar_ne_cell _ _ _ _))
    (Finset.sum_congr rfl fun j' _ => Finset.sum_congr rfl fun b' _ =>
      (show (if cell (nb j' d) (rk j') b' = cell c (rk j) b then amt (rk j') else 0) = if b' = b then (if j' = j then (if d = nb j' c then amt (rk j') else 0) else 0) else 0 from by
        rw [if_congr ((cell_eq _ _ _ _ _ _).trans (and_congr (show nb j' d = c ↔ d = nb j' c from ⟨fun h => by rw [← h, nb_nb], fun h => by rw [h, nb_nb]⟩) (and_congr (rk_eq j' j) Iff.rfl))) rfl rfl]
        by_cases h1 : b' = b <;> by_cases h2 : j' = j <;> by_cases h3 : d = nb j' c <;> simp [h1, h2, h3])))]
  simp

/-! ## The launch's credit as what a device waits for -/

/-- The cells a device waits on for what others send. -/
def recvLoc : Unit ⊕ Fin 5 × Fin 4 → SemLoc sig
  | .inl _ => .reg barS
  | .inr p => .dma (kS (rk p.1) p.2)
theorem recvLoc_inj : Function.Injective recvLoc := by
  intro a b h
  rcases a with a | a <;> rcases b with b | b
  · cases a; cases b; rfl
  · cases h
  · cases h
  · have h' : cell (0 : Dev nD) (rk a.1) a.2 = cell (0 : Dev nD) (rk b.1) b.2 := congrArg (Prod.mk (((0 : Dev nD) : Thread nD τ))) h
    obtain ⟨-, h1, h2⟩ := (cell_eq _ _ _ _ _ _).mp h'
    exact congrArg Sum.inr (Prod.ext ((rk_eq _ _).mp h1) h2)

theorem five_big (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ
theorem three_big (Φ : Fin 3 → sProp 𝕄) : bigSep Finset.univ Φ = iprop(Φ 0 ∗ Φ 1 ∗ Φ 2) :=
  bigSep_univ_eq_bigSepL [0, 1, 2] (by decide) (by decide) Φ

theorem creds (c : Dev nD) : (Pipeline.launchCred (fun d => Ow d 0) c : sProp 𝕄) ⊢ crs c := by
  unfold Pipeline.launchCred
  refine BI.Entails.trans (bigSep_subset (Finset.subset_univ (Finset.univ.map ⟨recvLoc, recvLoc_inj⟩))) ?_
  rw [bigSep_map, BI.bigSep_univ_sum, BI.bigSep_univ_prod, five_big]
  simp only [all4_big]
  rw [BI.bigSep_univ_of_subsingleton ()]
  have hb : (cred (tallyOn (barCell c) (launchCredit (Pipeline.owing fun d => Ow d 0) 0 (barCell c))) : sProp 𝕄) = cred (tallyAt (barCell c) () 3) := by
    rw [owing_bar]; rfl
  have hc (j : Fin 5) : (all4 fun b => (cred (tallyOn (cell c (rk j) b) (launchCredit (Pipeline.owing fun d => Ow d 0) 0 (cell c (rk j) b))) : sProp 𝕄)) = all4 (cr c (rk j)) :=
    congrArg all4 (funext fun b => by rw [owing_cell]; rfl)
  refine BI.Entails.trans (Laws.sep_mono (of_eq hb) (Laws.sep_mono (of_eq (hc 0)) (Laws.sep_mono (of_eq (hc 1)) (Laws.sep_mono (of_eq (hc 2))
    (Laws.sep_mono (of_eq (hc 3)) (of_eq (hc 4))))))) ?_
  unfold crs
  exact BI.Entails.refl _

/-! ## The launch's duties dealt out -/

/-- The duties: of each barrier cell three, of each other cell one. -/
def dutyOf : Dev nD × (Fin 3 ⊕ Fin 10 × Fin 4) → GSem nD τ sig × ℕ × Fin 3
  | (c, .inl d) => (barCell c, 0, d)
  | (c, .inr p) => (cell c p.1 p.2, 0, 0)
theorem dutyOf_inj : Function.Injective dutyOf := by
  rintro ⟨c, d | p⟩ ⟨c', d' | p'⟩ h
  · obtain ⟨h1, h2⟩ := Prod.mk.inj h
    rw [(bar_eq _ _).mp h1, (Prod.mk.inj h2).2]
  · exact (bar_ne_cell _ _ _ _ (Prod.mk.inj h).1).elim
  · exact (bar_ne_cell _ _ _ _ (Prod.mk.inj h).1.symm).elim
  · obtain ⟨h1, h2, h3⟩ := (cell_eq _ _ _ _ _ _).mp (Prod.mk.inj h).1
    rw [h1, Prod.ext h2 h3]
def toks : Finset (GSem nD τ sig × ℕ × Fin 3) := Finset.univ.map ⟨dutyOf, dutyOf_inj⟩

theorem big_kinds (D : Fin 3 → Dev nD → sProp 𝕄) (K : Fin 10 → Dev nD → sProp 𝕄) :
    (bigSep Finset.univ fun c : Dev nD => iprop((D 0 c ∗ D 1 c ∗ D 2 c) ∗ kinds fun k => K k c))
      = iprop(((bigSep Finset.univ (D 0)) ∗ (bigSep Finset.univ (D 1)) ∗ (bigSep Finset.univ (D 2))) ∗ kinds fun k => bigSep Finset.univ (K k)) := by
  simp only [bigSep_sep']
theorem big_fives (D : Fin 3 → Dev nD → sProp 𝕄) (K : Fin 5 → Dev nD → sProp 𝕄) :
    (bigSep Finset.univ fun c : Dev nD => iprop((D 0 c ∗ D 1 c ∗ D 2 c) ∗ K 0 c ∗ K 1 c ∗ K 2 c ∗ K 3 c ∗ K 4 c))
      = iprop(((bigSep Finset.univ (D 0)) ∗ (bigSep Finset.univ (D 1)) ∗ (bigSep Finset.univ (D 2)))
        ∗ bigSep Finset.univ (K 0) ∗ bigSep Finset.univ (K 1) ∗ bigSep Finset.univ (K 2) ∗ bigSep Finset.univ (K 3) ∗ bigSep Finset.univ (K 4)) := by
  simp only [bigSep_sep']
/-- Each device gets the duties at its neighbours' cells that its own units and copies pay. -/
theorem toks_dealt : (bigSep toks fun x => dutyTok ER x.1 x.2.1 x.2.2 : sProp 𝕄) = bigSep Finset.univ fun c : Dev nD => tok c := by
  unfold toks
  rw [bigSep_map, BI.bigSep_univ_prod]
  simp only [BI.bigSep_univ_sum, three_big, cells_big]
  show (bigSep Finset.univ fun c : Dev nD => (iprop((dutyTok ER (barCell c) 0 0 ∗ dutyTok ER (barCell c) 0 1 ∗ dutyTok ER (barCell c) 0 2)
    ∗ kinds fun k => all4 fun b => dutyTok ER (cell c k b) 0 0) : sProp 𝕄)) = _
  have hB (d : Fin 3) : (bigSep Finset.univ fun c : Dev nD => (dutyTok ER (barCell c) 0 d : sProp 𝕄)) = bigSep Finset.univ fun c : Dev nD => (dutyTok ER (barCell (bn d c)) 0 d : sProp 𝕄) :=
    (bigSep_univ_equiv (eb d) fun c : Dev nD => (dutyTok ER (barCell c) 0 d : sProp 𝕄))
  have hC (j : Fin 5) : (bigSep Finset.univ fun c : Dev nD => all4 fun b => (dutyTok ER (cell c (rk j) b) 0 0 : sProp 𝕄))
      = bigSep Finset.univ fun c : Dev nD => all4 fun b => (dutyTok ER (cell (nb j c) (rk j) b) 0 0 : sProp 𝕄) :=
    (bigSep_univ_equiv (en j) fun c : Dev nD => all4 fun b => (dutyTok ER (cell c (rk j) b) 0 0 : sProp 𝕄))
  have hK (j : Fin 5) : iprop((bigSep Finset.univ fun c : Dev nD => all4 fun b => (dutyTok ER (cell c (sk j) b) 0 0 : sProp 𝕄))
      ∗ (bigSep Finset.univ fun c : Dev nD => all4 fun b => (dutyTok ER (cell c (rk j) b) 0 0 : sProp 𝕄)))
      = bigSep Finset.univ fun c : Dev nD => all4 (kit c j) := by
    rw [hC j, ← bigSep_sep']
    exact congrArg (bigSep Finset.univ) (funext fun c => (all4_sep_eq _ _).symm)
  rw [big_kinds (fun d c => dutyTok ER (barCell c) 0 d) (fun k c => all4 fun b => dutyTok ER (cell c k b) 0 0)]
  rw [show (bigSep Finset.univ fun c : Dev nD => (tok c : sProp 𝕄)) = _ from big_fives (fun d c => dutyTok ER (barCell (bn d c)) 0 d) (fun j c => all4 (kit c j))]
  rw [hB 0, hB 1, hB 2, ← hK 0, ← hK 1, ← hK 2, ← hK 3, ← hK 4]
  rfl

end Cert.KernelIdeal.Fused

end
-- ==== Proof.Init.lean ====
module

public import proofs.«01_k».proof.Proof.Deal

@[expose] public section

noncomputable section

namespace Cert.KernelIdeal.Fused

open Idealize.ShloMosaic Idealize.ShloMosaic.TcCoe Idealize.SL Idealize.SL.Sem Idealize.SL.RA Idealize.SL.BI
open scoped Idealize.SL.BI
open Idealize.SL.BI.BIBase Idealize.SL.BI.Laws Idealize.SL.ProofMode
open Idealize.ShloMosaic.Rounds
open Cert.KernelIdeal Facts₀ Facts

variable {F : FTy → Type} [FloatOps F]

local notation "𝕄" => MT nD τ sig Unit (Elt F) ℕ UU ℕ

open Idealize.ShloMosaic.Pipeline (Dat BodyObligation)

variable (m : (ℓ : Loc nD τ sig) → Buf (Elt F) ℓ) (g : Dev nD → PrngReg)

/-! ## The launch -/

theorem cells_disjoint : Disjoint (barCells : Finset (GSem nD τ sig)) scCells := by
  rw [Finset.disjoint_left]
  intro x h h'
  obtain ⟨a, -, rfl⟩ := Finset.mem_map.mp h
  obtain ⟨p, -, e⟩ := Finset.mem_map.mp h'
  exact bar_ne_cell _ _ _ _ e.symm

theorem unscoped_bar : ∀ sm : SemLoc sig, sm.isScoped .tc = false → sm = .reg barS := by decide
theorem unscoped_zero (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

/-- The staging semaphores of the two calls are told apart. -/
theorem staged_inj : Function.Injective (Pipeline.PerCore.cellOf (nD := nD) (τ := τ) (Pipeline.pinD (pcfgs (F := F)) adms)) :=
  Pipeline.PerCore.cellOf_injective (Pipeline.pinD (pcfgs (F := F)) adms)
    (fun c p => Pipeline.specSemsDistinct_of_nodup _ (by
      fin_cases p
      · exact Gen.semsDistinct 0
      · exact Gen.semsDistinct 1))
    (fun c p p' h => Pipeline.specSemsDisjoint_of_disjoint _ _ (by
      intro x hx hx'
      fin_cases p <;> fin_cases p'
      · exact absurd rfl h
      · exact List.forall_iff_forall_mem.1 (Gen.semsDisjoint 0 1 (by decide)) x hx hx'
      · exact List.forall_iff_forall_mem.1 (Gen.semsDisjoint 1 0 (by decide)) x hx hx'
      · exact absurd rfl h))

/-- The protocol's element of the user algebra. -/
abbrev startU : UK := launchOf barCells scCells toks
def u₀ : UU := (initOf (Pipeline.PerCore.cells (Pipeline.pinD (pcfgs (F := F)) adms) staged_inj) (Pipeline.PerCore.launchToks (Pipeline.pinD (pcfgs (F := F)) adms) staged_inj),
  (Emb.inl : Emb UK (UK × Counters)) startU)

/-- A proposition kept with one device. -/
def parked (X : sProp 𝕄) (c : Dev nD) : sProp 𝕄 := if c = 0 then X else iprop(emp)
theorem parked_all (X : sProp 𝕄) : bigSep Finset.univ (parked (F := F) X) = X := by
  rw [bigSep_univ_at _ (0 : Dev nD), bigSep_congr (s := Finset.univ.erase (0 : Dev nD)) (Φ := parked X) (Ψ := fun _ => (BI.emp : sProp 𝕄))
    fun c hc => if_neg (Finset.ne_of_mem_erase hc), BI.bigSep_emp_const]
  unfold parked
  rw [if_pos rfl]
  exact BI.equiv_iff.mp ⟨(Laws.sep_emp (PROP := sProp 𝕄)).1, (Laws.sep_emp (PROP := sProp 𝕄)).2⟩
def G₀ : Dev nD → sProp 𝕄 := parked (BI.own (ER startU))

theorem u₀_splits : (ownU (u₀ (F := F)) : sProp 𝕄)
    ⊢ |={Set.univ}=> iprop(BI.own (EP (initOf (Pipeline.PerCore.cells (Pipeline.pinD (pcfgs (F := F)) adms) staged_inj) (Pipeline.PerCore.launchToks (Pipeline.pinD (pcfgs (F := F)) adms) staged_inj)))
      ∗ bigSep Finset.univ (G₀ (F := F))) := by
  unfold u₀ G₀
  rw [parked_all]
  iintro Hu
  ihave H := (ownU_pair _ _) $$ Hu
  icases H with ⟨HP, HX⟩
  imodintro
  isplitl [HP]; · iexact HP
  iexact HX

/-- What a device starts from. -/
def start (c : Dev nD) : sProp 𝕄 :=
  iprop(StableHlo.held (c : Thread nD τ) (Pipeline.ucRefs τ sig) (Gen.V0 m c) ∗ talk0 (ins m) c ∗ owesA c (Ow c 0))

/-- A device's own part of the protocol. -/
def linear (c : Dev nD) : sProp 𝕄 :=
  iprop(tok c ∗ atPos ER (barCell c) 0 ∅ 0 ∗ bigSep Finset.univ fun p : Fin 10 × Fin 4 => openTok ER (cell c p.1 p.2))
/-- What a device holds beside the protocol. -/
def bundle (c : Dev nD) : sProp 𝕄 :=
  iprop(StableHlo.held (c : Thread nD τ) (Pipeline.ucRefs τ sig) (Gen.V0 m c) ∗ crs c ∗ owesA c (Ow c 0))

theorem start_of (κ : GSem nD τ sig → ℕ) (c : Dev nD) : iprop(recs (ins m) κ ∗ (linear c ∗ bundle m c)) ⊢ start m c := by
  unfold bundle start linear talk0
  iintro ⟨#HR, ⟨Ht, Ha, Ho⟩, Hh, Hc, HO⟩
  isplitl [Hh]; · iexact Hh
  isplitr [HO]
  · iexists κ
    isplitr; · iexact HR
    isplitl [Ht]; · iexact Ht
    isplitl [Hc]; · iexact Hc
    isplitl [Ha]; · iexact Ha
    iexact Ho
  · iexact HO

/-- A device's launch holdings. -/
def given (c : Dev nD) : sProp 𝕄 :=
  iprop(unscopedBufs c (fun b => m ((c.tc : Thread nD τ).loc b)) ∗ unscopedSems0 c
          ∗ owes (c.tc : Thread nD τ) (Ow c 0) ∅ ∗ Pipeline.launchCred (fun d => Ow d 0) c ∗ prngReg c (g c) ∗ G₀ c)

theorem given_split (c : Dev nD) : given m g c ⊢ iprop(bundle m c ∗ semVal (barCell c) 0 ∗ G₀ c) := by
  unfold given bundle owesA
  rw [show unscopedBufs c (fun b => m ((c.tc : Thread nD τ).loc b)) = (StableHlo.held (c : Thread nD τ) (Pipeline.ucRefs τ sig) (Gen.V0 m c) : sProp 𝕄) from Pipeline.unscopedBufs_held c (Gen.V0 m c),
    unscoped_zero]
  iintro ⟨Hh, Hs, HO, Hcr, -, HG⟩
  ihave Hc := (creds (F := F) c) $$ Hcr
  isplitl [Hh Hc HO]
  · isplitl [Hh]; · iexact Hh
    isplitl [Hc]; · iexact Hc
    iexists ∅; iexact HO
  isplitl [Hs] <;> iassumption

theorem init : iprop((bigSep Finset.univ fun c : Dev nD => given m g c) ∗ levAts L lv) ⊢ (|={Set.univ}=> bigSep Finset.univ (start m) : sProp 𝕄) := by
  have hv : bigSep Finset.univ (fun c : Dev nD => (semVal (barCell c) 0 : sProp 𝕄)) ⊢ bigSep barCells (fun x => (semVal x 0 : sProp 𝕄)) :=
    of_eq (bigSep_map (s := Finset.univ) barEmb (Φ := fun x : GSem nD τ sig => (semVal x 0 : sProp 𝕄))).symm
  have hat : bigSep barCells (fun x => (atPos ER x 0 ∅ 0 : sProp 𝕄)) ⊢ bigSep Finset.univ (fun c : Dev nD => (atPos ER (barCell c) 0 ∅ 0 : sProp 𝕄)) :=
    of_eq (bigSep_map (s := Finset.univ) barEmb (Φ := fun x : GSem nD τ sig => (atPos ER x 0 ∅ 0 : sProp 𝕄)))
  have hopen : bigSep scCells (fun x => (openTok ER x : sProp 𝕄))
      ⊢ bigSep Finset.univ (fun c : Dev nD => bigSep Finset.univ fun p : Fin 10 × Fin 4 => openTok ER (cell c p.1 p.2)) :=
    of_eq (by unfold scCells; rw [bigSep_map, BI.bigSep_univ_prod]; rfl)
  have hsplit : (bigSep Finset.univ fun c : Dev nD => given m g c)
      ⊢ iprop((bigSep Finset.univ fun c : Dev nD => bundle m c) ∗ (bigSep Finset.univ fun c : Dev nD => (semVal (barCell c) 0 : sProp 𝕄)) ∗ bigSep Finset.univ (G₀ (F := F))) := by
    rw [← bigSep_sep', ← bigSep_sep']
    exact bigSep_mono fun c _ => given_split m g c
  iintro ⟨H, #Hl⟩
  ihave H := hsplit $$ H
  icases H with ⟨HB, Hv, HG⟩
  ihave Hu := (show bigSep Finset.univ (G₀ (F := F)) ⊢ BI.own (ER startU) from of_eq (parked_all _)) $$ HG
  imod (Rounds.fund_launch ER (Rd (ins m)) cells_disjoint (fun x _ h => h) toks) $$ [Hv Hu] with ⟨%κ, -, #Hinv, #Hr, Hat, Hopen, Htok⟩
  · isplitl [Hv]
    · iapply hv $$ Hv
    · iexact Hu
  imodintro
  iapply (BI.bigSep_with_persistent (R := recs (ins m) κ) (Φ := fun c => iprop(linear c ∗ bundle m c)) (Ψ := start m) fun c _ => start_of m κ c)
  isplitr
  · unfold recs
    isplitr; · iexact Hinv
    isplitr; · iexact Hr
    iexact Hl
  iapply (of_eq (bigSep_sep' (s := Finset.univ) (Φ := fun c : Dev nD => linear (F := F) c) (Ψ := fun c : Dev nD => bundle m c)).symm)
  isplitr [HB]
  · iapply (show iprop((bigSep Finset.univ fun c : Dev nD => (tok c : sProp 𝕄)) ∗ (bigSep Finset.univ fun c : Dev nD => (atPos ER (barCell c) 0 ∅ 0 : sProp 𝕄))
      ∗ bigSep Finset.univ (fun c : Dev nD => bigSep Finset.univ fun p : Fin 10 × Fin 4 => openTok ER (cell c p.1 p.2))) ⊢ bigSep Finset.univ fun c : Dev nD => (linear c : sProp 𝕄) from by
        unfold linear; rw [bigSep_sep', bigSep_sep'])
    isplitl [Htok]; · iapply (of_eq (toks_dealt (F := F))) $$ Htok
    isplitl [Hat]; · iapply hat $$ Hat
    iapply hopen $$ Hopen
  · iexact HB

end Cert.KernelIdeal.Fused

end
-- ==== Proof.Run.lean ====
module

public import proofs.«01_k».proof.Proof.Init

@[expose] public section

noncomputable section

namespace Cert.KernelIdeal.Fused

open Idealize.ShloMosaic Idealize.ShloMosaic.TcCoe Idealize.SL Idealize.SL.Sem Idealize.SL.RA Idealize.SL.BI
open scoped Idealize.SL.BI
open Idealize.SL.BI.BIBase Idealize.SL.BI.Laws Idealize.SL.ProofMode
open Idealize.ShloMosaic.Rounds
open Cert.KernelIdeal Facts₀ Facts

variable {F : FTy → Type} [FloatOps F]

local notation "𝕄" => MT nD τ sig Unit (Elt F) ℕ UU ℕ

open Idealize.ShloMosaic.Pipeline (Dat BodyObligation)

variable (m : (ℓ : Loc nD τ sig) → Buf (Elt F) ℓ) (g : Dev nD → PrngReg)

/-! ## The whole run -/

/-- The host's operations before the cast call, on device `c`. -/
def host0 (c : Dev nD) : Pipeline.HostSeg (Ix := Unit) (Name := ℕ) (U := UU) (Lvl := ℕ) (pcfgs (F := F)) defs₀ 𝒱₀ L lv :=
  Pipeline.HostSeg.ofOps _ _ _ _ _ (Pipeline.ucRefs τ sig) (Gen.hostOps0 c)
    (fun op h => Pipeline.sub_ucRefs op ((List.forall_iff_forall_mem.mp (Gen.hostOps0_sub c)) op h))
    (fun op h => (List.forall_iff_forall_mem.mp (Gen.hostOps0_fresh c)) op h) (Gen.V0 m) fun c => iprop(talk0 (ins m) c ∗ owesA c (Ow c 0))
/-- The host's operations between the calls. -/
def host1 : Pipeline.HostSeg (Ix := Unit) (Name := ℕ) (U := UU) (Lvl := ℕ) (pcfgs (F := F)) defs₀ 𝒱₀ L lv :=
  Pipeline.HostSeg.ofOps _ _ _ _ _ (Pipeline.ucRefs τ sig) Gen.hostOps1
    (fun op h => Pipeline.sub_ucRefs op ((List.forall_iff_forall_mem.mp Gen.hostOps1_sub) op h))
    (fun op h => (List.forall_iff_forall_mem.mp Gen.hostOps1_fresh) op h) (W2 m) fun c => iprop(talk0 (ins m) c ∗ owesA c (Ow c 0))

abbrev segs (c : Dev nD) : List (Pipeline.PerCore.Seg (pcfgs (F := F)) adms (pdats m) () defs₀ 𝒱₀ L lv) :=
  [.host (host0 m c), .region (reg0 m), .host (host1 m), .region (reg1 m)]

/-- A device's state at the end, but for its owing nothing. -/
def last (c : Dev nD) : sProp 𝕄 := iprop(StableHlo.held (c : Thread nD τ) (Pipeline.ucRefs τ sig) (W4 m c) ∗ semVal (barCell c) 0)

theorem last_of (c : Dev nD) : fin m c ⊢ iprop(last m c ∗ ∃ W, owes (c.tc : Thread nD τ) (0 : CellTallies nD τ sig Unit) W) := by
  unfold fin last owesA
  iintro ⟨H, Hb, HO⟩
  isplitr [HO]
  · isplitl [H] <;> iassumption
  · iexact HO

/-- What a device's final memory holds: its arguments as launched, the fused call's result, the barrier's counter at zero. -/
def Ends (c : Dev nD) (s : MemSt nD τ sig (Elt F)) : Prop :=
  (s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2))
  ∧ s.mem ((c.tc : Thread nD τ).loc main_v14_0) = OUT (ins m) c ∧ s.sem (barCell c) = 0

theorem ends_of (c : Dev nD) (s' : Phys nD τ sig (Elt F)) : iprop(last m c ∗ SI s') ⊢ (|={Set.univ}=> iprop(⌜Ends m c s'.mem⌝ ∗ SI s') : sProp 𝕄) := by
  unfold last StableHlo.held
  iintro ⟨⟨Hh, Hb⟩, HSI⟩
  icombine HSI Hb gives %hb
  ihave Hr := (pointsTo_read_all (Pipeline.ucRefs τ sig) (fun b => ((c : Thread nD τ).1, b)) (W4 m c) s') $$ [Hh HSI]
  · isplitl [Hh] <;> iassumption
  icases Hr with ⟨%h, HSI⟩
  imodintro
  isplitr
  · ipureintro
    exact ⟨⟨(h (Proc.devRef .tc main_arg0) (Finset.mem_filter.mpr ⟨StableHlo.devRef_mem_tcRefs main_arg0, by decide⟩)).trans (W4_arg0 m c),
        (h (Proc.devRef .tc main_arg1) (Finset.mem_filter.mpr ⟨StableHlo.devRef_mem_tcRefs main_arg1, by decide⟩)).trans (W4_arg1 m c),
        (h (Proc.devRef .tc main_arg2) (Finset.mem_filter.mpr ⟨StableHlo.devRef_mem_tcRefs main_arg2, by decide⟩)).trans (W4_arg2 m c)⟩,
      (h (Proc.devRef .tc main_v14_0) (Finset.mem_filter.mpr ⟨StableHlo.devRef_mem_tcRefs main_v14_0, by decide⟩)).trans (W4_out m c), by simpa using hb⟩
  · iexact HSI

set_option backward.isDefEq.respectTransparency.types false in
/-- From any memory and zero counters every weakly fair execution ends, with every counter zero, every device's arguments as
    they were and the result array of the fused call as `OUT` gives it. -/
theorem runs_all : θ_run (defs (F := F)) (onTc (τ := τ) (main (F := F))) ⟨m, fun _ => 0, g⟩
    (fun r => (∀ c : Dev nD, (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.mem ((c.tc : Thread nD τ).loc main_v14_0) = OUT (ins m) c) ∧ r.2.sem = fun _ => 0) := by
  refine Pipeline.PerCore.θ_run_regions_kit_sems (pcfgs (F := F)) adms (pdats m) () staged_inj EP defs₀ 𝒱₀ L lv m g main
    (segs m)
    (fun c Q => by
      rewrite [Gen.main_chain c, Pipeline.PerCore.Seg.run_eq_chain,
        show (segs m c).map Pipeline.PerCore.Seg.prog = [
          StableHlo.seq (Gen.hostOps0 c),
          Prog.lift (.customCall (Pipeline.entry 0) ()),
          StableHlo.seq Gen.hostOps1,
          Prog.lift (.customCall (Pipeline.entry 1) ()) ] from rfl]
      dsimp (config := { failIfUnchanged := false }) only
      exact .rfl)
    (fun c => by simp only [segs, Pipeline.PerCore.Seg.pipes_host, Pipeline.PerCore.Seg.pipes_region, Pipeline.PerCore.Seg.pipes_nil]; decide)
    (fun d => Ow d 0) L_of_ne G₀ u₀ u₀_splits
    (T₀ := start m) (Tₙ := last m)
    (hch := fun c => ⟨.rfl, .rfl, .rfl, .rfl, last_of m c⟩)
    (hinit := init m g) (QY := Ends m) (hfin := ends_of m)
    (hQ := fun s h hs => ⟨fun c => ⟨(h c).1, (h c).2.1⟩, sem_eq_zero hs fun c sm hsm => by
        obtain rfl := unscoped_bar sm hsm
        exact (h c).2.2⟩)

end Cert.KernelIdeal.Fused

end
-- ==== Proof.Math.lean ====
module

public import proofs.«01_k».proof.Proof.Gen.KernelIdeal.Skeleton
public import proofs.«01_k».proof.Proof.Gen.ReferenceIdeal.Run
public import Idealize.ShloMosaic.Lib.Pointwise

@[expose] public section

set_option maxRecDepth 16384

noncomputable section

namespace Cert.Norm

open Idealize.ShloMosaic Cert.KernelIdeal

/-! ## The formula -/

/-- The mean of a row's squares plus epsilon. -/
def var (y : Fin 4096 → EReal) : EReal :=
  Ideal.div (∑ k, y k * y k) (Ideal.ofBits .f32 0x45800000#32) + Ideal.ofBits .f32 0x358637BD#32
/-- A row's entry divided by the root of that, times the scale. -/
def normed (y : Fin 4096 → EReal) (g : EReal) (q : Fin 4096) : EReal := Ideal.div (y q) (Ideal.sqrt (var y)) * g

theorem count_pos : ∃ r : ℝ, 0 < r ∧ Ideal.ofBits .f32 0x45800000#32 = (r : EReal) :=
  ⟨4096, by norm_num, by simp [Ideal.ofBits, Ideal.ieee, -EReal.coe_mul]; norm_num⟩
theorem eps_pos : ∃ r : ℝ, 0 < r ∧ Ideal.ofBits .f32 0x358637BD#32 = (r : EReal) :=
  ⟨8796093 / 8796093022208, by norm_num, by simp [Ideal.ofBits, Ideal.ieee, -EReal.coe_mul]; norm_num⟩

theorem sq_nonneg (y : EReal) : 0 ≤ y * y := by
  rcases le_total 0 y with h | h
  · exact mul_nonneg h h
  · have := mul_nonneg (EReal.neg_nonneg.mpr h) (EReal.neg_nonneg.mpr h)
    rwa [neg_mul_neg] at this

theorem var_pos (y : Fin 4096 → EReal) : 0 < var y := by
  obtain ⟨c, hc, ec⟩ := count_pos
  obtain ⟨e, he, ee⟩ := eps_pos
  have hS : (0 : EReal) ≤ ∑ k, y k * y k := Finset.sum_nonneg fun k _ => sq_nonneg (y k)
  unfold var
  rw [ec, ee, Ideal.div_coe hc.ne']
  refine lt_of_lt_of_le (EReal.coe_pos.mpr he) (le_add_of_nonneg_left ?_)
  exact mul_nonneg hS (by exact_mod_cast (by positivity : (0 : ℝ) ≤ 1 / c))

/-- Multiplying by the inverse root is dividing by the root. -/
theorem mul_rsqrt (x v : EReal) (h : 0 < v) : x * Ideal.rsqrt v = Ideal.div x (Ideal.sqrt v) := by
  induction v with
  | bot => exact absurd h (by simp)
  | top =>
    show x * 0 = Ideal.div x ⊤
    simp [Ideal.div]
  | coe r =>
    have hr : 0 < r := EReal.coe_pos.mp h
    have hs : Real.sqrt r ≠ 0 := (Real.sqrt_pos.mpr hr).ne'
    show x * (if r < 0 then (⊥ : EReal) else if r = 0 then (⊤ : EReal) else (((Real.sqrt r)⁻¹ : ℝ) : EReal)) = Ideal.div x (if r < 0 then (⊥ : EReal) else (Real.sqrt r : EReal))
    rw [if_neg hr.not_gt, if_neg hr.ne', if_neg hr.not_gt, Ideal.div_coe hs, one_div]

/-! ## The two programs' terms at an index -/

/-- A tile's value at an index. -/
theorem tile_apply (a : Vec Ideal S1x128x4096 .f32) (b : Vec Ideal S1x128x4096 .bf16) (r : Vec Ideal S1x128x4096 .f32) (g : Vec Ideal S1x4096 .f32) (i : Fin 128) (q : Fin 4096) :
    Gen.k1_pay8 (F := Ideal) a b r g (ix2 i q) = normed (fun k => a (ix3 0 i k) + b (ix3 0 i k) + r (ix3 0 i k)) (g (ix2 0 q)) q := by
  unfold normed
  rw [← mul_rsqrt _ _ (var_pos _)]
  unfold var
  pointwise [Gen.k1_pay8]

end Cert.Norm

namespace Cert.ReferenceIdeal.Value

open Idealize.ShloMosaic Cert.ReferenceIdeal Cert.ReferenceIdeal.Gen Cert.Norm

/-- The reference's result. -/
abbrev refOut (p : FVec Ideal S2x4096x4096 .f32) (r : FVec Ideal S4096x4096 .f32) (g : FVec Ideal S4096 .f32) : FVec Ideal S4096x4096 .f32 :=
  mulf (Host.divf (addf (Host.reduceAdd p (constant S_ .f32 0x00000000#32) reducesTo_S2x4096x4096_S4096x4096_d0 h_S_) r)
      (broadcastInDim S4096x4096 ![0, 1] bcast_S4096x1_S4096x4096_0_1 (Host.sqrt (addf (Host.divf (broadcastInDim S4096x1 ![0] bcast_S4096_S4096x1_0
        (Host.reduceAdd (mulf (addf (Host.reduceAdd p (constant S_ .f32 0x00000000#32) reducesTo_S2x4096x4096_S4096x4096_d0 h_S_) r)
          (addf (Host.reduceAdd p (constant S_ .f32 0x00000000#32) reducesTo_S2x4096x4096_S4096x4096_d0 h_S_) r)) (constant S_ .f32 0x00000000#32) reducesTo_S4096x4096_S4096_d1 h_S_))
        (broadcastInDim S4096x1 ![] bcast_S_S4096x1 (constant S_ .f32 0x45800000#32))) (broadcastInDim S4096x1 ![] bcast_S_S4096x1 (constant S_ .f32 0x358637BD#32))))))
    (broadcastInDim S4096x4096 ![0, 1] bcast_S1x4096_S4096x4096_0_1 (broadcastInDim S1x4096 ![1] bcast_S4096_S1x4096_1 g))

/-- The reference's result at an index. -/
theorem ref_apply (p : FVec Ideal S2x4096x4096 .f32) (r : FVec Ideal S4096x4096 .f32) (g : FVec Ideal S4096 .f32)
    (i q : Fin 4096) : refOut p r g (ix2 i q) = normed (fun k => p (ix3 0 i k) + p (ix3 1 i k) + r (ix2 i k)) (g (ix1 q)) q := by
  unfold normed var
  pointwise [refOut]
  simp only [Fin.sum_univ_two]

end Cert.ReferenceIdeal.Value

end
-- ==== Proof.Meet.lean ====
module

public import proofs.«01_k».proof.Proof.Vals
public import proofs.«01_k».proof.Proof.Math

@[expose] public section

noncomputable section

namespace Cert.KernelIdeal.Fused

open Idealize.ShloMosaic Idealize.ShloMosaic.TcCoe Cert.KernelIdeal Facts₀ Facts Cert.Norm

/-! ## What a tile reads, entry by entry -/

theorem up_at {e : EltTy} (X : Vec Ideal S128x4096 e) (i : Fin 128) (k : Fin 4096) : up X (ix3 0 i k) = X (ix2 i k) := by
  pointwise [up]

/-- The row of an array that row `i` of tile `t` of device `c`'s chunk is. -/
def rowOf (c : Dev nD) (t : Fin 8) (i : Fin 128) : Fin 4096 :=
  ⟨c0 c + 128 * t.val + i.val, by have := c0_le c; have := t.isLt; have := i.isLt; omega⟩

variable (I : In Ideal)

theorem p_at (c : Dev nD) (t : Fin 8) (i : Fin 128) (k : Fin 4096) :
    (pT c t).m.view.read (Elt Ideal) (I.p c) (ix2 i k) = I.p c (ix3 0 (rowOf c t i) k) := by
  have key {o h} (ho : o = ![0, c0 c + 128 * t.val, 0]) : (pTile o h).m.view.read (Elt Ideal) (I.p c) (ix2 i k) = I.p c (ix3 0 (rowOf c t i) k) := by
    subst ho
    have e : Shape.reshapeEquiv squeezes_S1x128x4096_S128x4096.numel_eq (ix2 i k) = ix3 (⟨0, Nat.one_pos⟩ : Fin 1) i k :=
      ValueIdx.reshapeEquiv_ix2_1ab _ _ _
    refine (congrArg (fun z => I.p c ((Rect.unit (s := S1x4096x4096) _ S1x128x4096.size h).emb z)) e).trans ?_
    refine congrArg (I.p c) ?_
    funext a
    match a with
    | ⟨0, _⟩ => rfl
    | ⟨1, _⟩ => exact Fin.ext (show c0 c + 128 * t.val + 1 * i.val = c0 c + 128 * t.val + i.val by omega)
    | ⟨2, _⟩ => exact Fin.ext (show 0 + 1 * k.val = k.val by omega)
  exact key (off1 c t)

theorem r_at (c : Dev nD) (t : Fin 8) (i : Fin 128) (k : Fin 4096) :
    (rT c t).m.view.read (Elt Ideal) (I.r c) (ix2 i k) = I.r c (ix2 (rowOf c t i) k) := by
  have key {o h} (ho : o = ![c0 c + 128 * t.val, 0]) : (rTile o h).m.view.read (Elt Ideal) (I.r c) (ix2 i k) = I.r c (ix2 (rowOf c t i) k) := by
    subst ho
    refine congrArg (I.r c) ?_
    funext a
    match a with
    | ⟨0, _⟩ => exact Fin.ext (show c0 c + 128 * t.val + 1 * i.val = c0 c + 128 * t.val + i.val by omega)
    | ⟨1, _⟩ => exact Fin.ext (show 0 + 1 * k.val = k.val by omega)
  exact key (off2 c t)

theorem b_at (c : Dev nD) (t : Fin 8) (i : Fin 128) (k : Fin 4096) :
    (rcM.access (rcHalf (blkOf t) (halfOf t))).read (Elt Ideal) (RC I c) (ix3 0 i k)
      = I.b (ny c) (ix2 ⟨128 * t.val + i.val, by have := t.isLt; have := i.isLt; omega⟩ k) := by
  refine congrArg (I.b (ny c)) ?_
  funext a
  match a with
  | ⟨0, _⟩ => exact Fin.ext (show (256 * (t.val / 2 + 1 * 0) + (128 * (t.val % 2) + 1 * i.val)) % 1024 = 128 * t.val + i.val by
      have := t.isLt; have := i.isLt; omega)
  | ⟨1, _⟩ => exact Fin.ext (show 0 + 1 * k.val = k.val by omega)

/-- A tile's entry: the row's three terms, normalised and scaled. -/
theorem tileF_at (c : Dev nD) (t : Fin 8) (i : Fin 128) (q : Fin 4096) :
    tileF I c t (ix2 i q) = normed (fun k => I.p c (ix3 0 (rowOf c t i) k)
      + I.b (ny c) (ix2 ⟨128 * t.val + i.val, by have := t.isLt; have := i.isLt; omega⟩ k) + I.r c (ix2 (rowOf c t i) k)) (I.g c (ix2 0 q)) q := by
  refine (tile_apply _ _ _ _ i q).trans (congrArg (fun y => normed y _ q) (funext fun k => ?_))
  rw [up_at, up_at, p_at, r_at, b_at]

/-- The result's entry, the cast to bf16 and back being no rounding here. -/
theorem OUT_at (c : Dev nD) (n q : Fin 4096) : OUT I c (ix2 n q) = tileF I (owner c n) (tileAt n) (ix2 (rowAt n) q) := by
  show (if owner c n = c then tileF I c (tileAt n) (ix2 (rowAt n) q) else tileF I (owner c n) (tileAt n) (ix2 (rowAt n) q)) = _
  split
  · next h => rw [h]
  · rfl

theorem rowOf_owner (c : Dev nD) (n : Fin 4096) : rowOf (owner c n) (tileAt n) (rowAt n) = n := by
  apply Fin.ext
  have := n.isLt
  show 2048 * ((4 * (n.val / 2048) + 2 * (c.val / 2 % 2) + n.val / 1024 % 2) / 4) + 1024 * ((4 * (n.val / 2048) + 2 * (c.val / 2 % 2) + n.val / 1024 % 2) % 2)
    + 128 * (n.val / 128 % 8) + n.val % 128 = n.val
  omega

/-! ## The launch's inputs -/

variable (m : (ℓ : Loc nD τ sig) → Buf (Elt Ideal) ℓ)

theorem g_at (c : Dev nD) (q : Fin 4096) : (ins m).g c (ix2 0 q) = m ((c : Thread nD τ).loc main_arg2) (ix1 q) := by
  have e : (ins m).g c = shapeCast S1x4096 (W2 m c main_arg2) shapeCasts_S4096_S1x4096 := rfl
  rw [e, W2_of m c _ (by decide), W1_of m c _ (by decide)]
  pointwise

theorem c0_ny (c : Dev nD) : c0 (ny c) = c0 c := by revert c; decide

theorem insb_at (c : Dev nD) (t : Fin 8) (i : Fin 128) (k : Fin 4096) :
    (ins m).b (ny c) (ix2 ⟨128 * t.val + i.val, by have := t.isLt; have := i.isLt; omega⟩ k) = m ((ny c : Thread nD τ).loc main_arg0) (ix3 0 (rowOf c t i) k) := by
  refine congrArg (m ((ny c : Thread nD τ).loc main_arg0)) ?_
  funext a
  match a with
  | ⟨0, _⟩ => rfl
  | ⟨1, _⟩ => exact Fin.ext (show c0 (ny c) + (128 * t.val + i.val) = c0 c + 128 * t.val + i.val by rw [c0_ny]; omega)
  | ⟨2, _⟩ => rfl

/-- The block of the partial sums a device holds is the slice at its y coordinate. -/
theorem block_at (P : (⟨3, ![2, 4096, 4096]⟩ : Shape).Idx → EReal) (c : Dev nD) (n k : Fin 4096) :
    (Layout.blockN ⟨3, ![1, 4096, 4096]⟩ ⟨3, ![2, 4096, 4096]⟩ (Layout.meshBlock [2, 2, 2] ![[1], [], []] c) P) (ix3 0 n k)
      = P (ix3 ⟨c.val / 2 % 2, Nat.mod_lt _ (by decide)⟩ n k) := by
  refine congrArg P ?_
  funext a
  match a with
  | ⟨0, _⟩ => exact Fin.ext (show (c.val / 2 % 2 * 1 + 0) * 1 + 0 = c.val / 2 % 2 by omega)
  | ⟨1, _⟩ => exact Fin.ext (show 0 * 4096 + n.val = n.val by omega)
  | ⟨2, _⟩ => exact Fin.ext (show 0 * 4096 + k.val = k.val by omega)

/-- The slices of a device and of its y neighbour are the two slices. -/
theorem pair_sum (P : Fin 2 → EReal) (c : Dev nD) :
    P ⟨c.val / 2 % 2, Nat.mod_lt _ (by decide)⟩ + P ⟨(ny c).val / 2 % 2, Nat.mod_lt _ (by decide)⟩ = P 0 + P 1 := by
  have h : (∀ c : Dev nD, (c.val / 2 % 2 = 0 ∧ (ny c).val / 2 % 2 = 1) ∨ (c.val / 2 % 2 = 1 ∧ (ny c).val / 2 % 2 = 0)) := by decide
  rcases h c with ⟨h0, h1⟩ | ⟨h0, h1⟩
  · simp only [h0, h1]; rfl
  · simp only [h0, h1]; exact add_comm _ _

/-- Every device's result is the reference's, the arrays being laid out as the mesh has them. -/
theorem OUT_eq (P : FVec Ideal Cert.ReferenceIdeal.S2x4096x4096 .f32) (R : FVec Ideal Cert.ReferenceIdeal.S4096x4096 .f32)
    (γ : FVec Ideal Cert.ReferenceIdeal.S4096 .f32)
    (hP : ∀ c : Dev nD, m ((c : Thread nD τ).loc main_arg0)
      = Layout.blockN ⟨3, ![1, 4096, 4096]⟩ ⟨3, ![2, 4096, 4096]⟩ (Layout.meshBlock [2, 2, 2] ![[1], [], []] c) P)
    (hR : ∀ c : Dev nD, m ((c : Thread nD τ).loc main_arg1) = R) (hγ : ∀ c : Dev nD, m ((c : Thread nD τ).loc main_arg2) = γ)
    (c : Dev nD) : OUT (ins m) c = Cert.ReferenceIdeal.Value.refOut P R γ := by
  funext j
  obtain ⟨n, q, rfl⟩ : ∃ n q : Fin 4096, j = ix2 n q := ⟨j 0, j 1, ValueIdx.eq_ix2 j⟩
  rw [OUT_at, tileF_at, Cert.ReferenceIdeal.Value.ref_apply, g_at, hγ]
  refine congrArg (fun y => normed y _ q) (funext fun k => ?_)
  rw [insb_at, rowOf_owner]
  refine congrArg₂ (· + ·) ?_ (congrFun (hR _) _)
  refine Eq.trans ?_ (pair_sum (fun a => P (ix3 a n k)) (owner c n))
  exact congrArg₂ (· + ·) ((congrFun (hP _) _).trans (block_at P _ n k)) ((congrFun (hP _) _).trans (block_at P _ n k))

end Cert.KernelIdeal.Fused

end
-- ==== Proof.lean ====
/- The five claims: the kernel and its idealization run and end quiet with their arguments unchanged; so does the
   reference; and at the ideal instance every device's result is the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Run
public import proofs.«01_k».proof.Proof.Meet
public import proofs.«01_k».proof.Proof.Machine.Run
public import Idealize.ShloMosaic.Adequacy
public import Idealize.ShloMosaic.Init

@[expose] public section

noncomputable section

namespace Cert.Proof

open Idealize.ShloMosaic Idealize.SL.Sem

/-- The kernel runs at machine words, ends quiet, its arguments unchanged. -/
theorem frame_p : Cert.quiescent_Kernel := fun m g _ =>
  (θ_run Cert.Kernel.defs _ _).mono (fun _ h => ⟨fun c => (h.1 c).1, h.2⟩) (Cert.Kernel.Fused.runs_all (F := Bits) m g)

/-- So does its idealization. -/
theorem frame_pi : Cert.quiescent_KernelIdeal := fun m g _ =>
  (θ_run Cert.KernelIdeal.defs _ _).mono (fun _ h => ⟨fun c => (h.1 c).1, h.2⟩) (Cert.KernelIdeal.Fused.runs_all (F := Ideal) m g)

/-- So does the reference, which has no semaphore. -/
theorem frame_ri : Cert.quiescent_ReferenceIdeal := fun m g _ =>
  (θ_run Cert.ReferenceIdeal.defs _ _).mono (fun r h => ⟨fun c => ⟨(h c).2.1, (h c).2.2.1, (h c).2.2.2⟩, sem_eq_zero_of_no_sems (by decide) r.2⟩)
    (Cert.ReferenceIdeal.Value.run (F := Ideal) m g)

/-- At the ideal instance every device's result is the reference's. -/
theorem value : Cert.algebraic_KernelIdeal_ReferenceIdeal := by
  intro m g m' g' _ h
  refine ⟨Cert.ReferenceIdeal.Value.refOut (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2)), ?_, ?_⟩
  · refine (θ_run Cert.KernelIdeal.defs _ _).mono (fun r hr c => ⟨?_, (hr.1 c).1⟩) (Cert.KernelIdeal.Fused.runs_all (F := Ideal) m g)
    exact (hr.1 c).2.trans (Cert.KernelIdeal.Fused.OUT_eq m _ _ _ (fun d => (h d).1) (fun d => (h d).2.1) (fun d => (h d).2.2) c)
  · exact (θ_run Cert.ReferenceIdeal.defs _ _).mono (fun _ hr => hr 0) (Cert.ReferenceIdeal.Value.run (F := Ideal) m' g')

theorem claim : Cert.Claim := ⟨Cert.Kernel.Gen.facts, Cert.KernelIdeal.Gen.facts, Cert.ReferenceIdeal.Gen.facts,
  frame_p, frame_pi, frame_ri, trivial, value⟩

end Cert.Proof

end
